-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small_KernelIdeal [hPre_small_KernelIdeal : Cert.Pre_small_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_small_ReferenceIdeal [hPre_small_ReferenceIdeal : Cert.Pre_small_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_small_KernelIdeal [hKernelIdeal : Cert.KernelIdeal.Facts] [hPre_small_KernelIdeal : Cert.Pre_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_small_ReferenceIdeal [hReferenceIdeal : Cert.ReferenceIdeal.Facts] [hPre_small_ReferenceIdeal : Cert.Pre_small_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_small_KernelIdeal [hKernelIdeal : Cert.KernelIdeal.Facts] [hReferenceIdeal : Cert.ReferenceIdeal.Facts] [hPre_small_KernelIdeal : Cert.Pre_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_small_KernelIdeal : Cert.Pre_small_KernelIdeal.Facts) (hPre_small_ReferenceIdeal : Cert.Pre_small_ReferenceIdeal.Facts),
    quiescent_Kernel (hKernel := hKernel)
    ∧ quiescent_KernelIdeal (hKernelIdeal := hKernelIdeal)
    ∧ quiescent_KernelIdeal_pre_small_KernelIdeal (hKernelIdeal := hKernelIdeal) (hPre_small_KernelIdeal := hPre_small_KernelIdeal)
    ∧ quiescent_ReferenceIdeal (hReferenceIdeal := hReferenceIdeal)
    ∧ quiescent_ReferenceIdeal_pre_small_ReferenceIdeal (hReferenceIdeal := hReferenceIdeal) (hPre_small_ReferenceIdeal := hPre_small_ReferenceIdeal)
    ∧ preserves_Kernel_KernelIdeal
    ∧ algebraic_KernelIdeal_ReferenceIdeal_pre_small_KernelIdeal (hKernelIdeal := hKernelIdeal) (hReferenceIdeal := hReferenceIdeal) (hPre_small_KernelIdeal := hPre_small_KernelIdeal)
-- ==== Pre_small_KernelIdeal.lean ====
abbrev S4096x1024 : Shape := ⟨2, ![4096, 1024]⟩
abbrev S1024x8192 : Shape := ⟨2, ![1024, 8192]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  dot_S4096x1024_S1024x8192_S4096x8192_1_0_0_1_n_n_wf : DotDims.WF S4096x1024 S1024x8192 S4096x8192 [1] [0] [0] [1] [] []

variable [Facts]

def dot_S4096x1024_S1024x8192_S4096x8192_1_0_0_1_n_n : DotDims S4096x1024 S1024x8192 S4096x8192 where
  lhsContracting := [1]
  rhsContracting := [0]
  lhsNonContracting := [0]
  rhsNonContracting := [1]
  lhsBatch := []
  rhsBatch := []
  wf := dot_S4096x1024_S1024x8192_S4096x8192_1_0_0_1_n_n_wf
def fn {F : FTy → Type} [FloatOps F] (main_arg0 : FVec F S4096x1024 .f32) (main_arg1 : FVec F S1024x8192 .f32) : IVec S_ 1 :=
  let main_v0 : FVec F S4096x8192 .f32 := (fun l r => Host.dotGeneral dot_S4096x1024_S1024x8192_S4096x8192_1_0_0_1_n_n none l r) main_arg0 main_arg1
  let main_v1 : FVec F S4096x8192 .f32 := Host.absf main_v0
  let main_cst : FVec F S_ .f32 := constant S_ .f32 0x41700000#32
  let main_v2 : FVec F S4096x8192 .f32 := broadcastInDim S4096x8192 ![] bcast_S_S4096x8192 main_cst
  let main_v3 : IVec S4096x8192 1 := cmpf .ole main_v1 main_v2
  let main_c : IVec S_ 1 := constantI S_ 1 1#1
  let main_v4 : IVec S_ 1 := (fun x v => Host.reduce IntOp.andi x v reducesTo_S4096x8192_S_d0_1 h_S_) main_v3 main_c
  main_v4
-- ==== Pre_small_ReferenceIdeal.lean ====
abbrev S4096x4096 : Shape := ⟨2, ![4096, 4096]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) : IVec S_ 1 :=
  let main_v0 : FVec F S4096x8192 .f32 := (fun l r => Host.dotGeneral dot_S4096x4096_S4096x8192_S4096x8192_1_0_0_1_n_n none l r) main_arg0 main_arg1
  let main_v1 : FVec F S4096x8192 .f32 := Host.absf main_v0
  let main_cst : FVec F S_ .f32 := constant S_ .f32 0x41700000#32
  let main_v2 : FVec F S4096x8192 .f32 := broadcastInDim S4096x8192 ![] bcast_S_S4096x8192 main_cst
  let main_v3 : IVec S4096x8192 1 := cmpf .ole main_v1 main_v2
  let main_c : IVec S_ 1 := constantI S_ 1 1#1
  let main_v4 : IVec S_ 1 := (fun x v => Host.reduce IntOp.andi x v reducesTo_S4096x8192_S_d0_1 h_S_) main_v3 main_c
  main_v4
-- ==== Kernel.lean ====
abbrev S4096x1024 : Shape := ⟨2, ![4096, 1024]⟩
abbrev S1024x8192 : Shape := ⟨2, ![1024, 8192]⟩
abbrev S4096x8192 : Shape := ⟨2, ![4096, 8192]⟩
abbrev S2x32x8192 : Shape := ⟨3, ![2, 32, 8192]⟩
abbrev S32x8192 : Shape := ⟨2, ![32, 8192]⟩
abbrev S2 : Shape := ⟨1, ![2]⟩
abbrev S_ : Shape := ⟨0, ![]⟩
abbrev S1x32x8192 : Shape := ⟨3, ![1, 32, 8192]⟩
abbrev S1 : Shape := ⟨1, ![1]⟩

abbrev nBuf : Space → Nat
  | .hbm => 4
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S4096x8192, .f32⟩
  | .hbm, ⟨3, _⟩ => ⟨S4096x8192, .f32⟩
  | .local _ .vmem, ⟨0, _⟩ => ⟨S2x32x8192, .f32⟩
  | .local _ .vmem, ⟨1, _⟩ => ⟨S2x32x8192, .f32⟩
  | .local _ .vmem, ⟨2, _⟩ => ⟨S2x32x8192, .f32⟩
  | .local _ .vmem, ⟨3, _⟩ => ⟨S2x32x8192, .f32⟩
  | .local _ .vmem, ⟨4, _⟩ => ⟨S2x32x8192, .f32⟩
  | .local _ .vmem, ⟨5, _⟩ => ⟨S2x32x8192, .f32⟩
  | .local _ .vmem, ⟨6, _⟩ => ⟨S2x32x8192, .f32⟩
  | .local _ .vmem, ⟨7, _⟩ => ⟨S2x32x8192, .f32⟩
  | .local _ .vmem, ⟨8, _⟩ => ⟨S32x8192, .f32⟩
  | .local _ .vmem, ⟨9, _⟩ => ⟨S32x8192, .f32⟩
  | .local _ .vmem, ⟨10, _⟩ => ⟨S32x8192, .f32⟩
  | .local _ .vmem, ⟨11, _⟩ => ⟨S32x8192, .f32⟩
  | .local _ .vmem, ⟨12, _⟩ => ⟨S32x8192, .f32⟩
  | .local _ .vmem, ⟨13, _⟩ => ⟨S32x8192, .f32⟩
  | .local _ .vmem, ⟨14, _⟩ => ⟨S32x8192, .f32⟩
  | .local _ .vmem, ⟨15, _⟩ => ⟨S32x8192, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 9 48 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev barrier0 : Sem sig := 8

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c0_i32_19 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c32_i32 : BitVec 32 := 32#32
  let v30 : BitVec 32 := Scalar.muli v2 c32_i32
  let v31 : BitVec 32 := Scalar.addi c0_i32_19 v30
  let c0_i32_23 : BitVec 32 := 0#32
  ![v31.toNat, 0]
def k0_dev3 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_67 : BitVec 32 := 1#32
  let v73 : BitVec 32 := Scalar.muli v24 c1_i32_67
  let v74 : BitVec 32 := Scalar.addi c0_i32_68 v73
  v74.toNat
def k0_off2 (d0 : Dev nD) (c0_i32_82 : BitVec 32) (c0_i32_80 : BitVec 32) (c1_i32_73 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v83 : BitVec 32 := Scalar.subi v2 c1_i32_73
  let c4_i32_74 : BitVec 32 := 4#32
  let c0_i32_75 : BitVec 32 := 0#32
  let v84 : BitVec 1 := Scalar.cmpi .eq c4_i32_74 c0_i32_75
  let c1_i32_76 : BitVec 32 := 1#32
  let v85 : BitVec 32 := Scalar.select v84 c1_i32_76 c4_i32_74
  let v86 : BitVec 32 := Scalar.remsi v83 v85
  let c0_i32_78 : BitVec 32 := 0#32
  let v88 : BitVec 1 := Scalar.cmpi .slt v86 c0_i32_78
  let c0_i32_79 : BitVec 32 := 0#32
  let v89 : BitVec 1 := Scalar.cmpi .slt v85 c0_i32_79
  let v90 : BitVec 1 := Scalar.xori v88 v89
  let c0_i32_77 : BitVec 32 := 0#32
  let v87 : BitVec 1 := Scalar.cmpi .ne v86 c0_i32_77
  let v91 : BitVec 1 := Scalar.andi v90 v87
  let v92 : BitVec 32 := Scalar.addi v86 v85
  let v93 : BitVec 32 := Scalar.select v91 v92 v86
  let v94 : BitVec 32 := Scalar.addi c0_i32_80 v93
  let c32_i32_81 : BitVec 32 := 32#32
  let v95 : BitVec 32 := Scalar.muli v94 c32_i32_81
  let v96 : BitVec 32 := Scalar.addi c0_i32_82 v95
  let c0_i32_83 : BitVec 32 := 0#32
  ![v96.toNat, 0]
def k0_off2_at (r : Fin 192) : BitVec 32 × BitVec 32 × BitVec 32 :=
  if r.val < 96 then
    if r.val < 48 then
      if r.val < 24 then
        if r.val < 12 then
          if r.val < 6 then
            if r.val < 3 then
              if r.val < 1 then
                (0#32, 0#32, 1#32)
              else
                if r.val < 2 then
                  (512#32, 0#32, 1#32)
                else
                  (1024#32, 0#32, 1#32)
            else
              if r.val < 4 then
                (1536#32, 0#32, 1#32)
              else
                if r.val < 5 then
                  (2048#32, 0#32, 4294967295#32)
                else
                  (2560#32, 0#32, 4294967295#32)
          else
            if r.val < 9 then
              if r.val < 7 then
                (3072#32, 0#32, 4294967295#32)
              else
                if r.val < 8 then
                  (3584#32, 0#32, 4294967295#32)
                else
                  (0#32, 0#32, 2#32)
            else
              if r.val < 10 then
                (2048#32, 0#32, 4294967294#32)
              else
                if r.val < 11 then
                  (512#32, 0#32, 2#32)
                else
                  (2560#32, 0#32, 4294967294#32)
        else
          if r.val < 18 then
            if r.val < 15 then
              if r.val < 13 then
                (1024#32, 0#32, 2#32)
              else
                if r.val < 14 then
                  (3072#32, 0#32, 4294967294#32)
                else
                  (1536#32, 0#32, 2#32)
            else
              if r.val < 16 then
                (3584#32, 0#32, 4294967294#32)
              else
                if r.val < 17 then
                  (0#32, 0#32, 3#32)
                else
                  (2048#32, 0#32, 4294967293#32)
          else
            if r.val < 21 then
              if r.val < 19 then
                (512#32, 0#32, 3#32)
              else
                if r.val < 20 then
                  (2560#32, 0#32, 4294967293#32)
                else
                  (1024#32, 0#32, 3#32)
            else
              if r.val < 22 then
                (3072#32, 0#32, 4294967293#32)
              else
                if r.val < 23 then
                  (1536#32, 0#32, 3#32)
                else
                  (3584#32, 0#32, 4294967293#32)
      else
        if r.val < 36 then
          if r.val < 30 then
            if r.val < 27 then
              if r.val < 25 then
                (0#32, 0#32, 4#32)
              else
                if r.val < 26 then
                  (2048#32, 0#32, 4294967292#32)
                else
                  (512#32, 0#32, 4#32)
            else
              if r.val < 28 then
                (2560#32, 0#32, 4294967292#32)
              else
                if r.val < 29 then
                  (1024#32, 0#32, 4#32)
                else
                  (3072#32, 0#32, 4294967292#32)
          else
            if r.val < 33 then
              if r.val < 31 then
                (1536#32, 0#32, 4#32)
              else
                if r.val < 32 then
                  (3584#32, 0#32, 4294967292#32)
                else
                  (0#32, 0#32, 5#32)
            else
              if r.val < 34 then
                (2048#32, 0#32, 4294967291#32)
              else
                if r.val < 35 then
                  (512#32, 0#32, 5#32)
                else
                  (2560#32, 0#32, 4294967291#32)
        else
          if r.val < 42 then
            if r.val < 39 then
              if r.val < 37 then
                (1024#32, 0#32, 5#32)
              else
                if r.val < 38 then
                  (3072#32, 0#32, 4294967291#32)
                else
                  (1536#32, 0#32, 5#32)
            else
              if r.val < 40 then
                (3584#32, 0#32, 4294967291#32)
              else
                if r.val < 41 then
                  (0#32, 0#32, 6#32)
                else
                  (0#32, 4#32, 1#32)
          else
            if r.val < 45 then
              if r.val < 43 then
                (2048#32, 0#32, 4294967290#32)
              else
                if r.val < 44 then
                  (2048#32, 4#32, 4294967295#32)
                else
                  (512#32, 0#32, 6#32)
            else
              if r.val < 46 then
                (512#32, 4#32, 1#32)
              else
                if r.val < 47 then
                  (2560#32, 0#32, 4294967290#32)
                else
                  (2560#32, 4#32, 4294967295#32)
    else
      if r.val < 72 then
        if r.val < 60 then
          if r.val < 54 then
            if r.val < 51 then
              if r.val < 49 then
                (1024#32, 0#32, 6#32)
              else
                if r.val < 50 then
                  (1024#32, 4#32, 1#32)
                else
                  (3072#32, 0#32, 4294967290#32)
            else
              if r.val < 52 then
                (3072#32, 4#32, 4294967295#32)
              else
                if r.val < 53 then
                  (1536#32, 0#32, 6#32)
                else
                  (1536#32, 4#32, 1#32)
          else
            if r.val < 57 then
              if r.val < 55 then
                (3584#32, 0#32, 4294967290#32)
              else
                if r.val < 56 then
                  (3584#32, 4#32, 4294967295#32)
                else
                  (0#32, 4#32, 2#32)
            else
              if r.val < 58 then
                (2048#32, 4#32, 4294967294#32)
              else
                if r.val < 59 then
                  (512#32, 4#32, 2#32)
                else
                  (2560#32, 4#32, 4294967294#32)
        else
          if r.val < 66 then
            if r.val < 63 then
              if r.val < 61 then
                (1024#32, 4#32, 2#32)
              else
                if r.val < 62 then
                  (3072#32, 4#32, 4294967294#32)
                else
                  (1536#32, 4#32, 2#32)
            else
              if r.val < 64 then
                (3584#32, 4#32, 4294967294#32)
              else
                if r.val < 65 then
                  (0#32, 4#32, 3#32)
                else
                  (2048#32, 4#32, 4294967293#32)
          else
            if r.val < 69 then
              if r.val < 67 then
                (512#32, 4#32, 3#32)
              else
                if r.val < 68 then
                  (2560#32, 4#32, 4294967293#32)
                else
                  (1024#32, 4#32, 3#32)
            else
              if r.val < 70 then
                (3072#32, 4#32, 4294967293#32)
              else
                if r.val < 71 then
                  (1536#32, 4#32, 3#32)
                else
                  (3584#32, 4#32, 4294967293#32)
      else
        if r.val < 84 then
          if r.val < 78 then
            if r.val < 75 then
              if r.val < 73 then
                (0#32, 4#32, 4#32)
              else
                if r.val < 74 then
                  (2048#32, 4#32, 4294967292#32)
                else
                  (512#32, 4#32, 4#32)
            else
              if r.val < 76 then
                (2560#32, 4#32, 4294967292#32)
              else
                if r.val < 77 then
                  (1024#32, 4#32, 4#32)
                else
                  (3072#32, 4#32, 4294967292#32)
          else
            if r.val < 81 then
              if r.val < 79 then
                (1536#32, 4#32, 4#32)
              else
                if r.val < 80 then
                  (3584#32, 4#32, 4294967292#32)
                else
                  (0#32, 4#32, 5#32)
            else
              if r.val < 82 then
                (2048#32, 4#32, 4294967291#32)
              else
                if r.val < 83 then
                  (512#32, 4#32, 5#32)
                else
                  (2560#32, 4#32, 4294967291#32)
        else
          if r.val < 90 then
            if r.val < 87 then
              if r.val < 85 then
                (1024#32, 4#32, 5#32)
              else
                if r.val < 86 then
                  (3072#32, 4#32, 4294967291#32)
                else
                  (1536#32, 4#32, 5#32)
            else
              if r.val < 88 then
                (3584#32, 4#32, 4294967291#32)
              else
                if r.val < 89 then
                  (0#32, 4#32, 6#32)
                else
                  (0#32, 8#32, 1#32)
          else
            if r.val < 93 then
              if r.val < 91 then
                (2048#32, 4#32, 4294967290#32)
              else
                if r.val < 92 then
                  (2048#32, 8#32, 4294967295#32)
                else
                  (512#32, 4#32, 6#32)
            else
              if r.val < 94 then
                (512#32, 8#32, 1#32)
              else
                if r.val < 95 then
                  (2560#32, 4#32, 4294967290#32)
                else
                  (2560#32, 8#32, 4294967295#32)
  else
    if r.val < 144 then
      if r.val < 120 then
        if r.val < 108 then
          if r.val < 102 then
            if r.val < 99 then
              if r.val < 97 then
                (1024#32, 4#32, 6#32)
              else
                if r.val < 98 then
                  (1024#32, 8#32, 1#32)
                else
                  (3072#32, 4#32, 4294967290#32)
            else
              if r.val < 100 then
                (3072#32, 8#32, 4294967295#32)
              else
                if r.val < 101 then
                  (1536#32, 4#32, 6#32)
                else
                  (1536#32, 8#32, 1#32)
          else
            if r.val < 105 then
              if r.val < 103 then
                (3584#32, 4#32, 4294967290#32)
              else
                if r.val < 104 then
                  (3584#32, 8#32, 4294967295#32)
                else
                  (0#32, 8#32, 2#32)
            else
              if r.val < 106 then
                (2048#32, 8#32, 4294967294#32)
              else
                if r.val < 107 then
                  (512#32, 8#32, 2#32)
                else
                  (2560#32, 8#32, 4294967294#32)
        else
          if r.val < 114 then
            if r.val < 111 then
              if r.val < 109 then
                (1024#32, 8#32, 2#32)
              else
                if r.val < 110 then
                  (3072#32, 8#32, 4294967294#32)
                else
                  (1536#32, 8#32, 2#32)
            else
              if r.val < 112 then
                (3584#32, 8#32, 4294967294#32)
              else
                if r.val < 113 then
                  (0#32, 8#32, 3#32)
                else
                  (2048#32, 8#32, 4294967293#32)
          else
            if r.val < 117 then
              if r.val < 115 then
                (512#32, 8#32, 3#32)
              else
                if r.val < 116 then
                  (2560#32, 8#32, 4294967293#32)
                else
                  (1024#32, 8#32, 3#32)
            else
              if r.val < 118 then
                (3072#32, 8#32, 4294967293#32)
              else
                if r.val < 119 then
                  (1536#32, 8#32, 3#32)
                else
                  (3584#32, 8#32, 4294967293#32)
      else
        if r.val < 132 then
          if r.val < 126 then
            if r.val < 123 then
              if r.val < 121 then
                (0#32, 8#32, 4#32)
              else
                if r.val < 122 then
                  (2048#32, 8#32, 4294967292#32)
                else
                  (512#32, 8#32, 4#32)
            else
              if r.val < 124 then
                (2560#32, 8#32, 4294967292#32)
              else
                if r.val < 125 then
                  (1024#32, 8#32, 4#32)
                else
                  (3072#32, 8#32, 4294967292#32)
          else
            if r.val < 129 then
              if r.val < 127 then
                (1536#32, 8#32, 4#32)
              else
                if r.val < 128 then
                  (3584#32, 8#32, 4294967292#32)
                else
                  (0#32, 8#32, 5#32)
            else
              if r.val < 130 then
                (2048#32, 8#32, 4294967291#32)
              else
                if r.val < 131 then
                  (512#32, 8#32, 5#32)
                else
                  (2560#32, 8#32, 4294967291#32)
        else
          if r.val < 138 then
            if r.val < 135 then
              if r.val < 133 then
                (1024#32, 8#32, 5#32)
              else
                if r.val < 134 then
                  (3072#32, 8#32, 4294967291#32)
                else
                  (1536#32, 8#32, 5#32)
            else
              if r.val < 136 then
                (3584#32, 8#32, 4294967291#32)
              else
                if r.val < 137 then
                  (0#32, 8#32, 6#32)
                else
                  (0#32, 12#32, 1#32)
          else
            if r.val < 141 then
              if r.val < 139 then
                (2048#32, 8#32, 4294967290#32)
              else
                if r.val < 140 then
                  (2048#32, 12#32, 4294967295#32)
                else
                  (512#32, 8#32, 6#32)
            else
              if r.val < 142 then
                (512#32, 12#32, 1#32)
              else
                if r.val < 143 then
                  (2560#32, 8#32, 4294967290#32)
                else
                  (2560#32, 12#32, 4294967295#32)
    else
      if r.val < 168 then
        if r.val < 156 then
          if r.val < 150 then
            if r.val < 147 then
              if r.val < 145 then
                (1024#32, 8#32, 6#32)
              else
                if r.val < 146 then
                  (1024#32, 12#32, 1#32)
                else
                  (3072#32, 8#32, 4294967290#32)
            else
              if r.val < 148 then
                (3072#32, 12#32, 4294967295#32)
              else
                if r.val < 149 then
                  (1536#32, 8#32, 6#32)
                else
                  (1536#32, 12#32, 1#32)
          else
            if r.val < 153 then
              if r.val < 151 then
                (3584#32, 8#32, 4294967290#32)
              else
                if r.val < 152 then
                  (3584#32, 12#32, 4294967295#32)
                else
                  (0#32, 12#32, 2#32)
            else
              if r.val < 154 then
                (2048#32, 12#32, 4294967294#32)
              else
                if r.val < 155 then
                  (512#32, 12#32, 2#32)
                else
                  (2560#32, 12#32, 4294967294#32)
        else
          if r.val < 162 then
            if r.val < 159 then
              if r.val < 157 then
                (1024#32, 12#32, 2#32)
              else
                if r.val < 158 then
                  (3072#32, 12#32, 4294967294#32)
                else
                  (1536#32, 12#32, 2#32)
            else
              if r.val < 160 then
                (3584#32, 12#32, 4294967294#32)
              else
                if r.val < 161 then
                  (0#32, 12#32, 3#32)
                else
                  (2048#32, 12#32, 4294967293#32)
          else
            if r.val < 165 then
              if r.val < 163 then
                (512#32, 12#32, 3#32)
              else
                if r.val < 164 then
                  (2560#32, 12#32, 4294967293#32)
                else
                  (1024#32, 12#32, 3#32)
            else
              if r.val < 166 then
                (3072#32, 12#32, 4294967293#32)
              else
                if r.val < 167 then
                  (1536#32, 12#32, 3#32)
                else
                  (3584#32, 12#32, 4294967293#32)
      else
        if r.val < 180 then
          if r.val < 174 then
            if r.val < 171 then
              if r.val < 169 then
                (0#32, 12#32, 4#32)
              else
                if r.val < 170 then
                  (2048#32, 12#32, 4294967292#32)
                else
                  (512#32, 12#32, 4#32)
            else
              if r.val < 172 then
                (2560#32, 12#32, 4294967292#32)
              else
                if r.val < 173 then
                  (1024#32, 12#32, 4#32)
                else
                  (3072#32, 12#32, 4294967292#32)
          else
            if r.val < 177 then
              if r.val < 175 then
                (1536#32, 12#32, 4#32)
              else
                if r.val < 176 then
                  (3584#32, 12#32, 4294967292#32)
                else
                  (0#32, 12#32, 5#32)
            else
              if r.val < 178 then
                (2048#32, 12#32, 4294967291#32)
              else
                if r.val < 179 then
                  (512#32, 12#32, 5#32)
                else
                  (2560#32, 12#32, 4294967291#32)
        else
          if r.val < 186 then
            if r.val < 183 then
              if r.val < 181 then
                (1024#32, 12#32, 5#32)
              else
                if r.val < 182 then
                  (3072#32, 12#32, 4294967291#32)
                else
                  (1536#32, 12#32, 5#32)
            else
              if r.val < 184 then
                (3584#32, 12#32, 4294967291#32)
              else
                if r.val < 185 then
                  (0#32, 12#32, 6#32)
                else
                  (2048#32, 12#32, 4294967290#32)
          else
            if r.val < 189 then
              if r.val < 187 then
                (512#32, 12#32, 6#32)
              else
                if r.val < 188 then
                  (2560#32, 12#32, 4294967290#32)
                else
                  (1024#32, 12#32, 6#32)
            else
              if r.val < 190 then
                (3072#32, 12#32, 4294967290#32)
              else
                if r.val < 191 then
                  (1536#32, 12#32, 6#32)
                else
                  (3584#32, 12#32, 4294967290#32)
def k0_dev4 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_92 : BitVec 32 := 1#32
  let v101 : BitVec 32 := Scalar.muli v24 c1_i32_92
  let v102 : BitVec 32 := Scalar.addi c0_i32_93 v101
  v102.toNat
def k0_dev5 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_117 : BitVec 32 := 1#32
  let v129 : BitVec 32 := Scalar.muli v24 c1_i32_117
  let v130 : BitVec 32 := Scalar.addi c0_i32_118 v129
  v130.toNat
def k0_dev6 (d0 : Dev nD) : Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_142 : BitVec 32 := 1#32
  let v157 : BitVec 32 := Scalar.muli v24 c1_i32_142
  let v158 : BitVec 32 := Scalar.addi c0_i32_143 v157
  v158.toNat
def k0_dev7 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_167 : BitVec 32 := 1#32
  let v185 : BitVec 32 := Scalar.muli v13 c1_i32_167
  let v186 : BitVec 32 := Scalar.addi c0_i32_168 v185
  v186.toNat
def k0_dev8 (d0 : Dev nD) : Nat :=
  let c0_i32_192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_191 : BitVec 32 := 1#32
  let v213 : BitVec 32 := Scalar.muli v13 c1_i32_191
  let v214 : BitVec 32 := Scalar.addi c0_i32_192 v213
  v214.toNat
def k0_dev9 (d0 : Dev nD) : Nat :=
  let c0_i32_217 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_216 : BitVec 32 := 1#32
  let v241 : BitVec 32 := Scalar.muli v13 c1_i32_216
  let v242 : BitVec 32 := Scalar.addi c0_i32_217 v241
  v242.toNat
def k0_dev10 (d0 : Dev nD) : Nat :=
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_241 : BitVec 32 := 1#32
  let v269 : BitVec 32 := Scalar.muli v13 c1_i32_241
  let v270 : BitVec 32 := Scalar.addi c0_i32_242 v269
  v270.toNat
def k0_dev11 (d0 : Dev nD) : Nat :=
  let c0_i32_279 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_278 : BitVec 32 := 1#32
  let v308 : BitVec 32 := Scalar.muli v13 c1_i32_278
  let v309 : BitVec 32 := Scalar.addi c0_i32_279 v308
  v309.toNat
def k0_dev12 (d0 : Dev nD) : Nat :=
  let c0_i32_294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_293 : BitVec 32 := 1#32
  let v318 : BitVec 32 := Scalar.muli v24 c1_i32_293
  let v319 : BitVec 32 := Scalar.addi c0_i32_294 v318
  v319.toNat
def k0_dev13 (d0 : Dev nD) : Nat :=
  let c0_i32_331 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_330 : BitVec 32 := 1#32
  let v357 : BitVec 32 := Scalar.muli v24 c1_i32_330
  let v358 : BitVec 32 := Scalar.addi c0_i32_331 v357
  v358.toNat
def k0_dev14 (d0 : Dev nD) : Nat :=
  let c0_i32_348 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_347 : BitVec 32 := 1#32
  let v367 : BitVec 32 := Scalar.muli v13 c1_i32_347
  let v368 : BitVec 32 := Scalar.addi c0_i32_348 v367
  v368.toNat
def k0_dev15 (d0 : Dev nD) : Nat :=
  let c0_i32_384 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_383 : BitVec 32 := 1#32
  let v406 : BitVec 32 := Scalar.muli v13 c1_i32_383
  let v407 : BitVec 32 := Scalar.addi c0_i32_384 v406
  v407.toNat
def k0_dev16 (d0 : Dev nD) : Nat :=
  let c0_i32_401 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_400 : BitVec 32 := 1#32
  let v416 : BitVec 32 := Scalar.muli v24 c1_i32_400
  let v417 : BitVec 32 := Scalar.addi c0_i32_401 v416
  v417.toNat
def k0_dev17 (d0 : Dev nD) : Nat :=
  let c0_i32_438 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_437 : BitVec 32 := 1#32
  let v455 : BitVec 32 := Scalar.muli v24 c1_i32_437
  let v456 : BitVec 32 := Scalar.addi c0_i32_438 v455
  v456.toNat
def k0_dev18 (d0 : Dev nD) : Nat :=
  let c0_i32_455 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_454 : BitVec 32 := 1#32
  let v465 : BitVec 32 := Scalar.muli v13 c1_i32_454
  let v466 : BitVec 32 := Scalar.addi c0_i32_455 v465
  v466.toNat
def k0_dev19 (d0 : Dev nD) : Nat :=
  let c0_i32_492 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_491 : BitVec 32 := 1#32
  let v504 : BitVec 32 := Scalar.muli v13 c1_i32_491
  let v505 : BitVec 32 := Scalar.addi c0_i32_492 v504
  v505.toNat
def k0_dev20 (d0 : Dev nD) : Nat :=
  let c0_i32_509 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_508 : BitVec 32 := 1#32
  let v514 : BitVec 32 := Scalar.muli v24 c1_i32_508
  let v515 : BitVec 32 := Scalar.addi c0_i32_509 v514
  v515.toNat
def k0_dev21 (d0 : Dev nD) : Nat :=
  let c0_i32_546 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_545 : BitVec 32 := 1#32
  let v553 : BitVec 32 := Scalar.muli v24 c1_i32_545
  let v554 : BitVec 32 := Scalar.addi c0_i32_546 v553
  v554.toNat
def k0_dev22 (d0 : Dev nD) : Nat :=
  let c0_i32_563 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_562 : BitVec 32 := 1#32
  let v563 : BitVec 32 := Scalar.muli v13 c1_i32_562
  let v564 : BitVec 32 := Scalar.addi c0_i32_563 v563
  v564.toNat
def k0_dev23 (d0 : Dev nD) : Nat :=
  let c0_i32_600 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_599 : BitVec 32 := 1#32
  let v602 : BitVec 32 := Scalar.muli v13 c1_i32_599
  let v603 : BitVec 32 := Scalar.addi c0_i32_600 v602
  v603.toNat
def k0_dev24 (d0 : Dev nD) : Nat :=
  let c0_i32_617 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_616 : BitVec 32 := 1#32
  let v612 : BitVec 32 := Scalar.muli v24 c1_i32_616
  let v613 : BitVec 32 := Scalar.addi c0_i32_617 v612
  v613.toNat
def k0_dev25 (d0 : Dev nD) : Nat :=
  let c0_i32_654 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_653 : BitVec 32 := 1#32
  let v651 : BitVec 32 := Scalar.muli v24 c1_i32_653
  let v652 : BitVec 32 := Scalar.addi c0_i32_654 v651
  v652.toNat
def k0_dev26 (d0 : Dev nD) : Nat :=
  let c0_i32_671 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_670 : BitVec 32 := 1#32
  let v661 : BitVec 32 := Scalar.muli v13 c1_i32_670
  let v662 : BitVec 32 := Scalar.addi c0_i32_671 v661
  v662.toNat
def k0_dev27 (d0 : Dev nD) : Nat :=
  let c0_i32_708 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_707 : BitVec 32 := 1#32
  let v700 : BitVec 32 := Scalar.muli v13 c1_i32_707
  let v701 : BitVec 32 := Scalar.addi c0_i32_708 v700
  v701.toNat
def k0_dev28 (d0 : Dev nD) : Nat :=
  let c0_i32_725 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_724 : BitVec 32 := 1#32
  let v710 : BitVec 32 := Scalar.muli v24 c1_i32_724
  let v711 : BitVec 32 := Scalar.addi c0_i32_725 v710
  v711.toNat
def k0_dev29 (d0 : Dev nD) : Nat :=
  let c0_i32_761 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_760 : BitVec 32 := 1#32
  let v749 : BitVec 32 := Scalar.muli v24 c1_i32_760
  let v750 : BitVec 32 := Scalar.addi c0_i32_761 v749
  v750.toNat
def k0_dev30 (d0 : Dev nD) : Nat :=
  let c0_i32_778 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_777 : BitVec 32 := 1#32
  let v759 : BitVec 32 := Scalar.muli v13 c1_i32_777
  let v760 : BitVec 32 := Scalar.addi c0_i32_778 v759
  v760.toNat
def k0_dev31 (d0 : Dev nD) : Nat :=
  let c0_i32_814 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_813 : BitVec 32 := 1#32
  let v798 : BitVec 32 := Scalar.muli v13 c1_i32_813
  let v799 : BitVec 32 := Scalar.addi c0_i32_814 v798
  v799.toNat
def k0_dev32 (d0 : Dev nD) : Nat :=
  let c0_i32_831 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_830 : BitVec 32 := 1#32
  let v808 : BitVec 32 := Scalar.muli v24 c1_i32_830
  let v809 : BitVec 32 := Scalar.addi c0_i32_831 v808
  v809.toNat
def k0_dev33 (d0 : Dev nD) : Nat :=
  let c0_i32_868 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_867 : BitVec 32 := 1#32
  let v847 : BitVec 32 := Scalar.muli v24 c1_i32_867
  let v848 : BitVec 32 := Scalar.addi c0_i32_868 v847
  v848.toNat
def k0_dev34 (d0 : Dev nD) : Nat :=
  let c0_i32_885 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_884 : BitVec 32 := 1#32
  let v857 : BitVec 32 := Scalar.muli v13 c1_i32_884
  let v858 : BitVec 32 := Scalar.addi c0_i32_885 v857
  v858.toNat
def k0_dev35 (d0 : Dev nD) : Nat :=
  let c0_i32_922 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_921 : BitVec 32 := 1#32
  let v896 : BitVec 32 := Scalar.muli v13 c1_i32_921
  let v897 : BitVec 32 := Scalar.addi c0_i32_922 v896
  v897.toNat
def k0_dev36 (d0 : Dev nD) : Nat :=
  let c0_i32_939 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_938 : BitVec 32 := 1#32
  let v906 : BitVec 32 := Scalar.muli v24 c1_i32_938
  let v907 : BitVec 32 := Scalar.addi c0_i32_939 v906
  v907.toNat
def k0_dev37 (d0 : Dev nD) : Nat :=
  let c0_i32_976 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_975 : BitVec 32 := 1#32
  let v945 : BitVec 32 := Scalar.muli v24 c1_i32_975
  let v946 : BitVec 32 := Scalar.addi c0_i32_976 v945
  v946.toNat
def k0_dev38 (d0 : Dev nD) : Nat :=
  let c0_i32_993 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_992 : BitVec 32 := 1#32
  let v955 : BitVec 32 := Scalar.muli v13 c1_i32_992
  let v956 : BitVec 32 := Scalar.addi c0_i32_993 v955
  v956.toNat
def k0_dev39 (d0 : Dev nD) : Nat :=
  let c0_i32_1030 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1029 : BitVec 32 := 1#32
  let v994 : BitVec 32 := Scalar.muli v13 c1_i32_1029
  let v995 : BitVec 32 := Scalar.addi c0_i32_1030 v994
  v995.toNat
def k0_dev40 (d0 : Dev nD) : Nat :=
  let c0_i32_1047 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1046 : BitVec 32 := 1#32
  let v1004 : BitVec 32 := Scalar.muli v24 c1_i32_1046
  let v1005 : BitVec 32 := Scalar.addi c0_i32_1047 v1004
  v1005.toNat
def k0_dev41 (d0 : Dev nD) : Nat :=
  let c0_i32_1084 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1083 : BitVec 32 := 1#32
  let v1043 : BitVec 32 := Scalar.muli v24 c1_i32_1083
  let v1044 : BitVec 32 := Scalar.addi c0_i32_1084 v1043
  v1044.toNat
def k0_dev42 (d0 : Dev nD) : Nat :=
  let c0_i32_1101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1100 : BitVec 32 := 1#32
  let v1053 : BitVec 32 := Scalar.muli v13 c1_i32_1100
  let v1054 : BitVec 32 := Scalar.addi c0_i32_1101 v1053
  v1054.toNat
def k0_dev43 (d0 : Dev nD) : Nat :=
  let c0_i32_1138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1137 : BitVec 32 := 1#32
  let v1092 : BitVec 32 := Scalar.muli v13 c1_i32_1137
  let v1093 : BitVec 32 := Scalar.addi c0_i32_1138 v1092
  v1093.toNat
def k0_dev44 (d0 : Dev nD) : Nat :=
  let c0_i32_1171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1170 : BitVec 32 := 1#32
  let v1127 : BitVec 32 := Scalar.muli v24 c1_i32_1170
  let v1128 : BitVec 32 := Scalar.addi c0_i32_1171 v1127
  v1128.toNat
def k0_dev45 (d0 : Dev nD) : Nat :=
  let c0_i32_1197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1196 : BitVec 32 := 1#32
  let v1151 : BitVec 32 := Scalar.muli v24 c1_i32_1196
  let v1152 : BitVec 32 := Scalar.addi c0_i32_1197 v1151
  v1152.toNat
def k0_dev46 (d0 : Dev nD) : Nat :=
  let c0_i32_1231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1230 : BitVec 32 := 1#32
  let v1186 : BitVec 32 := Scalar.muli v13 c1_i32_1230
  let v1187 : BitVec 32 := Scalar.addi c0_i32_1231 v1186
  v1187.toNat
def k0_dev47 (d0 : Dev nD) : Nat :=
  let c0_i32_1257 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1256 : BitVec 32 := 1#32
  let v1210 : BitVec 32 := Scalar.muli v13 c1_i32_1256
  let v1211 : BitVec 32 := Scalar.addi c0_i32_1257 v1210
  v1211.toNat
def k0_dev48 (d0 : Dev nD) : Nat :=
  let c0_i32_1291 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1290 : BitVec 32 := 1#32
  let v1245 : BitVec 32 := Scalar.muli v24 c1_i32_1290
  let v1246 : BitVec 32 := Scalar.addi c0_i32_1291 v1245
  v1246.toNat
def k0_dev49 (d0 : Dev nD) : Nat :=
  let c0_i32_1317 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1316 : BitVec 32 := 1#32
  let v1269 : BitVec 32 := Scalar.muli v24 c1_i32_1316
  let v1270 : BitVec 32 := Scalar.addi c0_i32_1317 v1269
  v1270.toNat
def k0_dev50 (d0 : Dev nD) : Nat :=
  let c0_i32_1351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1350 : BitVec 32 := 1#32
  let v1304 : BitVec 32 := Scalar.muli v13 c1_i32_1350
  let v1305 : BitVec 32 := Scalar.addi c0_i32_1351 v1304
  v1305.toNat
def k0_dev51 (d0 : Dev nD) : Nat :=
  let c0_i32_1377 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1376 : BitVec 32 := 1#32
  let v1328 : BitVec 32 := Scalar.muli v13 c1_i32_1376
  let v1329 : BitVec 32 := Scalar.addi c0_i32_1377 v1328
  v1329.toNat
def k0_dev52 (d0 : Dev nD) : Nat :=
  let c0_i32_1411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1410 : BitVec 32 := 1#32
  let v1363 : BitVec 32 := Scalar.muli v24 c1_i32_1410
  let v1364 : BitVec 32 := Scalar.addi c0_i32_1411 v1363
  v1364.toNat
def k0_dev53 (d0 : Dev nD) : Nat :=
  let c0_i32_1437 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1436 : BitVec 32 := 1#32
  let v1387 : BitVec 32 := Scalar.muli v24 c1_i32_1436
  let v1388 : BitVec 32 := Scalar.addi c0_i32_1437 v1387
  v1388.toNat
def k0_dev54 (d0 : Dev nD) : Nat :=
  let c0_i32_1471 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1470 : BitVec 32 := 1#32
  let v1422 : BitVec 32 := Scalar.muli v13 c1_i32_1470
  let v1423 : BitVec 32 := Scalar.addi c0_i32_1471 v1422
  v1423.toNat
def k0_dev55 (d0 : Dev nD) : Nat :=
  let c0_i32_1497 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1496 : BitVec 32 := 1#32
  let v1446 : BitVec 32 := Scalar.muli v13 c1_i32_1496
  let v1447 : BitVec 32 := Scalar.addi c0_i32_1497 v1446
  v1447.toNat
def k0_dev56 (d0 : Dev nD) : Nat :=
  let c0_i32_1531 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1530 : BitVec 32 := 1#32
  let v1481 : BitVec 32 := Scalar.muli v24 c1_i32_1530
  let v1482 : BitVec 32 := Scalar.addi c0_i32_1531 v1481
  v1482.toNat
def k0_dev57 (d0 : Dev nD) : Nat :=
  let c0_i32_1557 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1556 : BitVec 32 := 1#32
  let v1505 : BitVec 32 := Scalar.muli v24 c1_i32_1556
  let v1506 : BitVec 32 := Scalar.addi c0_i32_1557 v1505
  v1506.toNat
def k0_dev58 (d0 : Dev nD) : Nat :=
  let c0_i32_1591 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1590 : BitVec 32 := 1#32
  let v1540 : BitVec 32 := Scalar.muli v13 c1_i32_1590
  let v1541 : BitVec 32 := Scalar.addi c0_i32_1591 v1540
  v1541.toNat
def k0_dev59 (d0 : Dev nD) : Nat :=
  let c0_i32_1621 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1620 : BitVec 32 := 1#32
  let v1567 : BitVec 32 := Scalar.muli v13 c1_i32_1620
  let v1568 : BitVec 32 := Scalar.addi c0_i32_1621 v1567
  v1568.toNat
def k0_dev60 (d0 : Dev nD) : Nat :=
  let c0_i32_1643 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1642 : BitVec 32 := 1#32
  let v1586 : BitVec 32 := Scalar.muli v24 c1_i32_1642
  let v1587 : BitVec 32 := Scalar.addi c0_i32_1643 v1586
  v1587.toNat
def k0_dev61 (d0 : Dev nD) : Nat :=
  let c0_i32_1673 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1672 : BitVec 32 := 1#32
  let v1613 : BitVec 32 := Scalar.muli v24 c1_i32_1672
  let v1614 : BitVec 32 := Scalar.addi c0_i32_1673 v1613
  v1614.toNat
def k0_dev62 (d0 : Dev nD) : Nat :=
  let c0_i32_1694 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1693 : BitVec 32 := 1#32
  let v1632 : BitVec 32 := Scalar.muli v13 c1_i32_1693
  let v1633 : BitVec 32 := Scalar.addi c0_i32_1694 v1632
  v1633.toNat
def k0_dev63 (d0 : Dev nD) : Nat :=
  let c0_i32_1724 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1723 : BitVec 32 := 1#32
  let v1659 : BitVec 32 := Scalar.muli v13 c1_i32_1723
  let v1660 : BitVec 32 := Scalar.addi c0_i32_1724 v1659
  v1660.toNat
def k0_dev64 (d0 : Dev nD) : Nat :=
  let c0_i32_1746 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1745 : BitVec 32 := 1#32
  let v1678 : BitVec 32 := Scalar.muli v24 c1_i32_1745
  let v1679 : BitVec 32 := Scalar.addi c0_i32_1746 v1678
  v1679.toNat
def k0_dev65 (d0 : Dev nD) : Nat :=
  let c0_i32_1776 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1775 : BitVec 32 := 1#32
  let v1705 : BitVec 32 := Scalar.muli v24 c1_i32_1775
  let v1706 : BitVec 32 := Scalar.addi c0_i32_1776 v1705
  v1706.toNat
def k0_dev66 (d0 : Dev nD) : Nat :=
  let c0_i32_1798 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1797 : BitVec 32 := 1#32
  let v1724 : BitVec 32 := Scalar.muli v13 c1_i32_1797
  let v1725 : BitVec 32 := Scalar.addi c0_i32_1798 v1724
  v1725.toNat
def k0_dev67 (d0 : Dev nD) : Nat :=
  let c0_i32_1828 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1827 : BitVec 32 := 1#32
  let v1751 : BitVec 32 := Scalar.muli v13 c1_i32_1827
  let v1752 : BitVec 32 := Scalar.addi c0_i32_1828 v1751
  v1752.toNat
def k0_dev68 (d0 : Dev nD) : Nat :=
  let c0_i32_1850 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1849 : BitVec 32 := 1#32
  let v1770 : BitVec 32 := Scalar.muli v24 c1_i32_1849
  let v1771 : BitVec 32 := Scalar.addi c0_i32_1850 v1770
  v1771.toNat
def k0_dev69 (d0 : Dev nD) : Nat :=
  let c0_i32_1880 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1879 : BitVec 32 := 1#32
  let v1797 : BitVec 32 := Scalar.muli v24 c1_i32_1879
  let v1798 : BitVec 32 := Scalar.addi c0_i32_1880 v1797
  v1798.toNat
def k0_dev70 (d0 : Dev nD) : Nat :=
  let c0_i32_1902 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1901 : BitVec 32 := 1#32
  let v1816 : BitVec 32 := Scalar.muli v13 c1_i32_1901
  let v1817 : BitVec 32 := Scalar.addi c0_i32_1902 v1816
  v1817.toNat
def k0_dev71 (d0 : Dev nD) : Nat :=
  let c0_i32_1932 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1931 : BitVec 32 := 1#32
  let v1843 : BitVec 32 := Scalar.muli v13 c1_i32_1931
  let v1844 : BitVec 32 := Scalar.addi c0_i32_1932 v1843
  v1844.toNat
def k0_dev72 (d0 : Dev nD) : Nat :=
  let c0_i32_1954 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1953 : BitVec 32 := 1#32
  let v1862 : BitVec 32 := Scalar.muli v24 c1_i32_1953
  let v1863 : BitVec 32 := Scalar.addi c0_i32_1954 v1862
  v1863.toNat
def k0_dev73 (d0 : Dev nD) : Nat :=
  let c0_i32_1984 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1983 : BitVec 32 := 1#32
  let v1889 : BitVec 32 := Scalar.muli v24 c1_i32_1983
  let v1890 : BitVec 32 := Scalar.addi c0_i32_1984 v1889
  v1890.toNat
def k0_dev74 (d0 : Dev nD) : Nat :=
  let c0_i32_2006 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2005 : BitVec 32 := 1#32
  let v1908 : BitVec 32 := Scalar.muli v13 c1_i32_2005
  let v1909 : BitVec 32 := Scalar.addi c0_i32_2006 v1908
  v1909.toNat
def k0_dev75 (d0 : Dev nD) : Nat :=
  let c0_i32_2036 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2035 : BitVec 32 := 1#32
  let v1935 : BitVec 32 := Scalar.muli v13 c1_i32_2035
  let v1936 : BitVec 32 := Scalar.addi c0_i32_2036 v1935
  v1936.toNat
def k0_dev76 (d0 : Dev nD) : Nat :=
  let c0_i32_2057 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2056 : BitVec 32 := 1#32
  let v1954 : BitVec 32 := Scalar.muli v24 c1_i32_2056
  let v1955 : BitVec 32 := Scalar.addi c0_i32_2057 v1954
  v1955.toNat
def k0_dev77 (d0 : Dev nD) : Nat :=
  let c0_i32_2087 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2086 : BitVec 32 := 1#32
  let v1981 : BitVec 32 := Scalar.muli v24 c1_i32_2086
  let v1982 : BitVec 32 := Scalar.addi c0_i32_2087 v1981
  v1982.toNat
def k0_dev78 (d0 : Dev nD) : Nat :=
  let c0_i32_2108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2107 : BitVec 32 := 1#32
  let v2000 : BitVec 32 := Scalar.muli v13 c1_i32_2107
  let v2001 : BitVec 32 := Scalar.addi c0_i32_2108 v2000
  v2001.toNat
def k0_dev79 (d0 : Dev nD) : Nat :=
  let c0_i32_2138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2137 : BitVec 32 := 1#32
  let v2027 : BitVec 32 := Scalar.muli v13 c1_i32_2137
  let v2028 : BitVec 32 := Scalar.addi c0_i32_2138 v2027
  v2028.toNat
def k0_dev80 (d0 : Dev nD) : Nat :=
  let c0_i32_2160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2159 : BitVec 32 := 1#32
  let v2046 : BitVec 32 := Scalar.muli v24 c1_i32_2159
  let v2047 : BitVec 32 := Scalar.addi c0_i32_2160 v2046
  v2047.toNat
def k0_dev81 (d0 : Dev nD) : Nat :=
  let c0_i32_2190 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2189 : BitVec 32 := 1#32
  let v2073 : BitVec 32 := Scalar.muli v24 c1_i32_2189
  let v2074 : BitVec 32 := Scalar.addi c0_i32_2190 v2073
  v2074.toNat
def k0_dev82 (d0 : Dev nD) : Nat :=
  let c0_i32_2212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2211 : BitVec 32 := 1#32
  let v2092 : BitVec 32 := Scalar.muli v13 c1_i32_2211
  let v2093 : BitVec 32 := Scalar.addi c0_i32_2212 v2092
  v2093.toNat
def k0_dev83 (d0 : Dev nD) : Nat :=
  let c0_i32_2242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2241 : BitVec 32 := 1#32
  let v2119 : BitVec 32 := Scalar.muli v13 c1_i32_2241
  let v2120 : BitVec 32 := Scalar.addi c0_i32_2242 v2119
  v2120.toNat
def k0_dev84 (d0 : Dev nD) : Nat :=
  let c0_i32_2264 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2263 : BitVec 32 := 1#32
  let v2138 : BitVec 32 := Scalar.muli v24 c1_i32_2263
  let v2139 : BitVec 32 := Scalar.addi c0_i32_2264 v2138
  v2139.toNat
def k0_dev85 (d0 : Dev nD) : Nat :=
  let c0_i32_2294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2293 : BitVec 32 := 1#32
  let v2165 : BitVec 32 := Scalar.muli v24 c1_i32_2293
  let v2166 : BitVec 32 := Scalar.addi c0_i32_2294 v2165
  v2166.toNat
def k0_dev86 (d0 : Dev nD) : Nat :=
  let c0_i32_2316 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2315 : BitVec 32 := 1#32
  let v2184 : BitVec 32 := Scalar.muli v13 c1_i32_2315
  let v2185 : BitVec 32 := Scalar.addi c0_i32_2316 v2184
  v2185.toNat
def k0_dev87 (d0 : Dev nD) : Nat :=
  let c0_i32_2346 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2345 : BitVec 32 := 1#32
  let v2211 : BitVec 32 := Scalar.muli v13 c1_i32_2345
  let v2212 : BitVec 32 := Scalar.addi c0_i32_2346 v2211
  v2212.toNat
def k0_dev88 (d0 : Dev nD) : Nat :=
  let c0_i32_2368 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2367 : BitVec 32 := 1#32
  let v2230 : BitVec 32 := Scalar.muli v24 c1_i32_2367
  let v2231 : BitVec 32 := Scalar.addi c0_i32_2368 v2230
  v2231.toNat
def k0_dev89 (d0 : Dev nD) : Nat :=
  let c0_i32_2398 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2397 : BitVec 32 := 1#32
  let v2257 : BitVec 32 := Scalar.muli v24 c1_i32_2397
  let v2258 : BitVec 32 := Scalar.addi c0_i32_2398 v2257
  v2258.toNat
def k0_dev90 (d0 : Dev nD) : Nat :=
  let c0_i32_2420 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2419 : BitVec 32 := 1#32
  let v2276 : BitVec 32 := Scalar.muli v13 c1_i32_2419
  let v2277 : BitVec 32 := Scalar.addi c0_i32_2420 v2276
  v2277.toNat
def k0_dev91 (d0 : Dev nD) : Nat :=
  let c0_i32_2450 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2449 : BitVec 32 := 1#32
  let v2303 : BitVec 32 := Scalar.muli v13 c1_i32_2449
  let v2304 : BitVec 32 := Scalar.addi c0_i32_2450 v2303
  v2304.toNat
def k0_off3 (d0 : Dev nD) (c0_i32_2470 : BitVec 32) (c4_i32_2468 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2325 : BitVec 32 := Scalar.addi c4_i32_2468 v2
  let c32_i32_2469 : BitVec 32 := 32#32
  let v2326 : BitVec 32 := Scalar.muli v2325 c32_i32_2469
  let v2327 : BitVec 32 := Scalar.addi c0_i32_2470 v2326
  let c0_i32_2474 : BitVec 32 := 0#32
  ![v2327.toNat, 0]
def k0_dev92 (d0 : Dev nD) : Nat :=
  let c0_i32_2486 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2485 : BitVec 32 := 1#32
  let v2334 : BitVec 32 := Scalar.muli v24 c1_i32_2485
  let v2335 : BitVec 32 := Scalar.addi c0_i32_2486 v2334
  v2335.toNat
def k0_dev93 (d0 : Dev nD) : Nat :=
  let c0_i32_2527 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2526 : BitVec 32 := 1#32
  let v2376 : BitVec 32 := Scalar.muli v24 c1_i32_2526
  let v2377 : BitVec 32 := Scalar.addi c0_i32_2527 v2376
  v2377.toNat
def k0_dev94 (d0 : Dev nD) : Nat :=
  let c0_i32_2563 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2562 : BitVec 32 := 1#32
  let v2407 : BitVec 32 := Scalar.muli v13 c1_i32_2562
  let v2408 : BitVec 32 := Scalar.addi c0_i32_2563 v2407
  v2408.toNat
def k0_dev95 (d0 : Dev nD) : Nat :=
  let c0_i32_2604 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2603 : BitVec 32 := 1#32
  let v2449 : BitVec 32 := Scalar.muli v13 c1_i32_2603
  let v2450 : BitVec 32 := Scalar.addi c0_i32_2604 v2449
  v2450.toNat
def k0_dev96 (d0 : Dev nD) : Nat :=
  let c0_i32_2641 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2640 : BitVec 32 := 1#32
  let v2480 : BitVec 32 := Scalar.muli v24 c1_i32_2640
  let v2481 : BitVec 32 := Scalar.addi c0_i32_2641 v2480
  v2481.toNat
def k0_dev97 (d0 : Dev nD) : Nat :=
  let c0_i32_2682 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2681 : BitVec 32 := 1#32
  let v2522 : BitVec 32 := Scalar.muli v24 c1_i32_2681
  let v2523 : BitVec 32 := Scalar.addi c0_i32_2682 v2522
  v2523.toNat
def k0_dev98 (d0 : Dev nD) : Nat :=
  let c0_i32_2719 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2718 : BitVec 32 := 1#32
  let v2553 : BitVec 32 := Scalar.muli v13 c1_i32_2718
  let v2554 : BitVec 32 := Scalar.addi c0_i32_2719 v2553
  v2554.toNat
def k0_dev99 (d0 : Dev nD) : Nat :=
  let c0_i32_2760 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2759 : BitVec 32 := 1#32
  let v2595 : BitVec 32 := Scalar.muli v13 c1_i32_2759
  let v2596 : BitVec 32 := Scalar.addi c0_i32_2760 v2595
  v2596.toNat
def k0_dev100 (d0 : Dev nD) : Nat :=
  let c0_i32_2797 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2796 : BitVec 32 := 1#32
  let v2626 : BitVec 32 := Scalar.muli v24 c1_i32_2796
  let v2627 : BitVec 32 := Scalar.addi c0_i32_2797 v2626
  v2627.toNat
def k0_dev101 (d0 : Dev nD) : Nat :=
  let c0_i32_2838 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2837 : BitVec 32 := 1#32
  let v2668 : BitVec 32 := Scalar.muli v24 c1_i32_2837
  let v2669 : BitVec 32 := Scalar.addi c0_i32_2838 v2668
  v2669.toNat
def k0_dev102 (d0 : Dev nD) : Nat :=
  let c0_i32_2875 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2874 : BitVec 32 := 1#32
  let v2699 : BitVec 32 := Scalar.muli v13 c1_i32_2874
  let v2700 : BitVec 32 := Scalar.addi c0_i32_2875 v2699
  v2700.toNat
def k0_dev103 (d0 : Dev nD) : Nat :=
  let c0_i32_2916 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2915 : BitVec 32 := 1#32
  let v2741 : BitVec 32 := Scalar.muli v13 c1_i32_2915
  let v2742 : BitVec 32 := Scalar.addi c0_i32_2916 v2741
  v2742.toNat
def k0_dev104 (d0 : Dev nD) : Nat :=
  let c0_i32_2953 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2952 : BitVec 32 := 1#32
  let v2772 : BitVec 32 := Scalar.muli v24 c1_i32_2952
  let v2773 : BitVec 32 := Scalar.addi c0_i32_2953 v2772
  v2773.toNat
def k0_dev105 (d0 : Dev nD) : Nat :=
  let c0_i32_2994 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2993 : BitVec 32 := 1#32
  let v2814 : BitVec 32 := Scalar.muli v24 c1_i32_2993
  let v2815 : BitVec 32 := Scalar.addi c0_i32_2994 v2814
  v2815.toNat
def k0_dev106 (d0 : Dev nD) : Nat :=
  let c0_i32_3031 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3030 : BitVec 32 := 1#32
  let v2845 : BitVec 32 := Scalar.muli v13 c1_i32_3030
  let v2846 : BitVec 32 := Scalar.addi c0_i32_3031 v2845
  v2846.toNat
def k0_dev107 (d0 : Dev nD) : Nat :=
  let c0_i32_3068 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3067 : BitVec 32 := 1#32
  let v2884 : BitVec 32 := Scalar.muli v13 c1_i32_3067
  let v2885 : BitVec 32 := Scalar.addi c0_i32_3068 v2884
  v2885.toNat
def k0_dev108 (d0 : Dev nD) : Nat :=
  let c0_i32_3085 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3084 : BitVec 32 := 1#32
  let v2894 : BitVec 32 := Scalar.muli v24 c1_i32_3084
  let v2895 : BitVec 32 := Scalar.addi c0_i32_3085 v2894
  v2895.toNat
def k0_dev109 (d0 : Dev nD) : Nat :=
  let c0_i32_3122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3121 : BitVec 32 := 1#32
  let v2933 : BitVec 32 := Scalar.muli v24 c1_i32_3121
  let v2934 : BitVec 32 := Scalar.addi c0_i32_3122 v2933
  v2934.toNat
def k0_dev110 (d0 : Dev nD) : Nat :=
  let c0_i32_3139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3138 : BitVec 32 := 1#32
  let v2943 : BitVec 32 := Scalar.muli v13 c1_i32_3138
  let v2944 : BitVec 32 := Scalar.addi c0_i32_3139 v2943
  v2944.toNat
def k0_dev111 (d0 : Dev nD) : Nat :=
  let c0_i32_3176 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3175 : BitVec 32 := 1#32
  let v2982 : BitVec 32 := Scalar.muli v13 c1_i32_3175
  let v2983 : BitVec 32 := Scalar.addi c0_i32_3176 v2982
  v2983.toNat
def k0_dev112 (d0 : Dev nD) : Nat :=
  let c0_i32_3193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3192 : BitVec 32 := 1#32
  let v2992 : BitVec 32 := Scalar.muli v24 c1_i32_3192
  let v2993 : BitVec 32 := Scalar.addi c0_i32_3193 v2992
  v2993.toNat
def k0_dev113 (d0 : Dev nD) : Nat :=
  let c0_i32_3230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3229 : BitVec 32 := 1#32
  let v3031 : BitVec 32 := Scalar.muli v24 c1_i32_3229
  let v3032 : BitVec 32 := Scalar.addi c0_i32_3230 v3031
  v3032.toNat
def k0_dev114 (d0 : Dev nD) : Nat :=
  let c0_i32_3247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3246 : BitVec 32 := 1#32
  let v3041 : BitVec 32 := Scalar.muli v13 c1_i32_3246
  let v3042 : BitVec 32 := Scalar.addi c0_i32_3247 v3041
  v3042.toNat
def k0_dev115 (d0 : Dev nD) : Nat :=
  let c0_i32_3284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3283 : BitVec 32 := 1#32
  let v3080 : BitVec 32 := Scalar.muli v13 c1_i32_3283
  let v3081 : BitVec 32 := Scalar.addi c0_i32_3284 v3080
  v3081.toNat
def k0_dev116 (d0 : Dev nD) : Nat :=
  let c0_i32_3301 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3300 : BitVec 32 := 1#32
  let v3090 : BitVec 32 := Scalar.muli v24 c1_i32_3300
  let v3091 : BitVec 32 := Scalar.addi c0_i32_3301 v3090
  v3091.toNat
def k0_dev117 (d0 : Dev nD) : Nat :=
  let c0_i32_3338 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3337 : BitVec 32 := 1#32
  let v3129 : BitVec 32 := Scalar.muli v24 c1_i32_3337
  let v3130 : BitVec 32 := Scalar.addi c0_i32_3338 v3129
  v3130.toNat
def k0_dev118 (d0 : Dev nD) : Nat :=
  let c0_i32_3355 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3354 : BitVec 32 := 1#32
  let v3139 : BitVec 32 := Scalar.muli v13 c1_i32_3354
  let v3140 : BitVec 32 := Scalar.addi c0_i32_3355 v3139
  v3140.toNat
def k0_dev119 (d0 : Dev nD) : Nat :=
  let c0_i32_3392 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3391 : BitVec 32 := 1#32
  let v3178 : BitVec 32 := Scalar.muli v13 c1_i32_3391
  let v3179 : BitVec 32 := Scalar.addi c0_i32_3392 v3178
  v3179.toNat
def k0_dev120 (d0 : Dev nD) : Nat :=
  let c0_i32_3409 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3408 : BitVec 32 := 1#32
  let v3188 : BitVec 32 := Scalar.muli v24 c1_i32_3408
  let v3189 : BitVec 32 := Scalar.addi c0_i32_3409 v3188
  v3189.toNat
def k0_dev121 (d0 : Dev nD) : Nat :=
  let c0_i32_3446 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3445 : BitVec 32 := 1#32
  let v3227 : BitVec 32 := Scalar.muli v24 c1_i32_3445
  let v3228 : BitVec 32 := Scalar.addi c0_i32_3446 v3227
  v3228.toNat
def k0_dev122 (d0 : Dev nD) : Nat :=
  let c0_i32_3463 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3462 : BitVec 32 := 1#32
  let v3237 : BitVec 32 := Scalar.muli v13 c1_i32_3462
  let v3238 : BitVec 32 := Scalar.addi c0_i32_3463 v3237
  v3238.toNat
def k0_dev123 (d0 : Dev nD) : Nat :=
  let c0_i32_3500 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3499 : BitVec 32 := 1#32
  let v3276 : BitVec 32 := Scalar.muli v13 c1_i32_3499
  let v3277 : BitVec 32 := Scalar.addi c0_i32_3500 v3276
  v3277.toNat
def k0_dev124 (d0 : Dev nD) : Nat :=
  let c0_i32_3517 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3516 : BitVec 32 := 1#32
  let v3286 : BitVec 32 := Scalar.muli v24 c1_i32_3516
  let v3287 : BitVec 32 := Scalar.addi c0_i32_3517 v3286
  v3287.toNat
def k0_dev125 (d0 : Dev nD) : Nat :=
  let c0_i32_3554 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3553 : BitVec 32 := 1#32
  let v3325 : BitVec 32 := Scalar.muli v24 c1_i32_3553
  let v3326 : BitVec 32 := Scalar.addi c0_i32_3554 v3325
  v3326.toNat
def k0_dev126 (d0 : Dev nD) : Nat :=
  let c0_i32_3571 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3570 : BitVec 32 := 1#32
  let v3335 : BitVec 32 := Scalar.muli v13 c1_i32_3570
  let v3336 : BitVec 32 := Scalar.addi c0_i32_3571 v3335
  v3336.toNat
def k0_dev127 (d0 : Dev nD) : Nat :=
  let c0_i32_3608 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3607 : BitVec 32 := 1#32
  let v3374 : BitVec 32 := Scalar.muli v13 c1_i32_3607
  let v3375 : BitVec 32 := Scalar.addi c0_i32_3608 v3374
  v3375.toNat
def k0_dev128 (d0 : Dev nD) : Nat :=
  let c0_i32_3625 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3624 : BitVec 32 := 1#32
  let v3384 : BitVec 32 := Scalar.muli v24 c1_i32_3624
  let v3385 : BitVec 32 := Scalar.addi c0_i32_3625 v3384
  v3385.toNat
def k0_dev129 (d0 : Dev nD) : Nat :=
  let c0_i32_3662 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3661 : BitVec 32 := 1#32
  let v3423 : BitVec 32 := Scalar.muli v24 c1_i32_3661
  let v3424 : BitVec 32 := Scalar.addi c0_i32_3662 v3423
  v3424.toNat
def k0_dev130 (d0 : Dev nD) : Nat :=
  let c0_i32_3679 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3678 : BitVec 32 := 1#32
  let v3433 : BitVec 32 := Scalar.muli v13 c1_i32_3678
  let v3434 : BitVec 32 := Scalar.addi c0_i32_3679 v3433
  v3434.toNat
def k0_dev131 (d0 : Dev nD) : Nat :=
  let c0_i32_3716 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3715 : BitVec 32 := 1#32
  let v3472 : BitVec 32 := Scalar.muli v13 c1_i32_3715
  let v3473 : BitVec 32 := Scalar.addi c0_i32_3716 v3472
  v3473.toNat
def k0_dev132 (d0 : Dev nD) : Nat :=
  let c0_i32_3733 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3732 : BitVec 32 := 1#32
  let v3482 : BitVec 32 := Scalar.muli v24 c1_i32_3732
  let v3483 : BitVec 32 := Scalar.addi c0_i32_3733 v3482
  v3483.toNat
def k0_dev133 (d0 : Dev nD) : Nat :=
  let c0_i32_3770 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3769 : BitVec 32 := 1#32
  let v3521 : BitVec 32 := Scalar.muli v24 c1_i32_3769
  let v3522 : BitVec 32 := Scalar.addi c0_i32_3770 v3521
  v3522.toNat
def k0_dev134 (d0 : Dev nD) : Nat :=
  let c0_i32_3787 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3786 : BitVec 32 := 1#32
  let v3531 : BitVec 32 := Scalar.muli v13 c1_i32_3786
  let v3532 : BitVec 32 := Scalar.addi c0_i32_3787 v3531
  v3532.toNat
def k0_dev135 (d0 : Dev nD) : Nat :=
  let c0_i32_3824 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3823 : BitVec 32 := 1#32
  let v3570 : BitVec 32 := Scalar.muli v13 c1_i32_3823
  let v3571 : BitVec 32 := Scalar.addi c0_i32_3824 v3570
  v3571.toNat
def k0_dev136 (d0 : Dev nD) : Nat :=
  let c0_i32_3841 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3840 : BitVec 32 := 1#32
  let v3580 : BitVec 32 := Scalar.muli v24 c1_i32_3840
  let v3581 : BitVec 32 := Scalar.addi c0_i32_3841 v3580
  v3581.toNat
def k0_dev137 (d0 : Dev nD) : Nat :=
  let c0_i32_3878 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3877 : BitVec 32 := 1#32
  let v3619 : BitVec 32 := Scalar.muli v24 c1_i32_3877
  let v3620 : BitVec 32 := Scalar.addi c0_i32_3878 v3619
  v3620.toNat
def k0_dev138 (d0 : Dev nD) : Nat :=
  let c0_i32_3895 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3894 : BitVec 32 := 1#32
  let v3629 : BitVec 32 := Scalar.muli v13 c1_i32_3894
  let v3630 : BitVec 32 := Scalar.addi c0_i32_3895 v3629
  v3630.toNat
def k0_dev139 (d0 : Dev nD) : Nat :=
  let c0_i32_3932 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3931 : BitVec 32 := 1#32
  let v3668 : BitVec 32 := Scalar.muli v13 c1_i32_3931
  let v3669 : BitVec 32 := Scalar.addi c0_i32_3932 v3668
  v3669.toNat
def k0_dev140 (d0 : Dev nD) : Nat :=
  let c0_i32_3966 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3965 : BitVec 32 := 1#32
  let v3703 : BitVec 32 := Scalar.muli v24 c1_i32_3965
  let v3704 : BitVec 32 := Scalar.addi c0_i32_3966 v3703
  v3704.toNat
def k0_dev141 (d0 : Dev nD) : Nat :=
  let c0_i32_3992 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3991 : BitVec 32 := 1#32
  let v3727 : BitVec 32 := Scalar.muli v24 c1_i32_3991
  let v3728 : BitVec 32 := Scalar.addi c0_i32_3992 v3727
  v3728.toNat
def k0_dev142 (d0 : Dev nD) : Nat :=
  let c0_i32_4026 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4025 : BitVec 32 := 1#32
  let v3762 : BitVec 32 := Scalar.muli v13 c1_i32_4025
  let v3763 : BitVec 32 := Scalar.addi c0_i32_4026 v3762
  v3763.toNat
def k0_dev143 (d0 : Dev nD) : Nat :=
  let c0_i32_4052 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4051 : BitVec 32 := 1#32
  let v3786 : BitVec 32 := Scalar.muli v13 c1_i32_4051
  let v3787 : BitVec 32 := Scalar.addi c0_i32_4052 v3786
  v3787.toNat
def k0_dev144 (d0 : Dev nD) : Nat :=
  let c0_i32_4086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4085 : BitVec 32 := 1#32
  let v3821 : BitVec 32 := Scalar.muli v24 c1_i32_4085
  let v3822 : BitVec 32 := Scalar.addi c0_i32_4086 v3821
  v3822.toNat
def k0_dev145 (d0 : Dev nD) : Nat :=
  let c0_i32_4112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4111 : BitVec 32 := 1#32
  let v3845 : BitVec 32 := Scalar.muli v24 c1_i32_4111
  let v3846 : BitVec 32 := Scalar.addi c0_i32_4112 v3845
  v3846.toNat
def k0_dev146 (d0 : Dev nD) : Nat :=
  let c0_i32_4146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4145 : BitVec 32 := 1#32
  let v3880 : BitVec 32 := Scalar.muli v13 c1_i32_4145
  let v3881 : BitVec 32 := Scalar.addi c0_i32_4146 v3880
  v3881.toNat
def k0_dev147 (d0 : Dev nD) : Nat :=
  let c0_i32_4172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4171 : BitVec 32 := 1#32
  let v3904 : BitVec 32 := Scalar.muli v13 c1_i32_4171
  let v3905 : BitVec 32 := Scalar.addi c0_i32_4172 v3904
  v3905.toNat
def k0_dev148 (d0 : Dev nD) : Nat :=
  let c0_i32_4206 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4205 : BitVec 32 := 1#32
  let v3939 : BitVec 32 := Scalar.muli v24 c1_i32_4205
  let v3940 : BitVec 32 := Scalar.addi c0_i32_4206 v3939
  v3940.toNat
def k0_dev149 (d0 : Dev nD) : Nat :=
  let c0_i32_4232 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4231 : BitVec 32 := 1#32
  let v3963 : BitVec 32 := Scalar.muli v24 c1_i32_4231
  let v3964 : BitVec 32 := Scalar.addi c0_i32_4232 v3963
  v3964.toNat
def k0_dev150 (d0 : Dev nD) : Nat :=
  let c0_i32_4266 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4265 : BitVec 32 := 1#32
  let v3998 : BitVec 32 := Scalar.muli v13 c1_i32_4265
  let v3999 : BitVec 32 := Scalar.addi c0_i32_4266 v3998
  v3999.toNat
def k0_dev151 (d0 : Dev nD) : Nat :=
  let c0_i32_4292 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4291 : BitVec 32 := 1#32
  let v4022 : BitVec 32 := Scalar.muli v13 c1_i32_4291
  let v4023 : BitVec 32 := Scalar.addi c0_i32_4292 v4022
  v4023.toNat
def k0_dev152 (d0 : Dev nD) : Nat :=
  let c0_i32_4326 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4325 : BitVec 32 := 1#32
  let v4057 : BitVec 32 := Scalar.muli v24 c1_i32_4325
  let v4058 : BitVec 32 := Scalar.addi c0_i32_4326 v4057
  v4058.toNat
def k0_dev153 (d0 : Dev nD) : Nat :=
  let c0_i32_4352 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4351 : BitVec 32 := 1#32
  let v4081 : BitVec 32 := Scalar.muli v24 c1_i32_4351
  let v4082 : BitVec 32 := Scalar.addi c0_i32_4352 v4081
  v4082.toNat
def k0_dev154 (d0 : Dev nD) : Nat :=
  let c0_i32_4386 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4385 : BitVec 32 := 1#32
  let v4116 : BitVec 32 := Scalar.muli v13 c1_i32_4385
  let v4117 : BitVec 32 := Scalar.addi c0_i32_4386 v4116
  v4117.toNat
def k0_dev155 (d0 : Dev nD) : Nat :=
  let c0_i32_4416 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4415 : BitVec 32 := 1#32
  let v4143 : BitVec 32 := Scalar.muli v13 c1_i32_4415
  let v4144 : BitVec 32 := Scalar.addi c0_i32_4416 v4143
  v4144.toNat
def k0_dev156 (d0 : Dev nD) : Nat :=
  let c0_i32_4438 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4437 : BitVec 32 := 1#32
  let v4162 : BitVec 32 := Scalar.muli v24 c1_i32_4437
  let v4163 : BitVec 32 := Scalar.addi c0_i32_4438 v4162
  v4163.toNat
def k0_dev157 (d0 : Dev nD) : Nat :=
  let c0_i32_4468 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4467 : BitVec 32 := 1#32
  let v4189 : BitVec 32 := Scalar.muli v24 c1_i32_4467
  let v4190 : BitVec 32 := Scalar.addi c0_i32_4468 v4189
  v4190.toNat
def k0_dev158 (d0 : Dev nD) : Nat :=
  let c0_i32_4490 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4489 : BitVec 32 := 1#32
  let v4208 : BitVec 32 := Scalar.muli v13 c1_i32_4489
  let v4209 : BitVec 32 := Scalar.addi c0_i32_4490 v4208
  v4209.toNat
def k0_dev159 (d0 : Dev nD) : Nat :=
  let c0_i32_4520 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4519 : BitVec 32 := 1#32
  let v4235 : BitVec 32 := Scalar.muli v13 c1_i32_4519
  let v4236 : BitVec 32 := Scalar.addi c0_i32_4520 v4235
  v4236.toNat
def k0_dev160 (d0 : Dev nD) : Nat :=
  let c0_i32_4542 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4541 : BitVec 32 := 1#32
  let v4254 : BitVec 32 := Scalar.muli v24 c1_i32_4541
  let v4255 : BitVec 32 := Scalar.addi c0_i32_4542 v4254
  v4255.toNat
def k0_dev161 (d0 : Dev nD) : Nat :=
  let c0_i32_4572 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4571 : BitVec 32 := 1#32
  let v4281 : BitVec 32 := Scalar.muli v24 c1_i32_4571
  let v4282 : BitVec 32 := Scalar.addi c0_i32_4572 v4281
  v4282.toNat
def k0_dev162 (d0 : Dev nD) : Nat :=
  let c0_i32_4594 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4593 : BitVec 32 := 1#32
  let v4300 : BitVec 32 := Scalar.muli v13 c1_i32_4593
  let v4301 : BitVec 32 := Scalar.addi c0_i32_4594 v4300
  v4301.toNat
def k0_dev163 (d0 : Dev nD) : Nat :=
  let c0_i32_4624 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4623 : BitVec 32 := 1#32
  let v4327 : BitVec 32 := Scalar.muli v13 c1_i32_4623
  let v4328 : BitVec 32 := Scalar.addi c0_i32_4624 v4327
  v4328.toNat
def k0_dev164 (d0 : Dev nD) : Nat :=
  let c0_i32_4646 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4645 : BitVec 32 := 1#32
  let v4346 : BitVec 32 := Scalar.muli v24 c1_i32_4645
  let v4347 : BitVec 32 := Scalar.addi c0_i32_4646 v4346
  v4347.toNat
def k0_dev165 (d0 : Dev nD) : Nat :=
  let c0_i32_4676 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4675 : BitVec 32 := 1#32
  let v4373 : BitVec 32 := Scalar.muli v24 c1_i32_4675
  let v4374 : BitVec 32 := Scalar.addi c0_i32_4676 v4373
  v4374.toNat
def k0_dev166 (d0 : Dev nD) : Nat :=
  let c0_i32_4698 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4697 : BitVec 32 := 1#32
  let v4392 : BitVec 32 := Scalar.muli v13 c1_i32_4697
  let v4393 : BitVec 32 := Scalar.addi c0_i32_4698 v4392
  v4393.toNat
def k0_dev167 (d0 : Dev nD) : Nat :=
  let c0_i32_4728 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4727 : BitVec 32 := 1#32
  let v4419 : BitVec 32 := Scalar.muli v13 c1_i32_4727
  let v4420 : BitVec 32 := Scalar.addi c0_i32_4728 v4419
  v4420.toNat
def k0_dev168 (d0 : Dev nD) : Nat :=
  let c0_i32_4750 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4749 : BitVec 32 := 1#32
  let v4438 : BitVec 32 := Scalar.muli v24 c1_i32_4749
  let v4439 : BitVec 32 := Scalar.addi c0_i32_4750 v4438
  v4439.toNat
def k0_dev169 (d0 : Dev nD) : Nat :=
  let c0_i32_4780 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4779 : BitVec 32 := 1#32
  let v4465 : BitVec 32 := Scalar.muli v24 c1_i32_4779
  let v4466 : BitVec 32 := Scalar.addi c0_i32_4780 v4465
  v4466.toNat
def k0_dev170 (d0 : Dev nD) : Nat :=
  let c0_i32_4802 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4801 : BitVec 32 := 1#32
  let v4484 : BitVec 32 := Scalar.muli v13 c1_i32_4801
  let v4485 : BitVec 32 := Scalar.addi c0_i32_4802 v4484
  v4485.toNat
def k0_dev171 (d0 : Dev nD) : Nat :=
  let c0_i32_4832 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4831 : BitVec 32 := 1#32
  let v4511 : BitVec 32 := Scalar.muli v13 c1_i32_4831
  let v4512 : BitVec 32 := Scalar.addi c0_i32_4832 v4511
  v4512.toNat
def k0_dev172 (d0 : Dev nD) : Nat :=
  let c0_i32_4854 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4853 : BitVec 32 := 1#32
  let v4530 : BitVec 32 := Scalar.muli v24 c1_i32_4853
  let v4531 : BitVec 32 := Scalar.addi c0_i32_4854 v4530
  v4531.toNat
def k0_dev173 (d0 : Dev nD) : Nat :=
  let c0_i32_4884 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4883 : BitVec 32 := 1#32
  let v4557 : BitVec 32 := Scalar.muli v24 c1_i32_4883
  let v4558 : BitVec 32 := Scalar.addi c0_i32_4884 v4557
  v4558.toNat
def k0_dev174 (d0 : Dev nD) : Nat :=
  let c0_i32_4906 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4905 : BitVec 32 := 1#32
  let v4576 : BitVec 32 := Scalar.muli v13 c1_i32_4905
  let v4577 : BitVec 32 := Scalar.addi c0_i32_4906 v4576
  v4577.toNat
def k0_dev175 (d0 : Dev nD) : Nat :=
  let c0_i32_4936 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4935 : BitVec 32 := 1#32
  let v4603 : BitVec 32 := Scalar.muli v13 c1_i32_4935
  let v4604 : BitVec 32 := Scalar.addi c0_i32_4936 v4603
  v4604.toNat
def k0_dev176 (d0 : Dev nD) : Nat :=
  let c0_i32_4958 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4957 : BitVec 32 := 1#32
  let v4622 : BitVec 32 := Scalar.muli v24 c1_i32_4957
  let v4623 : BitVec 32 := Scalar.addi c0_i32_4958 v4622
  v4623.toNat
def k0_dev177 (d0 : Dev nD) : Nat :=
  let c0_i32_4988 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4987 : BitVec 32 := 1#32
  let v4649 : BitVec 32 := Scalar.muli v24 c1_i32_4987
  let v4650 : BitVec 32 := Scalar.addi c0_i32_4988 v4649
  v4650.toNat
def k0_dev178 (d0 : Dev nD) : Nat :=
  let c0_i32_5010 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5009 : BitVec 32 := 1#32
  let v4668 : BitVec 32 := Scalar.muli v13 c1_i32_5009
  let v4669 : BitVec 32 := Scalar.addi c0_i32_5010 v4668
  v4669.toNat
def k0_dev179 (d0 : Dev nD) : Nat :=
  let c0_i32_5040 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5039 : BitVec 32 := 1#32
  let v4695 : BitVec 32 := Scalar.muli v13 c1_i32_5039
  let v4696 : BitVec 32 := Scalar.addi c0_i32_5040 v4695
  v4696.toNat
def k0_dev180 (d0 : Dev nD) : Nat :=
  let c0_i32_5062 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5061 : BitVec 32 := 1#32
  let v4714 : BitVec 32 := Scalar.muli v24 c1_i32_5061
  let v4715 : BitVec 32 := Scalar.addi c0_i32_5062 v4714
  v4715.toNat
def k0_dev181 (d0 : Dev nD) : Nat :=
  let c0_i32_5092 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5091 : BitVec 32 := 1#32
  let v4741 : BitVec 32 := Scalar.muli v24 c1_i32_5091
  let v4742 : BitVec 32 := Scalar.addi c0_i32_5092 v4741
  v4742.toNat
def k0_dev182 (d0 : Dev nD) : Nat :=
  let c0_i32_5114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5113 : BitVec 32 := 1#32
  let v4760 : BitVec 32 := Scalar.muli v13 c1_i32_5113
  let v4761 : BitVec 32 := Scalar.addi c0_i32_5114 v4760
  v4761.toNat
def k0_dev183 (d0 : Dev nD) : Nat :=
  let c0_i32_5144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5143 : BitVec 32 := 1#32
  let v4787 : BitVec 32 := Scalar.muli v13 c1_i32_5143
  let v4788 : BitVec 32 := Scalar.addi c0_i32_5144 v4787
  v4788.toNat
def k0_dev184 (d0 : Dev nD) : Nat :=
  let c0_i32_5166 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5165 : BitVec 32 := 1#32
  let v4806 : BitVec 32 := Scalar.muli v24 c1_i32_5165
  let v4807 : BitVec 32 := Scalar.addi c0_i32_5166 v4806
  v4807.toNat
def k0_dev185 (d0 : Dev nD) : Nat :=
  let c0_i32_5196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5195 : BitVec 32 := 1#32
  let v4833 : BitVec 32 := Scalar.muli v24 c1_i32_5195
  let v4834 : BitVec 32 := Scalar.addi c0_i32_5196 v4833
  v4834.toNat
def k0_dev186 (d0 : Dev nD) : Nat :=
  let c0_i32_5218 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5217 : BitVec 32 := 1#32
  let v4852 : BitVec 32 := Scalar.muli v13 c1_i32_5217
  let v4853 : BitVec 32 := Scalar.addi c0_i32_5218 v4852
  v4853.toNat
def k0_dev187 (d0 : Dev nD) : Nat :=
  let c0_i32_5248 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5247 : BitVec 32 := 1#32
  let v4879 : BitVec 32 := Scalar.muli v13 c1_i32_5247
  let v4880 : BitVec 32 := Scalar.addi c0_i32_5248 v4879
  v4880.toNat
def k0_dev188 (d0 : Dev nD) : Nat :=
  let c0_i32_5284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5283 : BitVec 32 := 1#32
  let v4910 : BitVec 32 := Scalar.muli v24 c1_i32_5283
  let v4911 : BitVec 32 := Scalar.addi c0_i32_5284 v4910
  v4911.toNat
def k0_dev189 (d0 : Dev nD) : Nat :=
  let c0_i32_5325 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5324 : BitVec 32 := 1#32
  let v4952 : BitVec 32 := Scalar.muli v24 c1_i32_5324
  let v4953 : BitVec 32 := Scalar.addi c0_i32_5325 v4952
  v4953.toNat
def k0_dev190 (d0 : Dev nD) : Nat :=
  let c0_i32_5362 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5361 : BitVec 32 := 1#32
  let v4983 : BitVec 32 := Scalar.muli v13 c1_i32_5361
  let v4984 : BitVec 32 := Scalar.addi c0_i32_5362 v4983
  v4984.toNat
def k0_dev191 (d0 : Dev nD) : Nat :=
  let c0_i32_5403 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5402 : BitVec 32 := 1#32
  let v5025 : BitVec 32 := Scalar.muli v13 c1_i32_5402
  let v5026 : BitVec 32 := Scalar.addi c0_i32_5403 v5025
  v5026.toNat
def k0_dev192 (d0 : Dev nD) : Nat :=
  let c0_i32_5440 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5439 : BitVec 32 := 1#32
  let v5056 : BitVec 32 := Scalar.muli v24 c1_i32_5439
  let v5057 : BitVec 32 := Scalar.addi c0_i32_5440 v5056
  v5057.toNat
def k0_dev193 (d0 : Dev nD) : Nat :=
  let c0_i32_5481 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5480 : BitVec 32 := 1#32
  let v5098 : BitVec 32 := Scalar.muli v24 c1_i32_5480
  let v5099 : BitVec 32 := Scalar.addi c0_i32_5481 v5098
  v5099.toNat
def k0_dev194 (d0 : Dev nD) : Nat :=
  let c0_i32_5518 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5517 : BitVec 32 := 1#32
  let v5129 : BitVec 32 := Scalar.muli v13 c1_i32_5517
  let v5130 : BitVec 32 := Scalar.addi c0_i32_5518 v5129
  v5130.toNat
def k0_dev195 (d0 : Dev nD) : Nat :=
  let c0_i32_5559 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5558 : BitVec 32 := 1#32
  let v5171 : BitVec 32 := Scalar.muli v13 c1_i32_5558
  let v5172 : BitVec 32 := Scalar.addi c0_i32_5559 v5171
  v5172.toNat
def k0_dev196 (d0 : Dev nD) : Nat :=
  let c0_i32_5596 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5595 : BitVec 32 := 1#32
  let v5202 : BitVec 32 := Scalar.muli v24 c1_i32_5595
  let v5203 : BitVec 32 := Scalar.addi c0_i32_5596 v5202
  v5203.toNat
def k0_dev197 (d0 : Dev nD) : Nat :=
  let c0_i32_5637 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5636 : BitVec 32 := 1#32
  let v5244 : BitVec 32 := Scalar.muli v24 c1_i32_5636
  let v5245 : BitVec 32 := Scalar.addi c0_i32_5637 v5244
  v5245.toNat
def k0_dev198 (d0 : Dev nD) : Nat :=
  let c0_i32_5674 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5673 : BitVec 32 := 1#32
  let v5275 : BitVec 32 := Scalar.muli v13 c1_i32_5673
  let v5276 : BitVec 32 := Scalar.addi c0_i32_5674 v5275
  v5276.toNat
def k0_dev199 (d0 : Dev nD) : Nat :=
  let c0_i32_5715 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5714 : BitVec 32 := 1#32
  let v5317 : BitVec 32 := Scalar.muli v13 c1_i32_5714
  let v5318 : BitVec 32 := Scalar.addi c0_i32_5715 v5317
  v5318.toNat
def k0_dev200 (d0 : Dev nD) : Nat :=
  let c0_i32_5752 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5751 : BitVec 32 := 1#32
  let v5348 : BitVec 32 := Scalar.muli v24 c1_i32_5751
  let v5349 : BitVec 32 := Scalar.addi c0_i32_5752 v5348
  v5349.toNat
def k0_dev201 (d0 : Dev nD) : Nat :=
  let c0_i32_5793 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5792 : BitVec 32 := 1#32
  let v5390 : BitVec 32 := Scalar.muli v24 c1_i32_5792
  let v5391 : BitVec 32 := Scalar.addi c0_i32_5793 v5390
  v5391.toNat
def k0_dev202 (d0 : Dev nD) : Nat :=
  let c0_i32_5830 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5829 : BitVec 32 := 1#32
  let v5421 : BitVec 32 := Scalar.muli v13 c1_i32_5829
  let v5422 : BitVec 32 := Scalar.addi c0_i32_5830 v5421
  v5422.toNat
def k0_dev203 (d0 : Dev nD) : Nat :=
  let c0_i32_5867 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5866 : BitVec 32 := 1#32
  let v5460 : BitVec 32 := Scalar.muli v13 c1_i32_5866
  let v5461 : BitVec 32 := Scalar.addi c0_i32_5867 v5460
  v5461.toNat
def k0_dev204 (d0 : Dev nD) : Nat :=
  let c0_i32_5884 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5883 : BitVec 32 := 1#32
  let v5470 : BitVec 32 := Scalar.muli v24 c1_i32_5883
  let v5471 : BitVec 32 := Scalar.addi c0_i32_5884 v5470
  v5471.toNat
def k0_dev205 (d0 : Dev nD) : Nat :=
  let c0_i32_5921 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5920 : BitVec 32 := 1#32
  let v5509 : BitVec 32 := Scalar.muli v24 c1_i32_5920
  let v5510 : BitVec 32 := Scalar.addi c0_i32_5921 v5509
  v5510.toNat
def k0_dev206 (d0 : Dev nD) : Nat :=
  let c0_i32_5938 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5937 : BitVec 32 := 1#32
  let v5519 : BitVec 32 := Scalar.muli v13 c1_i32_5937
  let v5520 : BitVec 32 := Scalar.addi c0_i32_5938 v5519
  v5520.toNat
def k0_dev207 (d0 : Dev nD) : Nat :=
  let c0_i32_5975 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5974 : BitVec 32 := 1#32
  let v5558 : BitVec 32 := Scalar.muli v13 c1_i32_5974
  let v5559 : BitVec 32 := Scalar.addi c0_i32_5975 v5558
  v5559.toNat
def k0_dev208 (d0 : Dev nD) : Nat :=
  let c0_i32_5992 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5991 : BitVec 32 := 1#32
  let v5568 : BitVec 32 := Scalar.muli v24 c1_i32_5991
  let v5569 : BitVec 32 := Scalar.addi c0_i32_5992 v5568
  v5569.toNat
def k0_dev209 (d0 : Dev nD) : Nat :=
  let c0_i32_6029 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6028 : BitVec 32 := 1#32
  let v5607 : BitVec 32 := Scalar.muli v24 c1_i32_6028
  let v5608 : BitVec 32 := Scalar.addi c0_i32_6029 v5607
  v5608.toNat
def k0_dev210 (d0 : Dev nD) : Nat :=
  let c0_i32_6046 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6045 : BitVec 32 := 1#32
  let v5617 : BitVec 32 := Scalar.muli v13 c1_i32_6045
  let v5618 : BitVec 32 := Scalar.addi c0_i32_6046 v5617
  v5618.toNat
def k0_dev211 (d0 : Dev nD) : Nat :=
  let c0_i32_6083 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6082 : BitVec 32 := 1#32
  let v5656 : BitVec 32 := Scalar.muli v13 c1_i32_6082
  let v5657 : BitVec 32 := Scalar.addi c0_i32_6083 v5656
  v5657.toNat
def k0_dev212 (d0 : Dev nD) : Nat :=
  let c0_i32_6100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6099 : BitVec 32 := 1#32
  let v5666 : BitVec 32 := Scalar.muli v24 c1_i32_6099
  let v5667 : BitVec 32 := Scalar.addi c0_i32_6100 v5666
  v5667.toNat
def k0_dev213 (d0 : Dev nD) : Nat :=
  let c0_i32_6137 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6136 : BitVec 32 := 1#32
  let v5705 : BitVec 32 := Scalar.muli v24 c1_i32_6136
  let v5706 : BitVec 32 := Scalar.addi c0_i32_6137 v5705
  v5706.toNat
def k0_dev214 (d0 : Dev nD) : Nat :=
  let c0_i32_6154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6153 : BitVec 32 := 1#32
  let v5715 : BitVec 32 := Scalar.muli v13 c1_i32_6153
  let v5716 : BitVec 32 := Scalar.addi c0_i32_6154 v5715
  v5716.toNat
def k0_dev215 (d0 : Dev nD) : Nat :=
  let c0_i32_6191 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6190 : BitVec 32 := 1#32
  let v5754 : BitVec 32 := Scalar.muli v13 c1_i32_6190
  let v5755 : BitVec 32 := Scalar.addi c0_i32_6191 v5754
  v5755.toNat
def k0_dev216 (d0 : Dev nD) : Nat :=
  let c0_i32_6208 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6207 : BitVec 32 := 1#32
  let v5764 : BitVec 32 := Scalar.muli v24 c1_i32_6207
  let v5765 : BitVec 32 := Scalar.addi c0_i32_6208 v5764
  v5765.toNat
def k0_dev217 (d0 : Dev nD) : Nat :=
  let c0_i32_6245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6244 : BitVec 32 := 1#32
  let v5803 : BitVec 32 := Scalar.muli v24 c1_i32_6244
  let v5804 : BitVec 32 := Scalar.addi c0_i32_6245 v5803
  v5804.toNat
def k0_dev218 (d0 : Dev nD) : Nat :=
  let c0_i32_6262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6261 : BitVec 32 := 1#32
  let v5813 : BitVec 32 := Scalar.muli v13 c1_i32_6261
  let v5814 : BitVec 32 := Scalar.addi c0_i32_6262 v5813
  v5814.toNat
def k0_dev219 (d0 : Dev nD) : Nat :=
  let c0_i32_6299 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6298 : BitVec 32 := 1#32
  let v5852 : BitVec 32 := Scalar.muli v13 c1_i32_6298
  let v5853 : BitVec 32 := Scalar.addi c0_i32_6299 v5852
  v5853.toNat
def k0_dev220 (d0 : Dev nD) : Nat :=
  let c0_i32_6316 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6315 : BitVec 32 := 1#32
  let v5862 : BitVec 32 := Scalar.muli v24 c1_i32_6315
  let v5863 : BitVec 32 := Scalar.addi c0_i32_6316 v5862
  v5863.toNat
def k0_dev221 (d0 : Dev nD) : Nat :=
  let c0_i32_6353 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6352 : BitVec 32 := 1#32
  let v5901 : BitVec 32 := Scalar.muli v24 c1_i32_6352
  let v5902 : BitVec 32 := Scalar.addi c0_i32_6353 v5901
  v5902.toNat
def k0_dev222 (d0 : Dev nD) : Nat :=
  let c0_i32_6370 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6369 : BitVec 32 := 1#32
  let v5911 : BitVec 32 := Scalar.muli v13 c1_i32_6369
  let v5912 : BitVec 32 := Scalar.addi c0_i32_6370 v5911
  v5912.toNat
def k0_dev223 (d0 : Dev nD) : Nat :=
  let c0_i32_6407 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6406 : BitVec 32 := 1#32
  let v5950 : BitVec 32 := Scalar.muli v13 c1_i32_6406
  let v5951 : BitVec 32 := Scalar.addi c0_i32_6407 v5950
  v5951.toNat
def k0_dev224 (d0 : Dev nD) : Nat :=
  let c0_i32_6424 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6423 : BitVec 32 := 1#32
  let v5960 : BitVec 32 := Scalar.muli v24 c1_i32_6423
  let v5961 : BitVec 32 := Scalar.addi c0_i32_6424 v5960
  v5961.toNat
def k0_dev225 (d0 : Dev nD) : Nat :=
  let c0_i32_6461 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6460 : BitVec 32 := 1#32
  let v5999 : BitVec 32 := Scalar.muli v24 c1_i32_6460
  let v6000 : BitVec 32 := Scalar.addi c0_i32_6461 v5999
  v6000.toNat
def k0_dev226 (d0 : Dev nD) : Nat :=
  let c0_i32_6478 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6477 : BitVec 32 := 1#32
  let v6009 : BitVec 32 := Scalar.muli v13 c1_i32_6477
  let v6010 : BitVec 32 := Scalar.addi c0_i32_6478 v6009
  v6010.toNat
def k0_dev227 (d0 : Dev nD) : Nat :=
  let c0_i32_6515 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6514 : BitVec 32 := 1#32
  let v6048 : BitVec 32 := Scalar.muli v13 c1_i32_6514
  let v6049 : BitVec 32 := Scalar.addi c0_i32_6515 v6048
  v6049.toNat
def k0_dev228 (d0 : Dev nD) : Nat :=
  let c0_i32_6532 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6531 : BitVec 32 := 1#32
  let v6058 : BitVec 32 := Scalar.muli v24 c1_i32_6531
  let v6059 : BitVec 32 := Scalar.addi c0_i32_6532 v6058
  v6059.toNat
def k0_dev229 (d0 : Dev nD) : Nat :=
  let c0_i32_6569 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6568 : BitVec 32 := 1#32
  let v6097 : BitVec 32 := Scalar.muli v24 c1_i32_6568
  let v6098 : BitVec 32 := Scalar.addi c0_i32_6569 v6097
  v6098.toNat
def k0_dev230 (d0 : Dev nD) : Nat :=
  let c0_i32_6586 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6585 : BitVec 32 := 1#32
  let v6107 : BitVec 32 := Scalar.muli v13 c1_i32_6585
  let v6108 : BitVec 32 := Scalar.addi c0_i32_6586 v6107
  v6108.toNat
def k0_dev231 (d0 : Dev nD) : Nat :=
  let c0_i32_6623 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6622 : BitVec 32 := 1#32
  let v6146 : BitVec 32 := Scalar.muli v13 c1_i32_6622
  let v6147 : BitVec 32 := Scalar.addi c0_i32_6623 v6146
  v6147.toNat
def k0_dev232 (d0 : Dev nD) : Nat :=
  let c0_i32_6640 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6639 : BitVec 32 := 1#32
  let v6156 : BitVec 32 := Scalar.muli v24 c1_i32_6639
  let v6157 : BitVec 32 := Scalar.addi c0_i32_6640 v6156
  v6157.toNat
def k0_dev233 (d0 : Dev nD) : Nat :=
  let c0_i32_6677 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6676 : BitVec 32 := 1#32
  let v6195 : BitVec 32 := Scalar.muli v24 c1_i32_6676
  let v6196 : BitVec 32 := Scalar.addi c0_i32_6677 v6195
  v6196.toNat
def k0_dev234 (d0 : Dev nD) : Nat :=
  let c0_i32_6694 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6693 : BitVec 32 := 1#32
  let v6205 : BitVec 32 := Scalar.muli v13 c1_i32_6693
  let v6206 : BitVec 32 := Scalar.addi c0_i32_6694 v6205
  v6206.toNat
def k0_dev235 (d0 : Dev nD) : Nat :=
  let c0_i32_6731 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6730 : BitVec 32 := 1#32
  let v6244 : BitVec 32 := Scalar.muli v13 c1_i32_6730
  let v6245 : BitVec 32 := Scalar.addi c0_i32_6731 v6244
  v6245.toNat
def k0_dev236 (d0 : Dev nD) : Nat :=
  let c0_i32_6765 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6764 : BitVec 32 := 1#32
  let v6279 : BitVec 32 := Scalar.muli v24 c1_i32_6764
  let v6280 : BitVec 32 := Scalar.addi c0_i32_6765 v6279
  v6280.toNat
def k0_dev237 (d0 : Dev nD) : Nat :=
  let c0_i32_6791 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6790 : BitVec 32 := 1#32
  let v6303 : BitVec 32 := Scalar.muli v24 c1_i32_6790
  let v6304 : BitVec 32 := Scalar.addi c0_i32_6791 v6303
  v6304.toNat
def k0_dev238 (d0 : Dev nD) : Nat :=
  let c0_i32_6825 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6824 : BitVec 32 := 1#32
  let v6338 : BitVec 32 := Scalar.muli v13 c1_i32_6824
  let v6339 : BitVec 32 := Scalar.addi c0_i32_6825 v6338
  v6339.toNat
def k0_dev239 (d0 : Dev nD) : Nat :=
  let c0_i32_6851 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6850 : BitVec 32 := 1#32
  let v6362 : BitVec 32 := Scalar.muli v13 c1_i32_6850
  let v6363 : BitVec 32 := Scalar.addi c0_i32_6851 v6362
  v6363.toNat
def k0_dev240 (d0 : Dev nD) : Nat :=
  let c0_i32_6885 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6884 : BitVec 32 := 1#32
  let v6397 : BitVec 32 := Scalar.muli v24 c1_i32_6884
  let v6398 : BitVec 32 := Scalar.addi c0_i32_6885 v6397
  v6398.toNat
def k0_dev241 (d0 : Dev nD) : Nat :=
  let c0_i32_6911 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6910 : BitVec 32 := 1#32
  let v6421 : BitVec 32 := Scalar.muli v24 c1_i32_6910
  let v6422 : BitVec 32 := Scalar.addi c0_i32_6911 v6421
  v6422.toNat
def k0_dev242 (d0 : Dev nD) : Nat :=
  let c0_i32_6945 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6944 : BitVec 32 := 1#32
  let v6456 : BitVec 32 := Scalar.muli v13 c1_i32_6944
  let v6457 : BitVec 32 := Scalar.addi c0_i32_6945 v6456
  v6457.toNat
def k0_dev243 (d0 : Dev nD) : Nat :=
  let c0_i32_6971 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6970 : BitVec 32 := 1#32
  let v6480 : BitVec 32 := Scalar.muli v13 c1_i32_6970
  let v6481 : BitVec 32 := Scalar.addi c0_i32_6971 v6480
  v6481.toNat
def k0_dev244 (d0 : Dev nD) : Nat :=
  let c0_i32_7005 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7004 : BitVec 32 := 1#32
  let v6515 : BitVec 32 := Scalar.muli v24 c1_i32_7004
  let v6516 : BitVec 32 := Scalar.addi c0_i32_7005 v6515
  v6516.toNat
def k0_dev245 (d0 : Dev nD) : Nat :=
  let c0_i32_7031 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7030 : BitVec 32 := 1#32
  let v6539 : BitVec 32 := Scalar.muli v24 c1_i32_7030
  let v6540 : BitVec 32 := Scalar.addi c0_i32_7031 v6539
  v6540.toNat
def k0_dev246 (d0 : Dev nD) : Nat :=
  let c0_i32_7065 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7064 : BitVec 32 := 1#32
  let v6574 : BitVec 32 := Scalar.muli v13 c1_i32_7064
  let v6575 : BitVec 32 := Scalar.addi c0_i32_7065 v6574
  v6575.toNat
def k0_dev247 (d0 : Dev nD) : Nat :=
  let c0_i32_7091 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7090 : BitVec 32 := 1#32
  let v6598 : BitVec 32 := Scalar.muli v13 c1_i32_7090
  let v6599 : BitVec 32 := Scalar.addi c0_i32_7091 v6598
  v6599.toNat
def k0_dev248 (d0 : Dev nD) : Nat :=
  let c0_i32_7125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7124 : BitVec 32 := 1#32
  let v6633 : BitVec 32 := Scalar.muli v24 c1_i32_7124
  let v6634 : BitVec 32 := Scalar.addi c0_i32_7125 v6633
  v6634.toNat
def k0_dev249 (d0 : Dev nD) : Nat :=
  let c0_i32_7151 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7150 : BitVec 32 := 1#32
  let v6657 : BitVec 32 := Scalar.muli v24 c1_i32_7150
  let v6658 : BitVec 32 := Scalar.addi c0_i32_7151 v6657
  v6658.toNat
def k0_dev250 (d0 : Dev nD) : Nat :=
  let c0_i32_7185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7184 : BitVec 32 := 1#32
  let v6692 : BitVec 32 := Scalar.muli v13 c1_i32_7184
  let v6693 : BitVec 32 := Scalar.addi c0_i32_7185 v6692
  v6693.toNat
def k0_dev251 (d0 : Dev nD) : Nat :=
  let c0_i32_7215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7214 : BitVec 32 := 1#32
  let v6719 : BitVec 32 := Scalar.muli v13 c1_i32_7214
  let v6720 : BitVec 32 := Scalar.addi c0_i32_7215 v6719
  v6720.toNat
def k0_dev252 (d0 : Dev nD) : Nat :=
  let c0_i32_7237 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7236 : BitVec 32 := 1#32
  let v6738 : BitVec 32 := Scalar.muli v24 c1_i32_7236
  let v6739 : BitVec 32 := Scalar.addi c0_i32_7237 v6738
  v6739.toNat
def k0_dev253 (d0 : Dev nD) : Nat :=
  let c0_i32_7267 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7266 : BitVec 32 := 1#32
  let v6765 : BitVec 32 := Scalar.muli v24 c1_i32_7266
  let v6766 : BitVec 32 := Scalar.addi c0_i32_7267 v6765
  v6766.toNat
def k0_dev254 (d0 : Dev nD) : Nat :=
  let c0_i32_7289 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7288 : BitVec 32 := 1#32
  let v6784 : BitVec 32 := Scalar.muli v13 c1_i32_7288
  let v6785 : BitVec 32 := Scalar.addi c0_i32_7289 v6784
  v6785.toNat
def k0_dev255 (d0 : Dev nD) : Nat :=
  let c0_i32_7319 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7318 : BitVec 32 := 1#32
  let v6811 : BitVec 32 := Scalar.muli v13 c1_i32_7318
  let v6812 : BitVec 32 := Scalar.addi c0_i32_7319 v6811
  v6812.toNat
def k0_dev256 (d0 : Dev nD) : Nat :=
  let c0_i32_7341 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7340 : BitVec 32 := 1#32
  let v6830 : BitVec 32 := Scalar.muli v24 c1_i32_7340
  let v6831 : BitVec 32 := Scalar.addi c0_i32_7341 v6830
  v6831.toNat
def k0_dev257 (d0 : Dev nD) : Nat :=
  let c0_i32_7371 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7370 : BitVec 32 := 1#32
  let v6857 : BitVec 32 := Scalar.muli v24 c1_i32_7370
  let v6858 : BitVec 32 := Scalar.addi c0_i32_7371 v6857
  v6858.toNat
def k0_dev258 (d0 : Dev nD) : Nat :=
  let c0_i32_7393 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7392 : BitVec 32 := 1#32
  let v6876 : BitVec 32 := Scalar.muli v13 c1_i32_7392
  let v6877 : BitVec 32 := Scalar.addi c0_i32_7393 v6876
  v6877.toNat
def k0_dev259 (d0 : Dev nD) : Nat :=
  let c0_i32_7423 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7422 : BitVec 32 := 1#32
  let v6903 : BitVec 32 := Scalar.muli v13 c1_i32_7422
  let v6904 : BitVec 32 := Scalar.addi c0_i32_7423 v6903
  v6904.toNat
def k0_dev260 (d0 : Dev nD) : Nat :=
  let c0_i32_7445 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7444 : BitVec 32 := 1#32
  let v6922 : BitVec 32 := Scalar.muli v24 c1_i32_7444
  let v6923 : BitVec 32 := Scalar.addi c0_i32_7445 v6922
  v6923.toNat
def k0_dev261 (d0 : Dev nD) : Nat :=
  let c0_i32_7475 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7474 : BitVec 32 := 1#32
  let v6949 : BitVec 32 := Scalar.muli v24 c1_i32_7474
  let v6950 : BitVec 32 := Scalar.addi c0_i32_7475 v6949
  v6950.toNat
def k0_dev262 (d0 : Dev nD) : Nat :=
  let c0_i32_7497 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7496 : BitVec 32 := 1#32
  let v6968 : BitVec 32 := Scalar.muli v13 c1_i32_7496
  let v6969 : BitVec 32 := Scalar.addi c0_i32_7497 v6968
  v6969.toNat
def k0_dev263 (d0 : Dev nD) : Nat :=
  let c0_i32_7527 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7526 : BitVec 32 := 1#32
  let v6995 : BitVec 32 := Scalar.muli v13 c1_i32_7526
  let v6996 : BitVec 32 := Scalar.addi c0_i32_7527 v6995
  v6996.toNat
def k0_dev264 (d0 : Dev nD) : Nat :=
  let c0_i32_7549 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7548 : BitVec 32 := 1#32
  let v7014 : BitVec 32 := Scalar.muli v24 c1_i32_7548
  let v7015 : BitVec 32 := Scalar.addi c0_i32_7549 v7014
  v7015.toNat
def k0_dev265 (d0 : Dev nD) : Nat :=
  let c0_i32_7579 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7578 : BitVec 32 := 1#32
  let v7041 : BitVec 32 := Scalar.muli v24 c1_i32_7578
  let v7042 : BitVec 32 := Scalar.addi c0_i32_7579 v7041
  v7042.toNat
def k0_dev266 (d0 : Dev nD) : Nat :=
  let c0_i32_7601 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7600 : BitVec 32 := 1#32
  let v7060 : BitVec 32 := Scalar.muli v13 c1_i32_7600
  let v7061 : BitVec 32 := Scalar.addi c0_i32_7601 v7060
  v7061.toNat
def k0_dev267 (d0 : Dev nD) : Nat :=
  let c0_i32_7631 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7630 : BitVec 32 := 1#32
  let v7087 : BitVec 32 := Scalar.muli v13 c1_i32_7630
  let v7088 : BitVec 32 := Scalar.addi c0_i32_7631 v7087
  v7088.toNat
def k0_dev268 (d0 : Dev nD) : Nat :=
  let c0_i32_7653 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7652 : BitVec 32 := 1#32
  let v7106 : BitVec 32 := Scalar.muli v24 c1_i32_7652
  let v7107 : BitVec 32 := Scalar.addi c0_i32_7653 v7106
  v7107.toNat
def k0_dev269 (d0 : Dev nD) : Nat :=
  let c0_i32_7683 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7682 : BitVec 32 := 1#32
  let v7133 : BitVec 32 := Scalar.muli v24 c1_i32_7682
  let v7134 : BitVec 32 := Scalar.addi c0_i32_7683 v7133
  v7134.toNat
def k0_dev270 (d0 : Dev nD) : Nat :=
  let c0_i32_7705 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7704 : BitVec 32 := 1#32
  let v7152 : BitVec 32 := Scalar.muli v13 c1_i32_7704
  let v7153 : BitVec 32 := Scalar.addi c0_i32_7705 v7152
  v7153.toNat
def k0_dev271 (d0 : Dev nD) : Nat :=
  let c0_i32_7735 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7734 : BitVec 32 := 1#32
  let v7179 : BitVec 32 := Scalar.muli v13 c1_i32_7734
  let v7180 : BitVec 32 := Scalar.addi c0_i32_7735 v7179
  v7180.toNat
def k0_dev272 (d0 : Dev nD) : Nat :=
  let c0_i32_7757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7756 : BitVec 32 := 1#32
  let v7198 : BitVec 32 := Scalar.muli v24 c1_i32_7756
  let v7199 : BitVec 32 := Scalar.addi c0_i32_7757 v7198
  v7199.toNat
def k0_dev273 (d0 : Dev nD) : Nat :=
  let c0_i32_7787 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7786 : BitVec 32 := 1#32
  let v7225 : BitVec 32 := Scalar.muli v24 c1_i32_7786
  let v7226 : BitVec 32 := Scalar.addi c0_i32_7787 v7225
  v7226.toNat
def k0_dev274 (d0 : Dev nD) : Nat :=
  let c0_i32_7809 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7808 : BitVec 32 := 1#32
  let v7244 : BitVec 32 := Scalar.muli v13 c1_i32_7808
  let v7245 : BitVec 32 := Scalar.addi c0_i32_7809 v7244
  v7245.toNat
def k0_dev275 (d0 : Dev nD) : Nat :=
  let c0_i32_7839 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7838 : BitVec 32 := 1#32
  let v7271 : BitVec 32 := Scalar.muli v13 c1_i32_7838
  let v7272 : BitVec 32 := Scalar.addi c0_i32_7839 v7271
  v7272.toNat
def k0_dev276 (d0 : Dev nD) : Nat :=
  let c0_i32_7861 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7860 : BitVec 32 := 1#32
  let v7290 : BitVec 32 := Scalar.muli v24 c1_i32_7860
  let v7291 : BitVec 32 := Scalar.addi c0_i32_7861 v7290
  v7291.toNat
def k0_dev277 (d0 : Dev nD) : Nat :=
  let c0_i32_7891 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7890 : BitVec 32 := 1#32
  let v7317 : BitVec 32 := Scalar.muli v24 c1_i32_7890
  let v7318 : BitVec 32 := Scalar.addi c0_i32_7891 v7317
  v7318.toNat
def k0_dev278 (d0 : Dev nD) : Nat :=
  let c0_i32_7913 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7912 : BitVec 32 := 1#32
  let v7336 : BitVec 32 := Scalar.muli v13 c1_i32_7912
  let v7337 : BitVec 32 := Scalar.addi c0_i32_7913 v7336
  v7337.toNat
def k0_dev279 (d0 : Dev nD) : Nat :=
  let c0_i32_7943 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7942 : BitVec 32 := 1#32
  let v7363 : BitVec 32 := Scalar.muli v13 c1_i32_7942
  let v7364 : BitVec 32 := Scalar.addi c0_i32_7943 v7363
  v7364.toNat
def k0_dev280 (d0 : Dev nD) : Nat :=
  let c0_i32_7965 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7964 : BitVec 32 := 1#32
  let v7382 : BitVec 32 := Scalar.muli v24 c1_i32_7964
  let v7383 : BitVec 32 := Scalar.addi c0_i32_7965 v7382
  v7383.toNat
def k0_dev281 (d0 : Dev nD) : Nat :=
  let c0_i32_7995 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7994 : BitVec 32 := 1#32
  let v7409 : BitVec 32 := Scalar.muli v24 c1_i32_7994
  let v7410 : BitVec 32 := Scalar.addi c0_i32_7995 v7409
  v7410.toNat
def k0_dev282 (d0 : Dev nD) : Nat :=
  let c0_i32_8017 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8016 : BitVec 32 := 1#32
  let v7428 : BitVec 32 := Scalar.muli v13 c1_i32_8016
  let v7429 : BitVec 32 := Scalar.addi c0_i32_8017 v7428
  v7429.toNat
def k0_dev283 (d0 : Dev nD) : Nat :=
  let c0_i32_8047 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8046 : BitVec 32 := 1#32
  let v7455 : BitVec 32 := Scalar.muli v13 c1_i32_8046
  let v7456 : BitVec 32 := Scalar.addi c0_i32_8047 v7455
  v7456.toNat
def k0_dev284 (d0 : Dev nD) : Nat :=
  let c0_i32_8083 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8082 : BitVec 32 := 1#32
  let v7486 : BitVec 32 := Scalar.muli v24 c1_i32_8082
  let v7487 : BitVec 32 := Scalar.addi c0_i32_8083 v7486
  v7487.toNat
def k0_dev285 (d0 : Dev nD) : Nat :=
  let c0_i32_8124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8123 : BitVec 32 := 1#32
  let v7528 : BitVec 32 := Scalar.muli v24 c1_i32_8123
  let v7529 : BitVec 32 := Scalar.addi c0_i32_8124 v7528
  v7529.toNat
def k0_dev286 (d0 : Dev nD) : Nat :=
  let c0_i32_8161 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8160 : BitVec 32 := 1#32
  let v7559 : BitVec 32 := Scalar.muli v13 c1_i32_8160
  let v7560 : BitVec 32 := Scalar.addi c0_i32_8161 v7559
  v7560.toNat
def k0_dev287 (d0 : Dev nD) : Nat :=
  let c0_i32_8202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8201 : BitVec 32 := 1#32
  let v7601 : BitVec 32 := Scalar.muli v13 c1_i32_8201
  let v7602 : BitVec 32 := Scalar.addi c0_i32_8202 v7601
  v7602.toNat
def k0_dev288 (d0 : Dev nD) : Nat :=
  let c0_i32_8239 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8238 : BitVec 32 := 1#32
  let v7632 : BitVec 32 := Scalar.muli v24 c1_i32_8238
  let v7633 : BitVec 32 := Scalar.addi c0_i32_8239 v7632
  v7633.toNat
def k0_dev289 (d0 : Dev nD) : Nat :=
  let c0_i32_8280 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8279 : BitVec 32 := 1#32
  let v7674 : BitVec 32 := Scalar.muli v24 c1_i32_8279
  let v7675 : BitVec 32 := Scalar.addi c0_i32_8280 v7674
  v7675.toNat
def k0_dev290 (d0 : Dev nD) : Nat :=
  let c0_i32_8317 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8316 : BitVec 32 := 1#32
  let v7705 : BitVec 32 := Scalar.muli v13 c1_i32_8316
  let v7706 : BitVec 32 := Scalar.addi c0_i32_8317 v7705
  v7706.toNat
def k0_dev291 (d0 : Dev nD) : Nat :=
  let c0_i32_8358 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8357 : BitVec 32 := 1#32
  let v7747 : BitVec 32 := Scalar.muli v13 c1_i32_8357
  let v7748 : BitVec 32 := Scalar.addi c0_i32_8358 v7747
  v7748.toNat
def k0_dev292 (d0 : Dev nD) : Nat :=
  let c0_i32_8395 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8394 : BitVec 32 := 1#32
  let v7778 : BitVec 32 := Scalar.muli v24 c1_i32_8394
  let v7779 : BitVec 32 := Scalar.addi c0_i32_8395 v7778
  v7779.toNat
def k0_dev293 (d0 : Dev nD) : Nat :=
  let c0_i32_8436 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8435 : BitVec 32 := 1#32
  let v7820 : BitVec 32 := Scalar.muli v24 c1_i32_8435
  let v7821 : BitVec 32 := Scalar.addi c0_i32_8436 v7820
  v7821.toNat
def k0_dev294 (d0 : Dev nD) : Nat :=
  let c0_i32_8473 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8472 : BitVec 32 := 1#32
  let v7851 : BitVec 32 := Scalar.muli v13 c1_i32_8472
  let v7852 : BitVec 32 := Scalar.addi c0_i32_8473 v7851
  v7852.toNat
def k0_dev295 (d0 : Dev nD) : Nat :=
  let c0_i32_8514 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8513 : BitVec 32 := 1#32
  let v7893 : BitVec 32 := Scalar.muli v13 c1_i32_8513
  let v7894 : BitVec 32 := Scalar.addi c0_i32_8514 v7893
  v7894.toNat
def k0_dev296 (d0 : Dev nD) : Nat :=
  let c0_i32_8551 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8550 : BitVec 32 := 1#32
  let v7924 : BitVec 32 := Scalar.muli v24 c1_i32_8550
  let v7925 : BitVec 32 := Scalar.addi c0_i32_8551 v7924
  v7925.toNat
def k0_dev297 (d0 : Dev nD) : Nat :=
  let c0_i32_8592 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8591 : BitVec 32 := 1#32
  let v7966 : BitVec 32 := Scalar.muli v24 c1_i32_8591
  let v7967 : BitVec 32 := Scalar.addi c0_i32_8592 v7966
  v7967.toNat
def k0_dev298 (d0 : Dev nD) : Nat :=
  let c0_i32_8629 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8628 : BitVec 32 := 1#32
  let v7997 : BitVec 32 := Scalar.muli v13 c1_i32_8628
  let v7998 : BitVec 32 := Scalar.addi c0_i32_8629 v7997
  v7998.toNat
def k0_dev299 (d0 : Dev nD) : Nat :=
  let c0_i32_8666 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8665 : BitVec 32 := 1#32
  let v8036 : BitVec 32 := Scalar.muli v13 c1_i32_8665
  let v8037 : BitVec 32 := Scalar.addi c0_i32_8666 v8036
  v8037.toNat
def k0_dev300 (d0 : Dev nD) : Nat :=
  let c0_i32_8683 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8682 : BitVec 32 := 1#32
  let v8046 : BitVec 32 := Scalar.muli v24 c1_i32_8682
  let v8047 : BitVec 32 := Scalar.addi c0_i32_8683 v8046
  v8047.toNat
def k0_dev301 (d0 : Dev nD) : Nat :=
  let c0_i32_8720 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8719 : BitVec 32 := 1#32
  let v8085 : BitVec 32 := Scalar.muli v24 c1_i32_8719
  let v8086 : BitVec 32 := Scalar.addi c0_i32_8720 v8085
  v8086.toNat
def k0_dev302 (d0 : Dev nD) : Nat :=
  let c0_i32_8737 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8736 : BitVec 32 := 1#32
  let v8095 : BitVec 32 := Scalar.muli v13 c1_i32_8736
  let v8096 : BitVec 32 := Scalar.addi c0_i32_8737 v8095
  v8096.toNat
def k0_dev303 (d0 : Dev nD) : Nat :=
  let c0_i32_8774 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8773 : BitVec 32 := 1#32
  let v8134 : BitVec 32 := Scalar.muli v13 c1_i32_8773
  let v8135 : BitVec 32 := Scalar.addi c0_i32_8774 v8134
  v8135.toNat
def k0_dev304 (d0 : Dev nD) : Nat :=
  let c0_i32_8791 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8790 : BitVec 32 := 1#32
  let v8144 : BitVec 32 := Scalar.muli v24 c1_i32_8790
  let v8145 : BitVec 32 := Scalar.addi c0_i32_8791 v8144
  v8145.toNat
def k0_dev305 (d0 : Dev nD) : Nat :=
  let c0_i32_8828 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8827 : BitVec 32 := 1#32
  let v8183 : BitVec 32 := Scalar.muli v24 c1_i32_8827
  let v8184 : BitVec 32 := Scalar.addi c0_i32_8828 v8183
  v8184.toNat
def k0_dev306 (d0 : Dev nD) : Nat :=
  let c0_i32_8845 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8844 : BitVec 32 := 1#32
  let v8193 : BitVec 32 := Scalar.muli v13 c1_i32_8844
  let v8194 : BitVec 32 := Scalar.addi c0_i32_8845 v8193
  v8194.toNat
def k0_dev307 (d0 : Dev nD) : Nat :=
  let c0_i32_8882 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8881 : BitVec 32 := 1#32
  let v8232 : BitVec 32 := Scalar.muli v13 c1_i32_8881
  let v8233 : BitVec 32 := Scalar.addi c0_i32_8882 v8232
  v8233.toNat
def k0_dev308 (d0 : Dev nD) : Nat :=
  let c0_i32_8899 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8898 : BitVec 32 := 1#32
  let v8242 : BitVec 32 := Scalar.muli v24 c1_i32_8898
  let v8243 : BitVec 32 := Scalar.addi c0_i32_8899 v8242
  v8243.toNat
def k0_dev309 (d0 : Dev nD) : Nat :=
  let c0_i32_8936 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8935 : BitVec 32 := 1#32
  let v8281 : BitVec 32 := Scalar.muli v24 c1_i32_8935
  let v8282 : BitVec 32 := Scalar.addi c0_i32_8936 v8281
  v8282.toNat
def k0_dev310 (d0 : Dev nD) : Nat :=
  let c0_i32_8953 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8952 : BitVec 32 := 1#32
  let v8291 : BitVec 32 := Scalar.muli v13 c1_i32_8952
  let v8292 : BitVec 32 := Scalar.addi c0_i32_8953 v8291
  v8292.toNat
def k0_dev311 (d0 : Dev nD) : Nat :=
  let c0_i32_8990 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8989 : BitVec 32 := 1#32
  let v8330 : BitVec 32 := Scalar.muli v13 c1_i32_8989
  let v8331 : BitVec 32 := Scalar.addi c0_i32_8990 v8330
  v8331.toNat
def k0_dev312 (d0 : Dev nD) : Nat :=
  let c0_i32_9007 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9006 : BitVec 32 := 1#32
  let v8340 : BitVec 32 := Scalar.muli v24 c1_i32_9006
  let v8341 : BitVec 32 := Scalar.addi c0_i32_9007 v8340
  v8341.toNat
def k0_dev313 (d0 : Dev nD) : Nat :=
  let c0_i32_9044 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9043 : BitVec 32 := 1#32
  let v8379 : BitVec 32 := Scalar.muli v24 c1_i32_9043
  let v8380 : BitVec 32 := Scalar.addi c0_i32_9044 v8379
  v8380.toNat
def k0_dev314 (d0 : Dev nD) : Nat :=
  let c0_i32_9061 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9060 : BitVec 32 := 1#32
  let v8389 : BitVec 32 := Scalar.muli v13 c1_i32_9060
  let v8390 : BitVec 32 := Scalar.addi c0_i32_9061 v8389
  v8390.toNat
def k0_dev315 (d0 : Dev nD) : Nat :=
  let c0_i32_9098 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9097 : BitVec 32 := 1#32
  let v8428 : BitVec 32 := Scalar.muli v13 c1_i32_9097
  let v8429 : BitVec 32 := Scalar.addi c0_i32_9098 v8428
  v8429.toNat
def k0_dev316 (d0 : Dev nD) : Nat :=
  let c0_i32_9115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9114 : BitVec 32 := 1#32
  let v8438 : BitVec 32 := Scalar.muli v24 c1_i32_9114
  let v8439 : BitVec 32 := Scalar.addi c0_i32_9115 v8438
  v8439.toNat
def k0_dev317 (d0 : Dev nD) : Nat :=
  let c0_i32_9152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9151 : BitVec 32 := 1#32
  let v8477 : BitVec 32 := Scalar.muli v24 c1_i32_9151
  let v8478 : BitVec 32 := Scalar.addi c0_i32_9152 v8477
  v8478.toNat
def k0_dev318 (d0 : Dev nD) : Nat :=
  let c0_i32_9169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9168 : BitVec 32 := 1#32
  let v8487 : BitVec 32 := Scalar.muli v13 c1_i32_9168
  let v8488 : BitVec 32 := Scalar.addi c0_i32_9169 v8487
  v8488.toNat
def k0_dev319 (d0 : Dev nD) : Nat :=
  let c0_i32_9206 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9205 : BitVec 32 := 1#32
  let v8526 : BitVec 32 := Scalar.muli v13 c1_i32_9205
  let v8527 : BitVec 32 := Scalar.addi c0_i32_9206 v8526
  v8527.toNat
def k0_dev320 (d0 : Dev nD) : Nat :=
  let c0_i32_9223 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9222 : BitVec 32 := 1#32
  let v8536 : BitVec 32 := Scalar.muli v24 c1_i32_9222
  let v8537 : BitVec 32 := Scalar.addi c0_i32_9223 v8536
  v8537.toNat
def k0_dev321 (d0 : Dev nD) : Nat :=
  let c0_i32_9260 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9259 : BitVec 32 := 1#32
  let v8575 : BitVec 32 := Scalar.muli v24 c1_i32_9259
  let v8576 : BitVec 32 := Scalar.addi c0_i32_9260 v8575
  v8576.toNat
def k0_dev322 (d0 : Dev nD) : Nat :=
  let c0_i32_9277 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9276 : BitVec 32 := 1#32
  let v8585 : BitVec 32 := Scalar.muli v13 c1_i32_9276
  let v8586 : BitVec 32 := Scalar.addi c0_i32_9277 v8585
  v8586.toNat
def k0_dev323 (d0 : Dev nD) : Nat :=
  let c0_i32_9314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9313 : BitVec 32 := 1#32
  let v8624 : BitVec 32 := Scalar.muli v13 c1_i32_9313
  let v8625 : BitVec 32 := Scalar.addi c0_i32_9314 v8624
  v8625.toNat
def k0_dev324 (d0 : Dev nD) : Nat :=
  let c0_i32_9331 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9330 : BitVec 32 := 1#32
  let v8634 : BitVec 32 := Scalar.muli v24 c1_i32_9330
  let v8635 : BitVec 32 := Scalar.addi c0_i32_9331 v8634
  v8635.toNat
def k0_dev325 (d0 : Dev nD) : Nat :=
  let c0_i32_9368 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9367 : BitVec 32 := 1#32
  let v8673 : BitVec 32 := Scalar.muli v24 c1_i32_9367
  let v8674 : BitVec 32 := Scalar.addi c0_i32_9368 v8673
  v8674.toNat
def k0_dev326 (d0 : Dev nD) : Nat :=
  let c0_i32_9385 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9384 : BitVec 32 := 1#32
  let v8683 : BitVec 32 := Scalar.muli v13 c1_i32_9384
  let v8684 : BitVec 32 := Scalar.addi c0_i32_9385 v8683
  v8684.toNat
def k0_dev327 (d0 : Dev nD) : Nat :=
  let c0_i32_9422 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9421 : BitVec 32 := 1#32
  let v8722 : BitVec 32 := Scalar.muli v13 c1_i32_9421
  let v8723 : BitVec 32 := Scalar.addi c0_i32_9422 v8722
  v8723.toNat
def k0_dev328 (d0 : Dev nD) : Nat :=
  let c0_i32_9439 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9438 : BitVec 32 := 1#32
  let v8732 : BitVec 32 := Scalar.muli v24 c1_i32_9438
  let v8733 : BitVec 32 := Scalar.addi c0_i32_9439 v8732
  v8733.toNat
def k0_dev329 (d0 : Dev nD) : Nat :=
  let c0_i32_9476 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9475 : BitVec 32 := 1#32
  let v8771 : BitVec 32 := Scalar.muli v24 c1_i32_9475
  let v8772 : BitVec 32 := Scalar.addi c0_i32_9476 v8771
  v8772.toNat
def k0_dev330 (d0 : Dev nD) : Nat :=
  let c0_i32_9493 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9492 : BitVec 32 := 1#32
  let v8781 : BitVec 32 := Scalar.muli v13 c1_i32_9492
  let v8782 : BitVec 32 := Scalar.addi c0_i32_9493 v8781
  v8782.toNat
def k0_dev331 (d0 : Dev nD) : Nat :=
  let c0_i32_9530 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9529 : BitVec 32 := 1#32
  let v8820 : BitVec 32 := Scalar.muli v13 c1_i32_9529
  let v8821 : BitVec 32 := Scalar.addi c0_i32_9530 v8820
  v8821.toNat
def k0_dev332 (d0 : Dev nD) : Nat :=
  let c0_i32_9564 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9563 : BitVec 32 := 1#32
  let v8855 : BitVec 32 := Scalar.muli v24 c1_i32_9563
  let v8856 : BitVec 32 := Scalar.addi c0_i32_9564 v8855
  v8856.toNat
def k0_dev333 (d0 : Dev nD) : Nat :=
  let c0_i32_9590 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9589 : BitVec 32 := 1#32
  let v8879 : BitVec 32 := Scalar.muli v24 c1_i32_9589
  let v8880 : BitVec 32 := Scalar.addi c0_i32_9590 v8879
  v8880.toNat
def k0_dev334 (d0 : Dev nD) : Nat :=
  let c0_i32_9624 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9623 : BitVec 32 := 1#32
  let v8914 : BitVec 32 := Scalar.muli v13 c1_i32_9623
  let v8915 : BitVec 32 := Scalar.addi c0_i32_9624 v8914
  v8915.toNat
def k0_dev335 (d0 : Dev nD) : Nat :=
  let c0_i32_9650 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9649 : BitVec 32 := 1#32
  let v8938 : BitVec 32 := Scalar.muli v13 c1_i32_9649
  let v8939 : BitVec 32 := Scalar.addi c0_i32_9650 v8938
  v8939.toNat
def k0_dev336 (d0 : Dev nD) : Nat :=
  let c0_i32_9684 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9683 : BitVec 32 := 1#32
  let v8973 : BitVec 32 := Scalar.muli v24 c1_i32_9683
  let v8974 : BitVec 32 := Scalar.addi c0_i32_9684 v8973
  v8974.toNat
def k0_dev337 (d0 : Dev nD) : Nat :=
  let c0_i32_9710 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9709 : BitVec 32 := 1#32
  let v8997 : BitVec 32 := Scalar.muli v24 c1_i32_9709
  let v8998 : BitVec 32 := Scalar.addi c0_i32_9710 v8997
  v8998.toNat
def k0_dev338 (d0 : Dev nD) : Nat :=
  let c0_i32_9744 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9743 : BitVec 32 := 1#32
  let v9032 : BitVec 32 := Scalar.muli v13 c1_i32_9743
  let v9033 : BitVec 32 := Scalar.addi c0_i32_9744 v9032
  v9033.toNat
def k0_dev339 (d0 : Dev nD) : Nat :=
  let c0_i32_9770 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9769 : BitVec 32 := 1#32
  let v9056 : BitVec 32 := Scalar.muli v13 c1_i32_9769
  let v9057 : BitVec 32 := Scalar.addi c0_i32_9770 v9056
  v9057.toNat
def k0_dev340 (d0 : Dev nD) : Nat :=
  let c0_i32_9804 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9803 : BitVec 32 := 1#32
  let v9091 : BitVec 32 := Scalar.muli v24 c1_i32_9803
  let v9092 : BitVec 32 := Scalar.addi c0_i32_9804 v9091
  v9092.toNat
def k0_dev341 (d0 : Dev nD) : Nat :=
  let c0_i32_9830 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9829 : BitVec 32 := 1#32
  let v9115 : BitVec 32 := Scalar.muli v24 c1_i32_9829
  let v9116 : BitVec 32 := Scalar.addi c0_i32_9830 v9115
  v9116.toNat
def k0_dev342 (d0 : Dev nD) : Nat :=
  let c0_i32_9864 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9863 : BitVec 32 := 1#32
  let v9150 : BitVec 32 := Scalar.muli v13 c1_i32_9863
  let v9151 : BitVec 32 := Scalar.addi c0_i32_9864 v9150
  v9151.toNat
def k0_dev343 (d0 : Dev nD) : Nat :=
  let c0_i32_9890 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9889 : BitVec 32 := 1#32
  let v9174 : BitVec 32 := Scalar.muli v13 c1_i32_9889
  let v9175 : BitVec 32 := Scalar.addi c0_i32_9890 v9174
  v9175.toNat
def k0_dev344 (d0 : Dev nD) : Nat :=
  let c0_i32_9924 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9923 : BitVec 32 := 1#32
  let v9209 : BitVec 32 := Scalar.muli v24 c1_i32_9923
  let v9210 : BitVec 32 := Scalar.addi c0_i32_9924 v9209
  v9210.toNat
def k0_dev345 (d0 : Dev nD) : Nat :=
  let c0_i32_9950 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9949 : BitVec 32 := 1#32
  let v9233 : BitVec 32 := Scalar.muli v24 c1_i32_9949
  let v9234 : BitVec 32 := Scalar.addi c0_i32_9950 v9233
  v9234.toNat
def k0_dev346 (d0 : Dev nD) : Nat :=
  let c0_i32_9984 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9983 : BitVec 32 := 1#32
  let v9268 : BitVec 32 := Scalar.muli v13 c1_i32_9983
  let v9269 : BitVec 32 := Scalar.addi c0_i32_9984 v9268
  v9269.toNat
def k0_dev347 (d0 : Dev nD) : Nat :=
  let c0_i32_10014 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10013 : BitVec 32 := 1#32
  let v9295 : BitVec 32 := Scalar.muli v13 c1_i32_10013
  let v9296 : BitVec 32 := Scalar.addi c0_i32_10014 v9295
  v9296.toNat
def k0_dev348 (d0 : Dev nD) : Nat :=
  let c0_i32_10036 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10035 : BitVec 32 := 1#32
  let v9314 : BitVec 32 := Scalar.muli v24 c1_i32_10035
  let v9315 : BitVec 32 := Scalar.addi c0_i32_10036 v9314
  v9315.toNat
def k0_dev349 (d0 : Dev nD) : Nat :=
  let c0_i32_10066 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10065 : BitVec 32 := 1#32
  let v9341 : BitVec 32 := Scalar.muli v24 c1_i32_10065
  let v9342 : BitVec 32 := Scalar.addi c0_i32_10066 v9341
  v9342.toNat
def k0_dev350 (d0 : Dev nD) : Nat :=
  let c0_i32_10088 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10087 : BitVec 32 := 1#32
  let v9360 : BitVec 32 := Scalar.muli v13 c1_i32_10087
  let v9361 : BitVec 32 := Scalar.addi c0_i32_10088 v9360
  v9361.toNat
def k0_dev351 (d0 : Dev nD) : Nat :=
  let c0_i32_10118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10117 : BitVec 32 := 1#32
  let v9387 : BitVec 32 := Scalar.muli v13 c1_i32_10117
  let v9388 : BitVec 32 := Scalar.addi c0_i32_10118 v9387
  v9388.toNat
def k0_dev352 (d0 : Dev nD) : Nat :=
  let c0_i32_10140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10139 : BitVec 32 := 1#32
  let v9406 : BitVec 32 := Scalar.muli v24 c1_i32_10139
  let v9407 : BitVec 32 := Scalar.addi c0_i32_10140 v9406
  v9407.toNat
def k0_dev353 (d0 : Dev nD) : Nat :=
  let c0_i32_10170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10169 : BitVec 32 := 1#32
  let v9433 : BitVec 32 := Scalar.muli v24 c1_i32_10169
  let v9434 : BitVec 32 := Scalar.addi c0_i32_10170 v9433
  v9434.toNat
def k0_dev354 (d0 : Dev nD) : Nat :=
  let c0_i32_10192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10191 : BitVec 32 := 1#32
  let v9452 : BitVec 32 := Scalar.muli v13 c1_i32_10191
  let v9453 : BitVec 32 := Scalar.addi c0_i32_10192 v9452
  v9453.toNat
def k0_dev355 (d0 : Dev nD) : Nat :=
  let c0_i32_10222 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10221 : BitVec 32 := 1#32
  let v9479 : BitVec 32 := Scalar.muli v13 c1_i32_10221
  let v9480 : BitVec 32 := Scalar.addi c0_i32_10222 v9479
  v9480.toNat
def k0_dev356 (d0 : Dev nD) : Nat :=
  let c0_i32_10244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10243 : BitVec 32 := 1#32
  let v9498 : BitVec 32 := Scalar.muli v24 c1_i32_10243
  let v9499 : BitVec 32 := Scalar.addi c0_i32_10244 v9498
  v9499.toNat
def k0_dev357 (d0 : Dev nD) : Nat :=
  let c0_i32_10274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10273 : BitVec 32 := 1#32
  let v9525 : BitVec 32 := Scalar.muli v24 c1_i32_10273
  let v9526 : BitVec 32 := Scalar.addi c0_i32_10274 v9525
  v9526.toNat
def k0_dev358 (d0 : Dev nD) : Nat :=
  let c0_i32_10296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10295 : BitVec 32 := 1#32
  let v9544 : BitVec 32 := Scalar.muli v13 c1_i32_10295
  let v9545 : BitVec 32 := Scalar.addi c0_i32_10296 v9544
  v9545.toNat
def k0_dev359 (d0 : Dev nD) : Nat :=
  let c0_i32_10326 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10325 : BitVec 32 := 1#32
  let v9571 : BitVec 32 := Scalar.muli v13 c1_i32_10325
  let v9572 : BitVec 32 := Scalar.addi c0_i32_10326 v9571
  v9572.toNat
def k0_dev360 (d0 : Dev nD) : Nat :=
  let c0_i32_10348 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10347 : BitVec 32 := 1#32
  let v9590 : BitVec 32 := Scalar.muli v24 c1_i32_10347
  let v9591 : BitVec 32 := Scalar.addi c0_i32_10348 v9590
  v9591.toNat
def k0_dev361 (d0 : Dev nD) : Nat :=
  let c0_i32_10378 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10377 : BitVec 32 := 1#32
  let v9617 : BitVec 32 := Scalar.muli v24 c1_i32_10377
  let v9618 : BitVec 32 := Scalar.addi c0_i32_10378 v9617
  v9618.toNat
def k0_dev362 (d0 : Dev nD) : Nat :=
  let c0_i32_10400 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10399 : BitVec 32 := 1#32
  let v9636 : BitVec 32 := Scalar.muli v13 c1_i32_10399
  let v9637 : BitVec 32 := Scalar.addi c0_i32_10400 v9636
  v9637.toNat
def k0_dev363 (d0 : Dev nD) : Nat :=
  let c0_i32_10430 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10429 : BitVec 32 := 1#32
  let v9663 : BitVec 32 := Scalar.muli v13 c1_i32_10429
  let v9664 : BitVec 32 := Scalar.addi c0_i32_10430 v9663
  v9664.toNat
def k0_dev364 (d0 : Dev nD) : Nat :=
  let c0_i32_10452 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10451 : BitVec 32 := 1#32
  let v9682 : BitVec 32 := Scalar.muli v24 c1_i32_10451
  let v9683 : BitVec 32 := Scalar.addi c0_i32_10452 v9682
  v9683.toNat
def k0_dev365 (d0 : Dev nD) : Nat :=
  let c0_i32_10482 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10481 : BitVec 32 := 1#32
  let v9709 : BitVec 32 := Scalar.muli v24 c1_i32_10481
  let v9710 : BitVec 32 := Scalar.addi c0_i32_10482 v9709
  v9710.toNat
def k0_dev366 (d0 : Dev nD) : Nat :=
  let c0_i32_10504 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10503 : BitVec 32 := 1#32
  let v9728 : BitVec 32 := Scalar.muli v13 c1_i32_10503
  let v9729 : BitVec 32 := Scalar.addi c0_i32_10504 v9728
  v9729.toNat
def k0_dev367 (d0 : Dev nD) : Nat :=
  let c0_i32_10534 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10533 : BitVec 32 := 1#32
  let v9755 : BitVec 32 := Scalar.muli v13 c1_i32_10533
  let v9756 : BitVec 32 := Scalar.addi c0_i32_10534 v9755
  v9756.toNat
def k0_dev368 (d0 : Dev nD) : Nat :=
  let c0_i32_10556 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10555 : BitVec 32 := 1#32
  let v9774 : BitVec 32 := Scalar.muli v24 c1_i32_10555
  let v9775 : BitVec 32 := Scalar.addi c0_i32_10556 v9774
  v9775.toNat
def k0_dev369 (d0 : Dev nD) : Nat :=
  let c0_i32_10586 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10585 : BitVec 32 := 1#32
  let v9801 : BitVec 32 := Scalar.muli v24 c1_i32_10585
  let v9802 : BitVec 32 := Scalar.addi c0_i32_10586 v9801
  v9802.toNat
def k0_dev370 (d0 : Dev nD) : Nat :=
  let c0_i32_10608 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10607 : BitVec 32 := 1#32
  let v9820 : BitVec 32 := Scalar.muli v13 c1_i32_10607
  let v9821 : BitVec 32 := Scalar.addi c0_i32_10608 v9820
  v9821.toNat
def k0_dev371 (d0 : Dev nD) : Nat :=
  let c0_i32_10638 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10637 : BitVec 32 := 1#32
  let v9847 : BitVec 32 := Scalar.muli v13 c1_i32_10637
  let v9848 : BitVec 32 := Scalar.addi c0_i32_10638 v9847
  v9848.toNat
def k0_dev372 (d0 : Dev nD) : Nat :=
  let c0_i32_10660 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10659 : BitVec 32 := 1#32
  let v9866 : BitVec 32 := Scalar.muli v24 c1_i32_10659
  let v9867 : BitVec 32 := Scalar.addi c0_i32_10660 v9866
  v9867.toNat
def k0_dev373 (d0 : Dev nD) : Nat :=
  let c0_i32_10690 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10689 : BitVec 32 := 1#32
  let v9893 : BitVec 32 := Scalar.muli v24 c1_i32_10689
  let v9894 : BitVec 32 := Scalar.addi c0_i32_10690 v9893
  v9894.toNat
def k0_dev374 (d0 : Dev nD) : Nat :=
  let c0_i32_10712 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10711 : BitVec 32 := 1#32
  let v9912 : BitVec 32 := Scalar.muli v13 c1_i32_10711
  let v9913 : BitVec 32 := Scalar.addi c0_i32_10712 v9912
  v9913.toNat
def k0_dev375 (d0 : Dev nD) : Nat :=
  let c0_i32_10742 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10741 : BitVec 32 := 1#32
  let v9939 : BitVec 32 := Scalar.muli v13 c1_i32_10741
  let v9940 : BitVec 32 := Scalar.addi c0_i32_10742 v9939
  v9940.toNat
def k0_dev376 (d0 : Dev nD) : Nat :=
  let c0_i32_10764 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10763 : BitVec 32 := 1#32
  let v9958 : BitVec 32 := Scalar.muli v24 c1_i32_10763
  let v9959 : BitVec 32 := Scalar.addi c0_i32_10764 v9958
  v9959.toNat
def k0_dev377 (d0 : Dev nD) : Nat :=
  let c0_i32_10794 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10793 : BitVec 32 := 1#32
  let v9985 : BitVec 32 := Scalar.muli v24 c1_i32_10793
  let v9986 : BitVec 32 := Scalar.addi c0_i32_10794 v9985
  v9986.toNat
def k0_dev378 (d0 : Dev nD) : Nat :=
  let c0_i32_10816 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10815 : BitVec 32 := 1#32
  let v10004 : BitVec 32 := Scalar.muli v13 c1_i32_10815
  let v10005 : BitVec 32 := Scalar.addi c0_i32_10816 v10004
  v10005.toNat
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Prog.lean ====
/-
  The kernel body as one program over the pipe and the step.

  The printed body is one straight line of some 1800 memory operations. They repeat: eight pipes, each of
  twenty-four steps, and every step of every pipe is the same few operations at its own buffers, semaphores and
  rows. Here each pipe's buffers and semaphores are named as functions of the pipe, one step as a program of the
  pipe and the step's number, and the body as the prologue, the steps in order, and the epilogue.
-/
module

public import proofs.«01_k».proof.Proof.Gen.KernelIdeal.Launch
public import Idealize.ShloMosaic.Lib.Tactic

@[expose] public section

noncomputable section

namespace Cert.Ring

open Cert.KernelIdeal Cert.KernelIdeal.Gen
open Idealize.ShloMosaic Idealize.ShloMosaic.TcCoe
open Idealize.SL.Sem

variable {F : FTy → Type} [FloatOps F]

/-- A kernel program on a tensor core. -/
abbrev KProg (F : FTy → Type) [FloatOps F] (α : Type) : Type 1 := Prog (TpuEff nD τ sig (Elt F) Λ₀ .tc) α

/-! ## One pipe's buffers and semaphores -/

/-- A pipe's two-slot communication buffer. -/
def commM : Fin 8 → Memref sig .tc .vmem S2x32x8192 .f32
  | 0 => Memref.whole cc0_scratch0
  | 1 => Memref.whole cc0_scratch1
  | 2 => Memref.whole cc0_scratch2
  | 3 => Memref.whole cc0_scratch3
  | 4 => Memref.whole cc0_scratch4
  | 5 => Memref.whole cc0_scratch5
  | 6 => Memref.whole cc0_scratch6
  | 7 => Memref.whole cc0_scratch7

/-- A pipe's buffer for its own rows of the local product. -/
def locM : Fin 8 → Memref sig .tc .vmem S32x8192 .f32
  | 0 => Memref.whole cc0_scratch8
  | 1 => Memref.whole cc0_scratch9
  | 2 => Memref.whole cc0_scratch10
  | 3 => Memref.whole cc0_scratch11
  | 4 => Memref.whole cc0_scratch12
  | 5 => Memref.whole cc0_scratch13
  | 6 => Memref.whole cc0_scratch14
  | 7 => Memref.whole cc0_scratch15

theorem commM_whole (pi : Fin 8) : (commM pi).IsWhole := by
  fin_cases pi <;> exact Memref.isWhole_whole _

theorem locM_whole (pi : Fin 8) : (locM pi).IsWhole := by
  fin_cases pi <;> exact Memref.isWhole_whole _

/-- The local product and the result, in HBM. -/
abbrev pM : Memref sig .tc .hbm S4096x8192 .f32 := Memref.whole main_v1
abbrev oM : Memref sig .tc .hbm S4096x8192 .f32 := Memref.whole main_v2

/-- The semaphore a pipe's transfer out of slot `s` completes on, at the sender. -/
abbrev ssem (pi : Fin 8) (s : Fin 2) : DmaSem sig := (⟨2 * pi.val + s.val, by have := pi.2; have := s.2; omega⟩ : Fin 48)
/-- The semaphore a transfer into slot `s` completes on, at the receiver. -/
abbrev rsem (pi : Fin 8) (s : Fin 2) : DmaSem sig := (⟨16 + 2 * pi.val + s.val, by have := pi.2; have := s.2; omega⟩ : Fin 48)
/-- The semaphore a pipe's load of rows of the product completes on. -/
abbrev csem (pi : Fin 8) : DmaSem sig := (⟨32 + pi.val, by have := pi.2; omega⟩ : Fin 48)
/-- The semaphore a pipe's store of rows of the result completes on. -/
abbrev tsem (pi : Fin 8) : DmaSem sig := (⟨40 + pi.val, by have := pi.2; omega⟩ : Fin 48)
/-- The semaphore by which the receiver lets a pipe's sender send again. -/
abbrev crd (pi : Fin 8) : Sem sig := (⟨pi.val, by have := pi.2; omega⟩ : Fin 9)
/-- The barrier semaphore. -/
abbrev bar : Sem sig := (8 : Fin 9)

theorem slot_inb (s : Fin 2) : ∀ a, (![s.val, 0, 0] : Fin 3 → Nat) a + S1x32x8192.size a ≤ S2x32x8192.size a := by
  revert s; decide

/-- One slot of a communication buffer, as the loads and stores see it. -/
abbrev slotR (s : Fin 2) : Rect S2x32x8192 :=
  Rect.unit (s := S2x32x8192) ![s.val, 0, 0] S1x32x8192.size (slot_inb s)

/-- One slot of a pipe's communication buffer, as the transfers see it. -/
abbrev slotM (pi : Fin 8) (s : Fin 2) : Memref sig .tc .vmem S32x8192 .f32 :=
  ((commM pi).slice (slotR s) (fun _ => rfl)).squeeze S32x8192 squeezes_S1x32x8192_S32x8192

/-- The whole of a pipe's buffer for its own rows. -/
abbrev locR : Rect S32x8192 := Rect.unit (s := S32x8192) ![0, 0] S32x8192.size inb_S32x8192_S32x8192_0_0

/-! ## The step's rows and neighbours -/

/-- The slot a step sends out of, and the slot it receives into. -/
abbrev sOf (u : ℕ) : Fin 2 := ⟨u % 2, Nat.mod_lt _ (by decide)⟩
abbrev rOf (u : ℕ) : Fin 2 := ⟨(u + 1) % 2, Nat.mod_lt _ (by decide)⟩

/-- How far round the ring the rows of step `u` are, as the kernel's word: `t + 1` one way, its negative the other. -/
def hop (pi : Fin 8) (u : ℕ) : BitVec 32 :=
  if pi.val < 4 then BitVec.ofNat 32 (u % 6 + 1) else BitVec.ofNat 32 (4294967295 - u % 6)

/-- The rows step `u` of a pipe receives: their offsets in the product and in the result. -/
def offS (c : Dev nD) (pi : Fin 8) (u : ℕ) : Fin 2 → Nat :=
  k0_off2 c (BitVec.ofNat 32 (512 * pi.val)) (BitVec.ofNat 32 (4 * (u / 6))) (hop pi u)

/-- The device's own rows of round `g`: the first it sends. -/
def offI (c : Dev nD) (pi : Fin 8) (g : ℕ) : Fin 2 → Nat :=
  if g = 0 then k0_off1 c (BitVec.ofNat 32 (512 * pi.val))
  else k0_off3 c (BitVec.ofNat 32 (512 * pi.val)) (BitVec.ofNat 32 (4 * g))

/-- The chunk (of four) step `u` of a pipe receives on device `c`. -/
def chunk (c : Dev nD) (pi : Fin 8) (u : ℕ) : ℕ :=
  if pi.val < 4 then (c.val + 11 - u % 6) % 4 else (c.val + u % 6 + 1) % 4

theorem offS_eq_fin : ∀ (c : Dev nD) (pi : Fin 8) (u : Fin 24),
    offS c pi u.val = ![512 * pi.val + 32 * (4 * (u.val / 6) + chunk c pi u.val), 0] := by decide +kernel

theorem offS_eq (c : Dev nD) (pi : Fin 8) {u : ℕ} (hu : u < 24) :
    offS c pi u = ![512 * pi.val + 32 * (4 * (u / 6) + chunk c pi u), 0] := offS_eq_fin c pi ⟨u, hu⟩

theorem offI_eq_fin : ∀ (c : Dev nD) (pi : Fin 8) (g : Fin 4),
    offI c pi g.val = ![512 * pi.val + 32 * (4 * g.val + c.val), 0] := by decide +kernel

theorem offI_eq (c : Dev nD) (pi : Fin 8) {g : ℕ} (hg : g < 4) :
    offI c pi g = ![512 * pi.val + 32 * (4 * g + c.val), 0] := offI_eq_fin c pi ⟨g, hg⟩

theorem chunk_lt (c : Dev nD) (pi : Fin 8) (u : ℕ) : chunk c pi u < 4 := by
  unfold chunk; split <;> exact Nat.mod_lt _ (by decide)

theorem row_inb {k : ℕ} (hk : k + 32 ≤ 4096) : ∀ a, (![k, 0] : Fin 2 → Nat) a + S32x8192.size a ≤ S4096x8192.size a := by
  intro a; fin_cases a
  · exact hk
  · exact le_rfl

theorem offS_inb (c : Dev nD) (pi : Fin 8) {u : ℕ} (hu : u < 24) : ∀ a, offS c pi u a + S32x8192.size a ≤ S4096x8192.size a := by
  rw [offS_eq c pi hu]
  exact row_inb (by have := chunk_lt c pi u; have := pi.2; omega)

theorem offI_inb (c : Dev nD) (pi : Fin 8) {g : ℕ} (hg : g < 4) : ∀ a, offI c pi g a + S32x8192.size a ≤ S4096x8192.size a := by
  rw [offI_eq c pi hg]
  exact row_inb (by have : c.val < 4 := c.2; have := pi.2; omega)

/-- Thirty-two rows of a large array. -/
abbrev rowM (m : Memref sig .tc .hbm S4096x8192 .f32) (off : Fin 2 → Nat) (h : ∀ a, off a + S32x8192.size a ≤ S4096x8192.size a) :
    Memref sig .tc .hbm S32x8192 .f32 := m.slice (Rect.unit (s := S4096x8192) off S32x8192.size h) (fun _ => rfl)

/-- The ring neighbours, as the kernel computes them. -/
def leftD (c : Dev nD) : Dev nD := ⟨k0_dev1 c, k0_dev1_lt c⟩
def rightD (c : Dev nD) : Dev nD := ⟨k0_dev2 c, k0_dev2_lt c⟩

/-- The device a pipe sends to, and the device it receives from. -/
def tgt (pi : Fin 8) (c : Dev nD) : Dev nD := if pi.val < 4 then rightD c else leftD c
def src (pi : Fin 8) (c : Dev nD) : Dev nD := if pi.val < 4 then leftD c else rightD c

/-! ## The operations -/

/-- `p` when `b` holds, else nothing. -/
abbrev opt (b : Prop) [Decidable b] (p : KProg F PUnit) : List (KProg F PUnit) := if b then [p] else []

/-- A pipe's transfer of slot `u % 2` to its neighbour's other slot. -/
abbrev sendP (c : Dev nD) (pi : Fin 8) (u : ℕ) : KProg F PUnit :=
  Prog.lift (.enqueueDma (slotM pi (sOf u)) (.remote (Dev.tc (tgt pi c)) (slotM pi (rOf u)) (.dma (ssem pi (sOf u)))) (.dma (rsem pi (rOf u)))
    ((View.wordExact_bits rfl).reshape _ _) ((View.wordExact_bits rfl).reshape _ _) ⟨⟨rfl, Or.inl rfl⟩, trivial⟩)

/-- The load of the device's own rows of step `u`. -/
abbrev loadP (c : Dev nD) (pi : Fin 8) (u : ℕ) (hu : u < 24) : KProg F PUnit :=
  Prog.lift (.enqueueDma (rowM pM (offS c pi u) (offS_inb c pi hu)) (.here (locM pi)) (.dma (csem pi))
    (View.wordExact_bits rfl) (locM_whole pi).wordExact ⟨Or.inl rfl, trivial⟩)

abbrev loadWaitP (c : Dev nD) (pi : Fin 8) (u : ℕ) (hu : u < 24) : KProg F PUnit :=
  Prog.lift (.waitDma2 (csem pi) (rowM pM (offS c pi u) (offS_inb c pi hu)) (locM pi) (View.wordExact_bits rfl) (locM_whole pi).wordExact)

/-- The load of the device's first rows of round `g` into slot 0. -/
abbrev initP (c : Dev nD) (pi : Fin 8) (g : ℕ) (hg : g < 4) : KProg F PUnit :=
  Prog.lift (.enqueueDma (rowM pM (offI c pi g) (offI_inb c pi hg)) (.here (slotM pi 0)) (.dma (csem pi))
    (View.wordExact_bits rfl) ((View.wordExact_bits rfl).reshape _ _) ⟨Or.inl rfl, trivial⟩)

abbrev initWaitP (c : Dev nD) (pi : Fin 8) (g : ℕ) (hg : g < 4) : KProg F PUnit :=
  Prog.lift (.waitDma2 (csem pi) (rowM pM (offI c pi g) (offI_inb c pi hg)) (slotM pi 0) (View.wordExact_bits rfl) ((View.wordExact_bits rfl).reshape _ _))

/-- The store of step `u`'s finished rows. -/
abbrev storeP (c : Dev nD) (pi : Fin 8) (u : ℕ) (hu : u < 24) : KProg F PUnit :=
  Prog.lift (.enqueueDma (slotM pi (rOf u)) (.here (rowM oM (offS c pi u) (offS_inb c pi hu))) (.dma (tsem pi))
    ((View.wordExact_bits rfl).reshape _ _) (View.wordExact_bits rfl) ⟨Or.inl rfl, trivial⟩)

abbrev storeWaitP (c : Dev nD) (pi : Fin 8) (u : ℕ) (hu : u < 24) : KProg F PUnit :=
  Prog.lift (.waitDma2 (tsem pi) (slotM pi (rOf u)) (rowM oM (offS c pi u) (offS_inb c pi hu)) ((View.wordExact_bits rfl).reshape _ _) (View.wordExact_bits rfl))

/-- The kernel's silu on a block. -/
abbrev siluV (y : FVec F S32x8192 .f32) : FVec F S32x8192 .f32 :=
  mulf y (divf (broadcast S32x8192 (Scalar.ofBits .f32 0x3F800000#32))
    (addf (broadcast S32x8192 (Scalar.ofBits .f32 0x3F800000#32)) (exp (subf (broadcast S32x8192 (Scalar.ofBits .f32 0x00000000#32)) y))))

/-- What step `u` makes of the rows that came in and the device's own. -/
abbrev accV (u : ℕ) (v w : FVec F S32x8192 .f32) : FVec F S32x8192 .f32 :=
  if u % 6 = 2 then siluV (addf v w) else addf v w

/-- The wait for the transfer out, and for the transfer in. -/
abbrev sentP (pi : Fin 8) (u : ℕ) : KProg F PUnit :=
  Prog.lift (.waitDma2 (ssem pi (sOf u)) (slotM pi (rOf u)) (slotM pi (sOf u)) ((View.wordExact_bits rfl).reshape _ _) ((View.wordExact_bits rfl).reshape _ _))
abbrev landedP (pi : Fin 8) (u : ℕ) : KProg F PUnit :=
  Prog.lift (.waitDma2 (rsem pi (rOf u)) (slotM pi (sOf u)) (slotM pi (rOf u)) ((View.wordExact_bits rfl).reshape _ _) ((View.wordExact_bits rfl).reshape _ _))

/-- The sum of step `u`: the rows that came in and the device's own, into the slot they came in. -/
def accP (pi : Fin 8) (u : ℕ) : KProg F PUnit := do
  let v : Vec F S1x32x8192 .f32 ← Prog.lift (.load (commM pi) (slotR (rOf u)).toLoadRect (View.loadsAt_vmem h_S1x32x8192))
  let w : Vec F S32x8192 .f32 ← Prog.lift (.load (locM pi) locR.toLoadRect (View.loadsAt_vmem h_S32x8192))
  let _ : Vec F S1x32x8192 .f32 ← Prog.lift (.load (commM pi) (slotR (rOf u)).toLoadRect (View.loadsAt_vmem h_S1x32x8192))
  Prog.lift (.store (commM pi) (slotR (rOf u)) (shapeCast S1x32x8192 (accV u (shapeCast S32x8192 v shapeCasts_S1x32x8192_S32x8192) w) shapeCasts_S32x8192_S1x32x8192)
    Finset.univ (View.stores_vmem_bits_univ h_S1x32x8192 rfl) (.inl rfl))

/-- The waits of step `u`: for the transfer out and the transfer in, for the store of the step before, and the
    neighbour let to send again. -/
def recvL (c : Dev nD) (pi : Fin 8) (u : ℕ) (hu : u < 24) : List (KProg F PUnit) :=
  [sentP pi u, landedP pi u] ++ opt (3 ≤ u % 6) (storeWaitP c pi (u - 1) (by omega))
    ++ opt (u < 23) (semSignalWord (src pi c) (crd pi) 1#32)

/-- The sum of step `u`, while there are rows of the device's own to add. -/
def accL (c : Dev nD) (pi : Fin 8) (u : ℕ) (hu : u < 24) : List (KProg F PUnit) :=
  opt (u % 6 < 3) (loadWaitP c pi u hu) ++ opt (u % 6 < 3) (accP pi u)

/-- The next transfer: at a round's end its first rows loaded anew; the neighbour's leave awaited. -/
def nextL (c : Dev nD) (pi : Fin 8) (u : ℕ) (hu : u < 24) : List (KProg F PUnit) :=
  if h : u + 1 < 24 then
    opt (u % 6 = 5) (storeWaitP c pi u hu)
      ++ opt (u % 6 = 5) (initP c pi ((u + 1) / 6) (by omega))
      ++ opt (u % 6 = 5) (initWaitP c pi ((u + 1) / 6) (by omega))
      ++ [semWaitWord (crd pi) 1#32, sendP c pi (u + 1)]
      ++ opt ((u + 1) % 6 < 3) (loadP c pi (u + 1) h)
  else []

/-- One step of one pipe. -/
def stepL (c : Dev nD) (pi : Fin 8) (u : ℕ) (hu : u < 24) : List (KProg F PUnit) :=
  recvL c pi u hu ++ accL c pi u hu ++ opt (2 ≤ u % 6) (storeP c pi u hu) ++ nextL c pi u hu

/-- One pipe's start: its first rows sent, its own rows of the first step asked for. -/
def startP (c : Dev nD) (pi : Fin 8) : KProg F PUnit := do
  initWaitP c pi 0 (by decide)
  sendP c pi 0
  loadP c pi 0 (by decide)

/-- The handshake. -/
def shakeP (c : Dev nD) : KProg F PUnit := do
  semSignalWord (leftD c) bar 1#32
  semSignalWord (rightD c) bar 1#32
  semWaitWord bar 2#32

/-! ## The body -/

/-- Programs one after another. -/
def seqP : List (KProg F PUnit) → KProg F PUnit
  | [] => pure ⟨⟩
  | p :: l => p >>= fun _ => seqP l

/-- The order a step's pipes are served in. -/
def order : List (Fin 8) := [0, 4, 1, 5, 2, 6, 3, 7]

/-- Step `u` of every pipe. -/
def rowL (c : Dev nD) (u : Fin 24) : List (KProg F PUnit) := order.flatMap fun pi => stepL c pi u.val u.2

/-- The steps in order. -/
def steps : List (Fin 24) :=
  [0, 1, 2, 3, 4, 5, 6, 7, 8, 9, 10, 11, 12, 13, 14, 15, 16, 17, 18, 19, 20, 21, 22, 23]

/-- The body on device `c`. -/
def bodyL (c : Dev nD) : List (KProg F PUnit) :=
  [shakeP c]
    ++ ((List.finRange 8).map fun pi => initP c pi 0 (by decide))
    ++ ((List.finRange 8).map fun pi => startP c pi)
    ++ steps.flatMap (rowL c)
    ++ (order.map fun pi => storeWaitP c pi 23 (by decide))

end Cert.Ring

end
-- ==== Proof.Contents.lean ====
/-
  What the buffers hold: the rows a pipe sends, what lands, what a step makes of them, and the result.

  A step of a pipe adds the device's own rows of one chunk to what came from its neighbour and passes the sum on;
  after three additions the chunk is complete and its silu goes round the ring unchanged. So what a step leaves
  is a function of the step, the device and every device's local product, and from the third step of a round on
  it is the chunk's rows of one array, the same on every device.
-/
module

public import proofs.«01_k».proof.Proof.Prog

@[expose] public section

noncomputable section

namespace Cert.Ring

open Cert.KernelIdeal Cert.KernelIdeal.Gen
open Idealize.ShloMosaic Idealize.ShloMosaic.TcCoe
open Idealize.SL.Sem

variable {F : FTy → Type} [FloatOps F]

/-! ## The ring -/

theorem src_tgt : ∀ (pi : Fin 8) (c : Dev nD), src pi (tgt pi c) = c := by decide +kernel
theorem tgt_src : ∀ (pi : Fin 8) (c : Dev nD), tgt pi (src pi c) = c := by decide +kernel
theorem left_right : ∀ c : Dev nD, leftD (rightD c) = c := by decide +kernel
theorem right_left : ∀ c : Dev nD, rightD (leftD c) = c := by decide +kernel

/-- The ring, one way round or the other. -/
def ringE (pi : Fin 8) : Dev nD ≃ Dev nD := ⟨tgt pi, src pi, src_tgt pi, tgt_src pi⟩

/-! ## Blocks of rows -/

theorem blk_inb (pi : Fin 8) (j : Fin 16) :
    ∀ a, (![512 * pi.val + 32 * j.val, 0] : Fin 2 → Nat) a + S32x8192.size a ≤ S4096x8192.size a :=
  row_inb (by have := pi.2; have := j.2; omega)

/-- Block `j` (of 16) of a pipe's rows. -/
abbrev blkR (pi : Fin 8) (j : Fin 16) : Rect S4096x8192 :=
  Rect.unit (s := S4096x8192) ![512 * pi.val + 32 * j.val, 0] S32x8192.size (blk_inb pi j)

abbrev blkM (m : Memref sig .tc .hbm S4096x8192 .f32) (pi : Fin 8) (j : Fin 16) : Memref sig .tc .hbm S32x8192 .f32 :=
  m.slice (blkR pi j) (fun _ => rfl)

/-- The block's contents. -/
def blk (X : FVec F S4096x8192 .f32) (pi : Fin 8) (j : Fin 16) : FVec F S32x8192 .f32 := fun i => X ((blkR pi j).emb i)

/-- The block step `u` receives, and the block a device starts round `g` with. -/
def jS (c : Dev nD) (pi : Fin 8) (u : ℕ) : Fin 16 := ⟨(4 * (u / 6) + chunk c pi u) % 16, Nat.mod_lt _ (by decide)⟩
def jI (c : Dev nD) (g : ℕ) : Fin 16 := ⟨(4 * g + c.val) % 16, Nat.mod_lt _ (by decide)⟩

theorem jS_val (c : Dev nD) (pi : Fin 8) {u : ℕ} (hu : u < 24) : (jS c pi u).val = 4 * (u / 6) + chunk c pi u :=
  Nat.mod_eq_of_lt (by have := chunk_lt c pi u; omega)
theorem jI_val (c : Dev nD) {g : ℕ} (hg : g < 4) : (jI c g).val = 4 * g + c.val :=
  Nat.mod_eq_of_lt (by have : c.val < 4 := c.2; omega)

theorem rowM_congr (m : Memref sig .tc .hbm S4096x8192 .f32) {o o' : Fin 2 → Nat} (h) (h') (e : o = o') : rowM m o h = rowM m o' h' := by
  subst e; rfl

theorem rowS (m : Memref sig .tc .hbm S4096x8192 .f32) (c : Dev nD) (pi : Fin 8) {u : ℕ} (hu : u < 24) :
    rowM m (offS c pi u) (offS_inb c pi hu) = blkM m pi (jS c pi u) :=
  rowM_congr m _ _ (by rw [offS_eq c pi hu, jS_val c pi hu])
theorem rowI (m : Memref sig .tc .hbm S4096x8192 .f32) (c : Dev nD) (pi : Fin 8) {g : ℕ} (hg : g < 4) :
    rowM m (offI c pi g) (offI_inb c pi hg) = blkM m pi (jI c g) :=
  rowM_congr m _ _ (by rw [offI_eq c pi hg, jI_val c hg])

/-! ## What is sent, what lands, what a step leaves -/

variable (P : Dev nD → FVec F S4096x8192 .f32)

/-- What step `u` makes of the rows that came in (`v`) and the device's own (`w`). -/
def postOf (u : ℕ) (v w : FVec F S32x8192 .f32) : FVec F S32x8192 .f32 := if u % 6 < 3 then accV u v w else v

/-- What device `c` sends at step `u` of a pipe. -/
def sentV (pi : Fin 8) : ℕ → Dev nD → FVec F S32x8192 .f32
  | 0, c => blk (P c) pi (jI c 0)
  | u + 1, c => if (u + 1) % 6 = 0 then blk (P c) pi (jI c ((u + 1) / 6))
      else postOf u (sentV pi u (src pi c)) (blk (P c) pi (jS c pi u))

/-- What lands at step `u`, and what the step leaves in its place. -/
def landV (pi : Fin 8) (u : ℕ) (c : Dev nD) : FVec F S32x8192 .f32 := sentV P pi u (src pi c)
def postV (pi : Fin 8) (u : ℕ) (c : Dev nD) : FVec F S32x8192 .f32 := postOf u (landV P pi u c) (blk (P c) pi (jS c pi u))

theorem sentV_round (pi : Fin 8) {u : ℕ} (c : Dev nD) (h : u % 6 = 0) : sentV P pi u c = blk (P c) pi (jI c (u / 6)) := by
  cases u with
  | zero => rfl
  | succ u => rw [sentV, if_pos h]

theorem sentV_step (pi : Fin 8) {u : ℕ} (c : Dev nD) (h : (u + 1) % 6 ≠ 0) : sentV P pi (u + 1) c = postV P pi u c := by
  rw [sentV, if_neg h]; rfl

theorem landV_tgt (pi : Fin 8) (u : ℕ) (c : Dev nD) : landV P pi u (tgt pi c) = sentV P pi u c := by
  unfold landV; rw [src_tgt]

theorem postV_add (pi : Fin 8) {u : ℕ} (c : Dev nD) (h : u % 6 < 3) :
    postV P pi u c = accV u (landV P pi u c) (blk (P c) pi (jS c pi u)) := if_pos h
theorem postV_pass (pi : Fin 8) {u : ℕ} (c : Dev nD) (h : ¬ u % 6 < 3) : postV P pi u c = landV P pi u c := if_neg h

/-! ## The result -/

/-- The sum of the devices' products in the order chunk `q` of a pipe is summed in. -/
def sumV (pi : Fin 8) (q : Dev nD) : FVec F S4096x8192 .f32 :=
  addf (addf (addf (P q) (P (tgt pi q))) (P (tgt pi (tgt pi q)))) (P (tgt pi (tgt pi (tgt pi q))))

/-- The kernel's silu, at any shape. -/
def siluG {s : Shape} (y : FVec F s .f32) : FVec F s .f32 :=
  mulf y (divf (broadcast s (Scalar.ofBits .f32 0x3F800000#32))
    (addf (broadcast s (Scalar.ofBits .f32 0x3F800000#32)) (exp (subf (broadcast s (Scalar.ofBits .f32 0x00000000#32)) y))))

/-- The pipe and the chunk of a row. -/
def pipeOf (k : ℕ) : Fin 8 := ⟨(k / 512) % 8, Nat.mod_lt _ (by decide)⟩
def chunkOf (k : ℕ) : Dev nD := ⟨(k / 32) % 4, Nat.mod_lt _ (by decide)⟩

/-- The result: every row's sum, in its chunk's order, under silu. -/
def outV : FVec F S4096x8192 .f32 := fun i => siluG (sumV P (pipeOf (i 0).val) (chunkOf (i 0).val)) i

theorem blk_row (pi : Fin 8) (j : Fin 16) (i : S32x8192.Idx) :
    (((blkR pi j).emb i) 0).val = 512 * pi.val + 32 * j.val + (i 0).val := by
  show 512 * pi.val + 32 * j.val + 1 * (i 0).val = _
  rw [Nat.one_mul]

theorem blk_out (pi : Fin 8) (j : Fin 16) (q : Dev nD) (hq : j.val % 4 = q.val) :
    blk (outV P) pi j = siluV (addf (addf (addf (blk (P q) pi j) (blk (P (tgt pi q)) pi j)) (blk (P (tgt pi (tgt pi q))) pi j))
      (blk (P (tgt pi (tgt pi (tgt pi q)))) pi j)) := by
  funext i
  have hi : (i 0).val < 32 := (i 0).2
  have h1 : pipeOf (((blkR pi j).emb i) 0).val = pi := by
    apply Fin.ext; rw [blk_row]
    show (512 * pi.val + 32 * j.val + (i 0).val) / 512 % 8 = pi.val
    have := pi.2; have := j.2; omega
  have h2 : chunkOf (((blkR pi j).emb i) 0).val = q := by
    apply Fin.ext; rw [blk_row]
    show (512 * pi.val + 32 * j.val + (i 0).val) / 32 % 4 = q.val
    rw [← hq]; have := pi.2; have := j.2; omega
  unfold blk outV
  rw [h1, h2]
  rfl

theorem jS_src : ∀ (pi : Fin 8) (u : Fin 24) (c : Dev nD), (u.val + 1) % 6 ≠ 0 → jS (src pi c) pi u.val = jS c pi (u.val + 1) := by decide +kernel
theorem jI_src : ∀ (pi : Fin 8) (u : Fin 24) (c : Dev nD), u.val % 6 = 0 → jI (src pi c) (u.val / 6) = jS c pi u.val := by decide +kernel
theorem jS_mod : ∀ (pi : Fin 8) (u : Fin 24) (c : Dev nD), u.val % 6 = 2 → (jS c pi u.val).val % 4 = (src pi (src pi (src pi c))).val := by decide +kernel

theorem postV_out (pi : Fin 8) (u : ℕ) (c : Dev nD) (hu : u < 24) (h2 : 2 ≤ u % 6) : postV P pi u c = blk (outV P) pi (jS c pi u) := by
  induction u generalizing c with
  | zero => exact absurd h2 (by decide)
  | succ u ih =>
    by_cases h3 : (u + 1) % 6 < 3
    · obtain ⟨v, rfl⟩ : ∃ v, u = v + 1 := ⟨u - 1, by omega⟩
      have e1 : landV P pi (v + 1 + 1) c = postV P pi (v + 1) (src pi c) := sentV_step P pi _ (by omega)
      have e2 : landV P pi (v + 1) (src pi c) = postV P pi v (src pi (src pi c)) := sentV_step P pi _ (by omega)
      have e3 : landV P pi v (src pi (src pi c)) = blk (P (src pi (src pi (src pi c)))) pi (jI (src pi (src pi (src pi c))) (v / 6)) :=
        sentV_round P pi _ (by omega)
      rw [postV_add P pi c h3, e1, postV_add P pi _ (by omega), e2, postV_add P pi _ (by omega), e3,
        jI_src pi ⟨v, by omega⟩ _ (by show v % 6 = 0; omega), jS_src pi ⟨v, by omega⟩ _ (by show (v + 1) % 6 ≠ 0; omega),
        jS_src pi ⟨v + 1, by omega⟩ _ (by show (v + 1 + 1) % 6 ≠ 0; omega),
        blk_out P pi _ (src pi (src pi (src pi c))) (jS_mod pi ⟨v + 1 + 1, hu⟩ c (by show (v + 1 + 1) % 6 = 2; omega))]
      unfold accV
      rw [if_pos (by omega), if_neg (by omega), if_neg (by omega), tgt_src, tgt_src, tgt_src]
    · have e1 : landV P pi (u + 1) c = postV P pi u (src pi c) := sentV_step P pi _ (by omega)
      rw [postV_pass P pi c h3, e1, ih _ (by omega) (by omega), jS_src pi ⟨u, by omega⟩ c (by show (u + 1) % 6 ≠ 0; omega)]

end Cert.Ring

end
-- ==== Proof.Protocol.lean ====
/-
  The protocol of the ring: what each semaphore's units stand for, in what order, and what each core owes.

  Every semaphore cell is used in rounds. A pipe's transfer out of a slot gives back the share of the slot it read;
  a transfer in gives the slot at what landed, with word that the sender has come to that step; the load and the
  store give back what they moved; and the leave to send gives the sender the slot it may next write into. Pipe and
  step are variables throughout.
-/
module

public import proofs.«01_k».proof.Proof.Contents
public import Idealize.ShloMosaic.Lib.Rounds
public import Idealize.ShloMosaic.Lib.Memref
public import Idealize.ShloMosaic.Lib.Pipeline.Regions
public import Idealize.ShloMosaic.Lib.Pipeline.RegionTalk

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UU : Type := UR sig nD τ × URounds (GSem nD τ sig) Bool

local notation "𝕄" => MT nD τ sig ℕ (Elt F) ℕ UU ℕ

abbrev EP : Emb (UR sig nD τ) (MT nD τ sig ℕ (Elt F) ℕ UU ℕ) := embL
abbrev ER : Emb (URounds (GSem nD τ sig) Bool) (MT nD τ sig ℕ (Elt F) ℕ UU ℕ) := embR

/-! ## The cells -/

/-- What a semaphore is for. -/
inductive Kind
  | snd (pi : Fin 8) (s : Fin 2) | rcv (pi : Fin 8) (s : Fin 2) | ld (pi : Fin 8) | st (pi : Fin 8) | cr (pi : Fin 8) | br
  deriving DecidableEq

def kindOf : SemLoc sig → Kind
  | .reg q => if h : q.val < 8 then .cr ⟨q.val, h⟩ else .br
  | .dma q =>
    if h : q.val < 16 then .snd ⟨q.val / 2, by omega⟩ ⟨q.val % 2, by omega⟩
    else if h : q.val < 32 then .rcv ⟨(q.val - 16) / 2, by omega⟩ ⟨q.val % 2, by omega⟩
    else if h : q.val < 40 then .ld ⟨q.val - 32, by omega⟩
    else .st ⟨(q.val - 40) % 8, by omega⟩

theorem kind_snd : ∀ (pi : Fin 8) (s : Fin 2), kindOf (.dma (ssem pi s)) = .snd pi s := by decide +kernel
theorem kind_rcv : ∀ (pi : Fin 8) (s : Fin 2), kindOf (.dma (rsem pi s)) = .rcv pi s := by decide +kernel
theorem kind_ld : ∀ (pi : Fin 8), kindOf (.dma (csem pi)) = .ld pi := by decide +kernel
theorem kind_st : ∀ (pi : Fin 8), kindOf (.dma (tsem pi)) = .st pi := by decide +kernel
theorem kind_cr : ∀ (pi : Fin 8), kindOf (.reg (crd pi)) = .cr pi := by decide +kernel
theorem kind_br : kindOf (.reg bar) = .br := by decide +kernel

abbrev cSnd (c : Dev nD) (pi : Fin 8) (s : Fin 2) : GSem nD τ sig := ((c : Thread nD τ), .dma (ssem pi s))
abbrev cRcv (c : Dev nD) (pi : Fin 8) (s : Fin 2) : GSem nD τ sig := ((c : Thread nD τ), .dma (rsem pi s))
abbrev cLd (c : Dev nD) (pi : Fin 8) : GSem nD τ sig := ((c : Thread nD τ), .dma (csem pi))
abbrev cSt (c : Dev nD) (pi : Fin 8) : GSem nD τ sig := ((c : Thread nD τ), .dma (tsem pi))
abbrev cCr (c : Dev nD) (pi : Fin 8) : GSem nD τ sig := ((c : Thread nD τ), .reg (crd pi))
abbrev cBr (c : Dev nD) : GSem nD τ sig := ((c : Thread nD τ), .reg bar)

/-- The units one transfer of thirty-two rows credits. -/
def N : ℕ := (slotM 0 0).view.dmaCredit
theorem N_pos : 0 < N := View.dmaCredit_pos _ (by decide)

/-! ## What is held -/

/-- A slot of a pipe, at contents `X`; at any contents. -/
def Sl (c : Dev nD) (pi : Fin 8) (s : Fin 2) (q : PosShare TreeShare) (X : FVec F S32x8192 .f32) : sProp 𝕄 := ownsTc c (slotM pi s) q X
def SlAny (c : Dev nD) (pi : Fin 8) (s : Fin 2) : sProp 𝕄 := iprop(∃ X : FVec F S32x8192 .f32, Sl c pi s fullShare X)
/-- A pipe's buffer for its own rows. -/
def Lc (c : Dev nD) (pi : Fin 8) (X : FVec F S32x8192 .f32) : sProp 𝕄 := ownsTc c (locM pi) fullShare X
def LcAny (c : Dev nD) (pi : Fin 8) : sProp 𝕄 := iprop(∃ X : FVec F S32x8192 .f32, Lc c pi X)
/-- A block of rows of the product, and of the result. -/
def Pb (c : Dev nD) (pi : Fin 8) (j : Fin 16) (X : FVec F S32x8192 .f32) : sProp 𝕄 := ownsTc c (blkM pM pi j) fullShare X
def Ob (c : Dev nD) (pi : Fin 8) (j : Fin 16) (X : FVec F S32x8192 .f32) : sProp 𝕄 := ownsTc c (blkM oM pi j) fullShare X
def ObAny (c : Dev nD) (pi : Fin 8) (j : Fin 16) : sProp 𝕄 := iprop(∃ X : FVec F S32x8192 .f32, Ob c pi j X)

instance Sl_storable (c : Dev nD) (pi : Fin 8) (s : Fin 2) (q : PosShare TreeShare) (X : FVec F S32x8192 .f32) :
    BI.Storable (upEmb : UEmb _ 𝕄) (Sl c pi s q X) := by unfold Sl; infer_instance
instance SlAny_storable (c : Dev nD) (pi : Fin 8) (s : Fin 2) : BI.Storable (upEmb : UEmb _ 𝕄) (SlAny c pi s) := by unfold SlAny; infer_instance
instance Lc_storable (c : Dev nD) (pi : Fin 8) (X : FVec F S32x8192 .f32) : BI.Storable (upEmb : UEmb _ 𝕄) (Lc c pi X) := by unfold Lc; infer_instance
instance Pb_storable (c : Dev nD) (pi : Fin 8) (j : Fin 16) (X : FVec F S32x8192 .f32) : BI.Storable (upEmb : UEmb _ 𝕄) (Pb c pi j X) := by
  unfold Pb; infer_instance
instance Ob_storable (c : Dev nD) (pi : Fin 8) (j : Fin 16) (X : FVec F S32x8192 .f32) : BI.Storable (upEmb : UEmb _ 𝕄) (Ob c pi j X) := by
  unfold Ob; infer_instance

variable (P : Dev nD → FVec F S4096x8192 .f32)

/-- What device `c` needs to make transfer `v` of a pipe: the neighbour's slot, and word that the neighbour has taken
    what came there before. -/
def Leave (c : Dev nD) (pi : Fin 8) (v : ℕ) : sProp 𝕄 :=
  iprop(SlAny (tgt pi c) pi (rOf v) ∗ reached ER (cRcv (tgt pi c) pi (rOf v)) (v / 2))

instance Leave_storable (c : Dev nD) (pi : Fin 8) (v : ℕ) : BI.Storable (upEmb : UEmb _ 𝕄) (Leave (F := F) c pi v) := by
  unfold Leave; infer_instance

/-- The step whose transfer out, and in, uses round `r` of slot `s`. -/
abbrev uSnd (s : Fin 2) (r : ℕ) : ℕ := 2 * r + s.val
abbrev uRcv (s : Fin 2) (r : ℕ) : ℕ := 2 * r + (1 - s.val)

/-- What a load gives back: a round's first rows in slot 0, or a step's own rows. -/
def ldPay (c : Dev nD) (pi : Fin 8) (r : ℕ) : sProp 𝕄 :=
  if r % 4 = 0 then iprop(Sl c pi 0 fullShare (blk (P c) pi (jI c (r / 4))) ∗ Pb c pi (jI c (r / 4)) (blk (P c) pi (jI c (r / 4))))
  else iprop(Lc c pi (blk (P c) pi (jS c pi (6 * (r / 4) + (r % 4 - 1)))) ∗ Pb c pi (jS c pi (6 * (r / 4) + (r % 4 - 1))) (blk (P c) pi (jS c pi (6 * (r / 4) + (r % 4 - 1)))))

/-- What the store of step `u` gives back. -/
def stPay (c : Dev nD) (pi : Fin 8) (u : ℕ) : sProp 𝕄 :=
  iprop(Ob c pi (jS c pi u) (blk (outV P) pi (jS c pi u)) ∗ Sl c pi (rOf u) fullShare.right (postV P pi u c))

instance ldPay_storable (c : Dev nD) (pi : Fin 8) (r : ℕ) : BI.Storable (upEmb : UEmb _ 𝕄) (ldPay P c pi r) := by
  unfold ldPay; split <;> infer_instance
instance stPay_storable (c : Dev nD) (pi : Fin 8) (u : ℕ) : BI.Storable (upEmb : UEmb _ 𝕄) (stPay P c pi u) := by
  unfold stPay; infer_instance

/-- The pipes of one direction. -/
abbrev dirs (d : Bool) : Finset (Fin 8) := Finset.univ.filter fun pi => (pi.val < 4) = (d = false)

def payOf (c : Dev nD) (r : ℕ) (d : Bool) : Kind → sProp 𝕄
  | .snd pi s => Sl c pi s fullShare.left (sentV P pi (uSnd s r) c)
  | .rcv pi s => iprop(Sl c pi s fullShare (landV P pi (uRcv s r) c) ∗ reached ER (cCr (src pi c) pi) (uRcv s r))
  | .ld pi => ldPay P c pi r
  | .st pi => stPay P c pi (6 * (r / 4) + 2 + r % 4)
  | .cr pi => Leave c pi (r + 1)
  | .br => bigSep (dirs d) fun pi => Leave c pi 0

instance payOf_storable (c : Dev nD) (r : ℕ) (d : Bool) (k : Kind) : BI.Storable (upEmb : UEmb _ 𝕄) (payOf P c r d k) := by
  cases k <;> unfold payOf <;> infer_instance

def dutyOf (r : ℕ) : Kind → Finset Bool
  | .snd _ _ | .rcv _ _ => if r < 12 then {false} else ∅
  | .ld _ | .st _ => if r < 16 then {false} else ∅
  | .cr _ => if r < 23 then {false} else ∅
  | .br => if r < 1 then Finset.univ else ∅

def unitOf : SemLoc sig → ℕ
  | .reg _ => 1
  | .dma _ => N

/-- The schedule. -/
def ringRd : Rounds.Schedule (GSem nD τ sig) Bool 𝕄 where
  duties g r := if g.1.2 = .tc then dutyOf r (kindOf g.2) else ∅
  unitless _ := False
  amount g _ _ := unitOf g.2
  payload g r d := payOf P g.1.1 r d (kindOf g.2)
  amount_pos g _ _ _ := by
    rcases g with ⟨_, s⟩
    cases s
    · exact Nat.one_pos
    · exact N_pos

instance ringRd_storable (g : GSem nD τ sig) (r : ℕ) (d : Bool) : BI.Storable (upEmb : UEmb _ 𝕄) ((ringRd P).payload g r d) :=
  payOf_storable P g.1.1 r d (kindOf g.2)

section Sched

variable (c : Dev nD) (pi : Fin 8) (s : Fin 2) (r : ℕ)

theorem duties_at (sm : SemLoc sig) : (ringRd P).duties ((c : Thread nD τ), sm) r = dutyOf r (kindOf sm) := by
  dsimp only [ringRd]; exact if_pos rfl

theorem duties_snd (h : r < 12) : (ringRd P).duties (cSnd c pi s) r = {false} := by rw [duties_at, kind_snd]; exact if_pos h
theorem duties_rcv (h : r < 12) : (ringRd P).duties (cRcv c pi s) r = {false} := by rw [duties_at, kind_rcv]; exact if_pos h
theorem duties_ld (h : r < 16) : (ringRd P).duties (cLd c pi) r = {false} := by rw [duties_at, kind_ld]; exact if_pos h
theorem duties_st (h : r < 16) : (ringRd P).duties (cSt c pi) r = {false} := by rw [duties_at, kind_st]; exact if_pos h
theorem duties_cr (h : r < 23) : (ringRd P).duties (cCr c pi) r = {false} := by rw [duties_at, kind_cr]; exact if_pos h
theorem duties_br : (ringRd P).duties (cBr c) 0 = Finset.univ := by rw [duties_at, kind_br]; rfl

theorem expect_one {g : GSem nD τ sig} {n : ℕ} (hd : (ringRd P).duties g r = {false}) (ha : unitOf g.2 = n) : (ringRd P).expect g r = n := by
  unfold Schedule.expect Schedule.amountOf; rw [hd, Finset.sum_singleton]; exact ha
theorem expect_br : (ringRd P).expect (cBr c) 0 = 2 := by
  unfold Schedule.expect Schedule.amountOf; rw [duties_br]; show ∑ d : Bool, (1 : ℕ) = 2; rfl

theorem rest_one {g : GSem nD τ sig} {r : ℕ} (hd : (ringRd P).duties g r = {false}) :
    bigSep ((ringRd P).duties g r \ ∅) (fun d => (ringRd P).payload g r d) = (ringRd P).payload g r false := by
  rw [Finset.sdiff_empty, hd, bigSep_singleton]

theorem pay_snd (d : Bool) : (ringRd P).payload (cSnd c pi s) r d = Sl c pi s fullShare.left (sentV P pi (uSnd s r) c) := by
  show payOf P c r d (kindOf _) = _; rw [kind_snd]; rfl
theorem pay_rcv (d : Bool) : (ringRd P).payload (cRcv c pi s) r d
    = iprop(Sl c pi s fullShare (landV P pi (uRcv s r) c) ∗ reached ER (cCr (src pi c) pi) (uRcv s r)) := by
  show payOf P c r d (kindOf _) = _; rw [kind_rcv]; rfl
theorem pay_ld (d : Bool) : (ringRd P).payload (cLd c pi) r d = ldPay P c pi r := by
  show payOf P c r d (kindOf _) = _; rw [kind_ld]; rfl
theorem pay_st (d : Bool) : (ringRd P).payload (cSt c pi) r d = stPay P c pi (6 * (r / 4) + 2 + r % 4) := by
  show payOf P c r d (kindOf _) = _; rw [kind_st]; rfl
theorem pay_cr (d : Bool) : (ringRd P).payload (cCr c pi) r d = Leave c pi (r + 1) := by
  show payOf P c r d (kindOf _) = _; rw [kind_cr]; rfl
theorem pay_br (d : Bool) : (ringRd P).payload (cBr c) r d = bigSep (dirs d) fun pi => Leave c pi 0 := by
  show payOf P c r d (kindOf (.reg bar)) = _; rw [kind_br]; rfl

/-- From where a cell's rounds end. -/
def lastOf : Kind → ℕ
  | .snd _ _ | .rcv _ _ => 12
  | .ld _ | .st _ => 16
  | .cr _ => 23
  | .br => 1

theorem duties_later (sm : SemLoc sig) : ∀ r, lastOf (kindOf sm) ≤ r → (ringRd P).duties ((c : Thread nD τ), sm) r = ∅ := by
  intro r hr
  rw [duties_at]
  generalize kindOf sm = k at hr
  cases k <;> exact if_neg (Nat.not_lt.mpr hr)

end Sched

/-! ## Levels -/

/-- Where in a step's order a pipe is served. -/
def pos (pi : Fin 8) : ℕ := if pi.val < 4 then 2 * pi.val else 2 * (pi.val - 4) + 1

theorem pos_lt : ∀ pi, pos pi < 8 := by decide

def L (g : GSem nD τ sig) : Finset ℕ := if g.1.2 = .tc then Finset.range 24 else ∅
def lvK (i : ℕ) : Kind → ℕ
  | .rcv pi _ => 2 * (8 * i + pos pi) + 2
  | .cr pi => 2 * (8 * i + pos pi) + 3
  | .br => 1
  | _ => 0
def lv (g : GSem nD τ sig) (i : ℕ) : ℕ := lvK i (kindOf g.2)

theorem L_of_ne (g : GSem nD τ sig) (h : g.1.2 ≠ .tc) : L g = ∅ := if_neg h
theorem mem_L (c : Dev nD) (sm : SemLoc sig) {i : ℕ} (h : i < 24) : i ∈ L ((c : Thread nD τ), sm) := by
  unfold L; rw [if_pos rfl]; exact Finset.mem_range.mpr h

/-- Everything in `O` is owed at a level above `n`. -/
def Above (n : ℕ) (O : CellTallies nD τ sig ℕ) : Prop := ∀ g i, 0 < O g i → i ∈ L g ∧ n < lv g i

theorem Above.mono {n n' : ℕ} {O : CellTallies nD τ sig ℕ} (h : Above n O) (hn : n' ≤ n) : Above n' O :=
  fun g i hg => ⟨(h g i hg).1, lt_of_le_of_lt hn (h g i hg).2⟩
theorem Above.zero (n : ℕ) : Above n 0 := fun g i h => absurd h (Nat.lt_irrefl 0)
theorem Above.add {n : ℕ} {O O' : CellTallies nD τ sig ℕ} (h : Above n O) (h' : Above n O') : Above n (O + O') := fun g i hg => by
  rw [Pi.add_apply, Finsupp.add_apply] at hg
  rcases Nat.add_pos_iff_pos_or_pos.mp hg with hg | hg
  · exact h g i hg
  · exact h' g i hg
theorem Above.tally {n : ℕ} (c : Dev nD) (sm : SemLoc sig) (i k : ℕ) (hi : i < 24) (hn : n < lvK i (kindOf sm)) :
    Above n (tallyAt ((c : Thread nD τ), sm) i k) := fun g j hg => by
  rw [tallyAt_apply] at hg
  split at hg
  · next h => obtain ⟨rfl, rfl⟩ := h; exact ⟨mem_L c sm hi, hn⟩
  · exact absurd hg (Nat.lt_irrefl 0)

theorem mayWait (c : Dev nD) (sm : SemLoc sig) {i n : ℕ} {O : CellTallies nD τ sig ℕ} (hi : i < 24) (hn : lvK i (kindOf sm) = n) (hO : Above n O) :
    (levAts L lv : sProp 𝕄) ⊢ MayWait (c : Thread nD τ) sm i O :=
  MayOwe.of_cut (L := L) (lev := lv) n (fun p hp => by rw [Finset.mem_singleton.mp hp]; exact mem_L c sm hi)
    (fun g u hg => (hO g u hg).1)
    (fun p hp => by rw [Finset.mem_singleton.mp hp]; exact hn.le)
    (fun g u hg => (hO g u hg).2)

end Cert.Ring

end
-- ==== Proof.Ops.lean ====
/-
  One rule per operation of a step: what it takes of what the device holds, and what it gives.
-/
module

public import proofs.«01_k».proof.Proof.Protocol
public import Idealize.ShloMosaic.Lib.Tactic
public import Idealize.ShloMosaic.Lib.ValueLayout

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- A program on device `c`, to the postcondition. -/
abbrev Run (c : Dev nD) (e : KProg F PUnit) (Q : PUnit → sProp 𝕄) : sProp 𝕄 :=
  wp frame (wpE (defs₀ (F := F)) 𝒱₀ (c : Thread nD τ) none) Set.univ e Q

/-- What a device still owes, whatever it has waited for. -/
def Ow (c : Dev nD) (O : CellTallies nD τ sig ℕ) : sProp 𝕄 := iprop(∃ W, owes (c : Thread nD τ) O W)

/-- The owner's place on a cell. -/
def At (g : GSem nD τ sig) (n : ℕ) : sProp 𝕄 := iprop(atPos ER g n ∅ 0 ∗ reached ER g n)

/-- One duty's token. -/
abbrev Tok (g : GSem nD τ sig) (r : ℕ) : sProp 𝕄 := dutyTok ER g r false

variable (P : Dev nD → FVec F S4096x8192 .f32) (K : GSem nD τ sig → ℕ)

/-- Every cell's invariant, and the levels. -/
def Ctx : sProp 𝕄 :=
  iprop((bigSep (Finset.univ : Finset (Dev nD × SemLoc sig)) fun x => cellInv ER (ringRd P) (K ((x.1 : Thread nD τ), x.2)) ((x.1 : Thread nD τ), x.2))
    ∗ levAts L lv)

instance Ctx_persistent : BI.Persistent (Ctx P K) := by unfold Ctx; infer_instance

theorem Ctx_inv (c : Dev nD) (sm : SemLoc sig) :
    (Ctx P K) ⊢ cellInv ER (ringRd P) (K ((c : Thread nD τ), sm)) ((c : Thread nD τ), sm) := by
  have h := bigSep_elim (Φ := fun x : Dev nD × SemLoc sig => (cellInv ER (ringRd P) (K ((x.1 : Thread nD τ), x.2)) ((x.1 : Thread nD τ), x.2) : sProp 𝕄))
    (Finset.mem_univ (c, sm))
  exact sep_elim_left.trans h

theorem Ctx_lev : (Ctx P K) ⊢ (levAts L lv : sProp 𝕄) := by
  unfold Ctx
  iintro ⟨-, H⟩
  iexact H

/-! ## Shares, and what a transfer leaves -/

theorem owns_halves (c : Dev nD) {sp : Space} {s : Shape} {e : EltTy} (m : Memref sig .tc sp s e) (X : s.Idx → Elt F e) :
    (ownsTc c m fullShare X : sProp 𝕄) ⊢ iprop(ownsTc c m fullShare.left X ∗ ownsTc c m fullShare.right X) := by
  unfold ownsTc owns
  iintro ⟨%f, %hf, H⟩
  ihave H' := (pointsTo_share (PosShare.mem_left_op_right fullShare)).1 $$ H
  icases H' with ⟨H1, H2⟩
  isplitl [H1]
  · iexists f; isplitr; · ipureintro; exact hf
    iexact H1
  · iexists f; isplitr; · ipureintro; exact hf
    iexact H2

theorem owns_join (c : Dev nD) {sp : Space} {s : Shape} {e : EltTy} (m : Memref sig .tc sp s e) (X Y : s.Idx → Elt F e) :
    iprop(ownsTc c m fullShare.left X ∗ ownsTc c m fullShare.right Y) ⊢ (ownsTc c m fullShare X : sProp 𝕄) := by
  unfold ownsTc owns
  iintro ⟨⟨%f, %hf, H1⟩, ⟨%g, %hg, H2⟩⟩
  ihave H := (persistent_entails_right pointsTo_agree) $$ [H1 H2]
  · isplitl [H1] <;> iassumption
  icases H with ⟨%h, H1, H2⟩
  iexists f
  isplitr; · ipureintro; exact hf
  iapply (pointsTo_share (PosShare.mem_left_op_right fullShare)).2
  isplitl [H1]; · iexact H1
  rw [pointsTo_congr (fun i hi => (h i (Finset.mem_inter.mpr ⟨hi, hi⟩)).1)]
  iexact H2

theorem Sl_halves (c : Dev nD) (pi : Fin 8) (s : Fin 2) (X : FVec F S32x8192 .f32) :
    (Sl c pi s fullShare X : sProp 𝕄) ⊢ iprop(Sl c pi s fullShare.left X ∗ Sl c pi s fullShare.right X) := by
  unfold Sl; exact owns_halves c (slotM pi s) X
theorem Sl_join (c : Dev nD) (pi : Fin 8) (s : Fin 2) (X Y : FVec F S32x8192 .f32) :
    iprop(Sl c pi s fullShare.left X ∗ Sl c pi s fullShare.right Y) ⊢ (Sl c pi s fullShare X : sProp 𝕄) := by
  unfold Sl; exact owns_join c (slotM pi s) X Y

/-- The credit of a transfer is the same through every view of thirty-two rows. -/
theorem credit_slot (pi : Fin 8) (s : Fin 2) : (slotM pi s).view.dmaCredit = N := by fin_cases pi <;> rfl
theorem credit_loc (pi : Fin 8) : (locM pi).view.dmaCredit = N := by fin_cases pi <;> rfl
theorem credit_row (pi : Fin 8) (j : Fin 16) : (blkM oM pi j).view.dmaCredit = N := rfl

/-! ## Waits -/

theorem wp_wait (c : Dev nD) {sm : SemLoc sig} {w : TpuEff nD τ sig (Elt F) Λ₀ .tc PUnit} {k' : ℕ} (i R n : ℕ)
    (hw : ∀ Kt : PUnit → sProp 𝕄, wpE (defs₀ (F := F)) 𝒱₀ (c : Thread nD τ) none Set.univ w Kt = waitSpec (c : Thread nD τ) Set.univ sm k' Kt)
    (hR : (ringRd P).duties ((c : Thread nD τ), sm) R = {false}) (hk : unitOf sm = k')
    (hi : i < 24) (hn : lvK i (kindOf sm) = n) {O : CellTallies nD τ sig ℕ} (hO : Above n O)
    {k : KProg F PUnit} {Q : PUnit → sProp 𝕄} :
    iprop(Ctx P K ∗ cred (tallyAt ((c : Thread nD τ), sm) i k') ∗ Ow c O ∗ At ((c : Thread nD τ), sm) R)
      ⊢ iprop(((Ow c O ∗ At ((c : Thread nD τ), sm) (R + 1) ∗ (ringRd P).payload ((c : Thread nD τ), sm) R false) -∗ Run c k Q)
          -∗ Run c (Prog.lift w >>= fun _ => k) Q) := by
  unfold Ow At
  iintro ⟨#HC, Hc, ⟨%W, HO⟩, Hat, -⟩ Hk
  iapply (Rounds.wp_wait_rest_token 𝒱₀ ER (ringRd P) (c : Thread nD τ) none (κ := K ((c : Thread nD τ), sm))
      hw (Set.mem_univ _) i (O := O) (W := W) (R := R) (m := 0) (T := ∅)
      ((Nat.zero_add k').trans (expect_one P R (g := ((c : Thread nD τ), sm)) hR hk).symm)) $$ [Hc HO Hat]
  · isplitr; · iapply (Ctx_inv P K c sm); iexact HC
    isplitl [Hc]; · iexact Hc
    isplitl [HO]; · iexact HO
    isplitr; · iapply (mayWait c sm hi hn hO); iapply (Ctx_lev P K); iexact HC
    iexact Hat
  rw [rest_one P hR]
  iintro ⟨HO, Hat, Hr, Hp⟩
  iapply Hk
  isplitl [HO]; · iexists _; iexact HO
  isplitl [Hat Hr]; · isplitl [Hat] <;> iassumption
  iexact Hp

theorem wp_waitSnd (c : Dev nD) (pi : Fin 8) (u : ℕ) (hu : u < 24) {O : CellTallies nD τ sig ℕ} (hO : Above 0 O)
    {k : KProg F PUnit} {Q : PUnit → sProp 𝕄} :
    iprop(Ctx P K ∗ cred (tallyAt (cSnd c pi (sOf u)) 0 N) ∗ Ow c O ∗ At (cSnd c pi (sOf u)) (u / 2))
      ⊢ iprop(((Ow c O ∗ At (cSnd c pi (sOf u)) (u / 2 + 1) ∗ Sl c pi (sOf u) fullShare.left (sentV P pi u c)) -∗ Run c k Q)
          -∗ Run c (sentP pi u >>= fun _ => k) Q) := by
  have h := wp_wait P K c (sm := .dma (ssem pi (sOf u))) 0 (u / 2) 0
    (w := .waitDma2 (ssem pi (sOf u)) (slotM pi (rOf u)) (slotM pi (sOf u)) ((View.wordExact_bits rfl).reshape _ _) ((View.wordExact_bits rfl).reshape _ _))
    (wpE_waitDma2_eq 𝒱₀ (c : Thread nD τ) none Set.univ) (duties_snd P c pi _ _ (by omega)) (credit_slot pi _).symm (by decide)
    (by rw [kind_snd]; rfl) hO (k := k) (Q := Q)
  rw [credit_slot, pay_snd, show uSnd (sOf u) (u / 2) = u from Nat.div_add_mod u 2] at h
  exact h

theorem wp_waitRcv (c : Dev nD) (pi : Fin 8) (u : ℕ) (hu : u < 24) {O : CellTallies nD τ sig ℕ} (hO : Above (2 * (8 * u + pos pi) + 2) O)
    {k : KProg F PUnit} {Q : PUnit → sProp 𝕄} :
    iprop(Ctx P K ∗ cred (tallyAt (cRcv c pi (rOf u)) u N) ∗ Ow c O ∗ At (cRcv c pi (rOf u)) (u / 2))
      ⊢ iprop(((Ow c O ∗ At (cRcv c pi (rOf u)) (u / 2 + 1) ∗ Sl c pi (rOf u) fullShare (landV P pi u c) ∗ reached ER (cCr (src pi c) pi) u) -∗ Run c k Q)
          -∗ Run c (landedP pi u >>= fun _ => k) Q) := by
  have h := wp_wait P K c (sm := .dma (rsem pi (rOf u))) u (u / 2) (2 * (8 * u + pos pi) + 2)
    (w := .waitDma2 (rsem pi (rOf u)) (slotM pi (sOf u)) (slotM pi (rOf u)) ((View.wordExact_bits rfl).reshape _ _) ((View.wordExact_bits rfl).reshape _ _))
    (wpE_waitDma2_eq 𝒱₀ (c : Thread nD τ) none Set.univ) (duties_rcv P c pi _ _ (by omega)) (credit_slot pi _).symm hu
    (by rw [kind_rcv]; rfl) hO (k := k) (Q := Q)
  rw [credit_slot, pay_rcv, show uRcv (rOf u) (u / 2) = u from by show 2 * (u / 2) + (1 - (u + 1) % 2) = u; omega] at h
  exact h

theorem wp_waitCr (c : Dev nD) (pi : Fin 8) (u : ℕ) (hu : u < 23) {O : CellTallies nD τ sig ℕ} (hO : Above (2 * (8 * u + pos pi) + 3) O)
    {k : KProg F PUnit} {Q : PUnit → sProp 𝕄} :
    iprop(Ctx P K ∗ cred (tallyAt (cCr c pi) u 1) ∗ Ow c O ∗ At (cCr c pi) u)
      ⊢ iprop(((Ow c O ∗ At (cCr c pi) (u + 1) ∗ Leave c pi (u + 1)) -∗ Run c k Q)
          -∗ Run c (semWaitWord (crd pi) 1#32 >>= fun _ => k) Q) := by
  have h := wp_wait P K c (sm := .reg (crd pi)) u u (2 * (8 * u + pos pi) + 3) (w := .semWait (crd pi) ((1 : ℕ) : ℤ))
    (wpE_semWait_eq 𝒱₀ (c : Thread nD τ) none Set.univ) (duties_cr P c pi _ hu) rfl (by omega) (by rw [kind_cr]; rfl) hO (k := k) (Q := Q)
  rw [pay_cr] at h
  exact h

theorem wp_waitLd (c : Dev nD) (pi : Fin 8) (r : ℕ) (hr : r < 16) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.dma (csem pi)) N Kt)
    {O : CellTallies nD τ sig ℕ} (hO : Above 0 O) {k : KProg F PUnit} {Q : PUnit → sProp 𝕄} :
    iprop(Ctx P K ∗ cred (tallyAt (cLd c pi) 0 N) ∗ Ow c O ∗ At (cLd c pi) r)
      ⊢ iprop(((Ow c O ∗ At (cLd c pi) (r + 1) ∗ ldPay P c pi r) -∗ Run c k Q) -∗ Run c (Prog.lift w >>= fun _ => k) Q) := by
  have h := wp_wait P K c (sm := .dma (csem pi)) 0 r 0 (w := w) hw (duties_ld P c pi _ hr) rfl (by decide) (by rw [kind_ld]; rfl) hO (k := k) (Q := Q)
  rw [pay_ld] at h
  exact h

theorem wp_waitSt (c : Dev nD) (pi : Fin 8) (u : ℕ) (hu : u < 24) (h2 : 2 ≤ u % 6)
    {O : CellTallies nD τ sig ℕ} (hO : Above 0 O) {k : KProg F PUnit} {Q : PUnit → sProp 𝕄} :
    iprop(Ctx P K ∗ cred (tallyAt (cSt c pi) 0 N) ∗ Ow c O ∗ At (cSt c pi) (4 * (u / 6) + (u % 6 - 2)))
      ⊢ iprop(((Ow c O ∗ At (cSt c pi) (4 * (u / 6) + (u % 6 - 2) + 1) ∗ stPay P c pi u) -∗ Run c k Q) -∗ Run c (storeWaitP c pi u hu >>= fun _ => k) Q) := by
  have h := wp_wait P K c (sm := .dma (tsem pi)) 0 (4 * (u / 6) + (u % 6 - 2)) 0
    (w := .waitDma2 (tsem pi) (slotM pi (rOf u)) (rowM oM (offS c pi u) (offS_inb c pi hu)) ((View.wordExact_bits rfl).reshape _ _) (View.wordExact_bits rfl))
    (wpE_waitDma2_eq 𝒱₀ (c : Thread nD τ) none Set.univ) (duties_st P c pi _ (by omega)) rfl (by decide) (by rw [kind_st]; rfl) hO (k := k) (Q := Q)
  rw [pay_st, show 6 * ((4 * (u / 6) + (u % 6 - 2)) / 4) + 2 + (4 * (u / 6) + (u % 6 - 2)) % 4 = u from by omega] at h
  exact h

/-! ## Signals and transfers -/

/-- The leave a device gives its sender at step `u`. -/
theorem wp_sigCr (c : Dev nD) (pi : Fin 8) (u : ℕ) (hu : u < 23) {O₀ O : CellTallies nD τ sig ℕ}
    (hO : O₀ = O + tallyAt (cCr (src pi c) pi) u 1) {k : KProg F PUnit} {Q : PUnit → sProp 𝕄} :
    iprop(Ctx P K ∗ Ow c O₀ ∗ Tok (cCr (src pi c) pi) u ∗ SlAny c pi (sOf u) ∗ reached ER (cRcv c pi (sOf u)) ((u + 1) / 2)
        ∗ reached ER (cCr (src pi c) pi) u)
      ⊢ iprop((Ow c O -∗ Run c k Q) -∗ Run c (semSignalWord (src pi c) (crd pi) 1#32 >>= fun _ => k) Q) := by
  unfold Ow
  iintro ⟨#HC, ⟨%W, HO⟩, Ht, Hs, #Hr, #Hc⟩ Hk
  iapply (Rounds.wp_signal 𝒱₀ ER (ringRd P) (c : Thread nD τ) none (dst := (src pi c : Thread nD τ)) (sem := crd pi) (r := u) (d := false)
      (κ := K (cCr (src pi c) pi)) (k' := 1) (by rw [duties_cr P _ pi u hu]; exact Finset.mem_singleton_self _) rfl u O hO (W := W)) $$ [HO Ht Hs]
  · isplitr; · iapply (Ctx_inv P K (src pi c) (.reg (crd pi))); iexact HC
    isplitl [HO]; · iexact HO
    isplitl [Ht]; · iexact Ht
    isplitl [Hs]
    · rw [pay_cr]; unfold Leave
      rw [tgt_src, show rOf (u + 1) = sOf u from Fin.ext (by show (u + 1 + 1) % 2 = u % 2; omega)]
      isplitl [Hs]; · iexact Hs
      iexact Hr
    iexact Hc
  iintro HO
  iapply Hk
  iexists W; iexact HO

/-- The transfer of step `u`. -/
theorem wp_sendU (c : Dev nD) (pi : Fin 8) (u : ℕ) (hu : u < 24) {O₀ O : CellTallies nD τ sig ℕ}
    (hO : O₀ = O + tallyAt (cRcv (tgt pi c) pi (rOf u)) u N) {k : KProg F PUnit} {Q : PUnit → sProp 𝕄} :
    iprop(Ctx P K ∗ Ow c O₀ ∗ Sl c pi (sOf u) fullShare.left (sentV P pi u c) ∗ Leave c pi u ∗ reached ER (cCr c pi) u
        ∗ Tok (cSnd c pi (sOf u)) (u / 2) ∗ reached ER (cSnd c pi (sOf u)) (u / 2) ∗ Tok (cRcv (tgt pi c) pi (rOf u)) (u / 2))
      ⊢ iprop(((cred (tallyAt (cSnd c pi (sOf u)) 0 N) ∗ Ow c O) -∗ Run c k Q) -∗ Run c (sendP c pi u >>= fun _ => k) Q) := by
  unfold Ow Sl Leave SlAny Sl ownsTc owns
  iintro ⟨#HC, ⟨%W, HO⟩, ⟨%f, %hf, Hs⟩, ⟨⟨%X, %g, %hg, Hd⟩, #Hr⟩, #Hc, Ht, #Hrs, Ht'⟩ Hk
  iapply (Rounds.wp_send_pointsTo_with 𝒱₀ ER (ringRd P) (c : Thread nD τ) none (c' := (tgt pi c : Thread nD τ)) (src := slotM pi (sOf u)) (dst := slotM pi (rOf u))
      (sS := .dma (ssem pi (sOf u))) (sem := .dma (rsem pi (rOf u))) (q := fullShare.left) (fs := f) (fd := g)
      (F := reached ER (cCr c pi) u) (κ₁ := K (cSnd c pi (sOf u))) (κ₂ := K (cRcv (tgt pi c) pi (rOf u)))
      (r₁ := u / 2) (r₂ := u / 2) (d₁ := false) (d₂ := false)
      (by rw [duties_snd P _ _ _ _ (by omega)]; exact Finset.mem_singleton_self _) (by rw [duties_rcv P _ _ _ _ (by omega)]; exact Finset.mem_singleton_self _)
      u 0 N (credit_slot pi _) rfl rfl O hO (W := W)
      (by
        rw [pay_snd, show uSnd (sOf u) (u / 2) = u from Nat.div_add_mod u 2]
        unfold Sl ownsTc owns
        iintro H; iexists f; isplitr; · ipureintro; exact hf
        iexact H)
      (by
        rw [pay_rcv, show uRcv (rOf u) (u / 2) = u from by show 2 * (u / 2) + (1 - (u + 1) % 2) = u; omega, landV_tgt, src_tgt]
        unfold Sl ownsTc owns
        iintro ⟨H, Hc⟩
        isplitl [H]
        · iexists _; isplitr
          rotate_left
          · iexact H
          ipureintro; rw [View.read_write_univ]; exact hf
        iexact Hc)) $$ [Hs Hd HO Ht Ht']
  · isplitr; · iapply (Ctx_inv P K c (.dma (ssem pi (sOf u)))); iexact HC
    isplitr; · iapply (Ctx_inv P K (tgt pi c) (.dma (rsem pi (rOf u)))); iexact HC
    isplitl [Hs]; · iexact Hs
    isplitl [Hd]
    · isplitl [Hd]; · iexact Hd
      iexact Hc
    isplitl [HO]; · iexact HO
    isplitl [Ht]; · iexact Ht
    isplitr; · iexact Hrs
    isplitl [Ht']; · iexact Ht'
    iexact Hr
  iintro ⟨Hcr, HO⟩
  iapply Hk
  isplitl [Hcr]; · iexact Hcr
  iexists W; iexact HO

theorem copy_owns (c : Dev nD) {sp sp' : Space} {s : Shape} {e : EltTy} (src : Memref sig .tc sp s e) (dst : Memref sig .tc sp' s e)
    (sh : PosShare TreeShare) (X : s.Idx → Elt F e) (f : src.view.ty.Contents (Elt F)) (g : dst.view.ty.Contents (Elt F)) (hf : src.view.read (Elt F) f = X) :
    iprop((dst.view.loc (c : Thread nD τ) ↦[dst.view.set]{fullShare} (dst.view.write (Elt F) g (src.view.read (Elt F) f) Finset.univ))
        ∗ (src.view.loc (c : Thread nD τ) ↦[src.view.set]{sh} f))
      ⊢ (iprop(ownsTc c dst fullShare X ∗ ownsTc c src sh X) : sProp 𝕄) := by
  unfold ownsTc owns
  iintro ⟨Hd, Hs⟩
  isplitl [Hd]
  · iexists _; isplitr
    rotate_left
    · iexact Hd
    ipureintro; rw [View.read_write_univ]; exact hf
  · iexists f; isplitr; · ipureintro; exact hf
    iexact Hs

/-- A copy within a device, on one of its own semaphores. -/
theorem wp_here (c : Dev nD) {sp sp' : Space} {s : Shape} {e : EltTy} (src : Memref sig .tc sp s e) (dst : Memref sig .tc sp' s e) (q : DmaSem sig)
    {hsrc : src.view.WordExact} {hdst : dst.view.WordExact} {hsem : DmaTarget.Typed (nD := nD) (τ := τ) (p := Proc.tc) sp (.dma q) (.here dst)}
    (sh : PosShare TreeShare) (X Y : s.Idx → Elt F e) (r : ℕ)
    (hd : (ringRd P).duties ((c : Thread nD τ), .dma q) r = {false}) (hN : dst.view.dmaCredit = N)
    (hpay : iprop(ownsTc c dst fullShare X ∗ ownsTc c src sh X) ⊢ (ringRd P).payload ((c : Thread nD τ), .dma q) r false)
    {k : KProg F PUnit} {Q : PUnit → sProp 𝕄} :
    iprop(Ctx P K ∗ ownsTc c src sh X ∗ ownsTc c dst fullShare Y ∗ Tok ((c : Thread nD τ), .dma q) r ∗ reached ER ((c : Thread nD τ), .dma q) r)
      ⊢ iprop((cred (tallyAt ((c : Thread nD τ), .dma q) 0 N) -∗ Run c k Q)
          -∗ Run c (Prog.lift (.enqueueDma src (.here dst) (.dma q) hsrc hdst hsem) >>= fun _ => k) Q) := by
  unfold ownsTc owns
  iintro ⟨#HC, ⟨%f, %hf, Hs⟩, ⟨%g, %hg, Hd⟩, Ht, #Hr⟩ Hk
  iapply (Rounds.wp_copy_pointsTo 𝒱₀ ER (ringRd P) (c : Thread nD τ) none (src := src) (dst := dst) (sem := .dma q) (q := sh)
      (fs := f) (fd := g) (r := r) (d := false) (κ := K ((c : Thread nD τ), .dma q))
      (by rw [hd]; exact Finset.mem_singleton_self _) 0 N hN rfl
      ((copy_owns c src dst sh X f g hf).trans hpay)) $$ [Hs Hd Ht]
  · isplitr; · iapply (Ctx_inv P K c (.dma q)); iexact HC
    isplitl [Hs]; · iexact Hs
    isplitl [Hd]; · iexact Hd
    isplitl [Ht]; · iexact Ht
    iexact Hr
  iintro Hc
  iapply Hk
  iexact Hc

/-- The load of a step's own rows. -/
theorem wp_loadU (c : Dev nD) (pi : Fin 8) (u : ℕ) (hu : u < 24) (h3 : u % 6 < 3) {k : KProg F PUnit} {Q : PUnit → sProp 𝕄} :
    iprop(Ctx P K ∗ Pb c pi (jS c pi u) (blk (P c) pi (jS c pi u)) ∗ LcAny c pi ∗ Tok (cLd c pi) (4 * (u / 6) + 1 + u % 6)
        ∗ reached ER (cLd c pi) (4 * (u / 6) + 1 + u % 6))
      ⊢ iprop((cred (tallyAt (cLd c pi) 0 N) -∗ Run c k Q) -∗ Run c (loadP c pi u hu >>= fun _ => k) Q) := by
  unfold LcAny Pb Lc loadP
  iintro ⟨#HC, Hp, ⟨%Y, Hl⟩, Ht, #Hr⟩ Hk
  rw [← rowS pM c pi hu]
  iapply (wp_here P K c (rowM pM (offS c pi u) (offS_inb c pi hu)) (locM pi) (csem pi) fullShare (blk (P c) pi (jS c pi u)) Y (4 * (u / 6) + 1 + u % 6)
    (duties_ld P c pi _ (by omega)) (credit_loc pi) (by
      rw [pay_ld]; unfold ldPay Lc Pb
      rw [if_neg (by omega), rowS pM c pi hu, show 6 * ((4 * (u / 6) + 1 + u % 6) / 4) + ((4 * (u / 6) + 1 + u % 6) % 4 - 1) = u from by omega])) $$ [Hp Hl Ht]
  · isplitr; · iexact HC
    isplitl [Hp]; · iexact Hp
    isplitl [Hl]; · iexact Hl
    isplitl [Ht]; · iexact Ht
    iexact Hr
  iexact Hk

/-- The load of a round's first rows. -/
theorem wp_initG (c : Dev nD) (pi : Fin 8) (g : ℕ) (hg : g < 4) {k : KProg F PUnit} {Q : PUnit → sProp 𝕄} :
    iprop(Ctx P K ∗ Pb c pi (jI c g) (blk (P c) pi (jI c g)) ∗ SlAny c pi 0 ∗ Tok (cLd c pi) (4 * g) ∗ reached ER (cLd c pi) (4 * g))
      ⊢ iprop((cred (tallyAt (cLd c pi) 0 N) -∗ Run c k Q) -∗ Run c (initP c pi g hg >>= fun _ => k) Q) := by
  unfold SlAny Pb Sl initP
  iintro ⟨#HC, Hp, ⟨%Y, Hl⟩, Ht, #Hr⟩ Hk
  rw [← rowI pM c pi hg]
  iapply (wp_here P K c (rowM pM (offI c pi g) (offI_inb c pi hg)) (slotM pi 0) (csem pi) fullShare (blk (P c) pi (jI c g)) Y (4 * g)
    (duties_ld P c pi _ (by omega)) (credit_slot pi 0) (by
      rw [pay_ld]; unfold ldPay Sl Pb
      rw [if_pos (by omega), rowI pM c pi hg, show 4 * g / 4 = g from by omega])) $$ [Hp Hl Ht]
  · isplitr; · iexact HC
    isplitl [Hp]; · iexact Hp
    isplitl [Hl]; · iexact Hl
    isplitl [Ht]; · iexact Ht
    iexact Hr
  iexact Hk

/-- The store of a step's finished rows. -/
theorem wp_storeU (c : Dev nD) (pi : Fin 8) (u : ℕ) (hu : u < 24) (h2 : 2 ≤ u % 6) {k : KProg F PUnit} {Q : PUnit → sProp 𝕄} :
    iprop(Ctx P K ∗ Sl c pi (rOf u) fullShare.right (postV P pi u c) ∗ ObAny c pi (jS c pi u) ∗ Tok (cSt c pi) (4 * (u / 6) + (u % 6 - 2))
        ∗ reached ER (cSt c pi) (4 * (u / 6) + (u % 6 - 2)))
      ⊢ iprop((cred (tallyAt (cSt c pi) 0 N) -∗ Run c k Q) -∗ Run c (storeP c pi u hu >>= fun _ => k) Q) := by
  unfold ObAny Ob Sl storeP
  iintro ⟨#HC, Hp, ⟨%Y, Hl⟩, Ht, #Hr⟩ Hk
  rw [← rowS oM c pi hu]
  iapply (wp_here P K c (slotM pi (rOf u)) (rowM oM (offS c pi u) (offS_inb c pi hu)) (tsem pi) fullShare.right (postV P pi u c) Y (4 * (u / 6) + (u % 6 - 2))
    (duties_st P c pi _ (by omega)) rfl (by
      rw [pay_st]; unfold stPay Sl Ob
      rw [rowS oM c pi hu, show 6 * ((4 * (u / 6) + (u % 6 - 2)) / 4) + 2 + (4 * (u / 6) + (u % 6 - 2)) % 4 = u from by omega,
        postV_out P pi u c hu h2])) $$ [Hp Hl Ht]
  · isplitr; · iexact HC
    isplitl [Hp]; · iexact Hp
    isplitl [Hl]; · iexact Hl
    isplitl [Ht]; · iexact Ht
    iexact Hr
  iexact Hk

/-! ## The sum -/

theorem slot_set (pi : Fin 8) (s : Fin 2) : (slotM pi s).view.set = ((commM pi).access (slotR s)).set := View.set_reshape _ _

theorem slot_read (pi : Fin 8) (s : Fin 2) (f : (commM pi).view.ty.Contents (Elt F)) :
    (slotM pi s).view.read (Elt F) f
      = shapeCast S32x8192 (((commM pi).view.slice (slotR s)).read (Elt F) f) shapeCasts_S1x32x8192_S32x8192 := rfl

theorem cast_cast_slot (X : FVec F S32x8192 .f32) :
    shapeCast S32x8192 (shapeCast S1x32x8192 X shapeCasts_S32x8192_S1x32x8192) shapeCasts_S1x32x8192_S32x8192 = X := by
  funext i
  show X (Shape.reshapeEquiv _ (Shape.reshapeEquiv _ i)) = X i
  rw [Shape.reshapeEquiv_reshapeEquiv, Shape.reshapeEquiv_self]

theorem locR_emb (i : S32x8192.Idx) : locR.emb i = i := by
  funext a; apply Fin.ext
  show (![0, 0] : Fin 2 → ℕ) a + 1 * (i a).val = (i a).val
  fin_cases a <;> simp

theorem wp_acc (c : Dev nD) (pi : Fin 8) (u : ℕ) (v w : FVec F S32x8192 .f32) {k : KProg F PUnit} {Q : PUnit → sProp 𝕄} :
    iprop(Sl c pi (rOf u) fullShare v ∗ Lc c pi w)
      ⊢ iprop(((Sl c pi (rOf u) fullShare (accV u v w) ∗ Lc c pi w) -∗ Run c k Q) -∗ Run c (accP pi u >>= fun _ => k) Q) := by
  unfold Sl Lc ownsTc owns
  iintro ⟨⟨%f, %hf, Hs⟩, ⟨%g, %hg, Hl⟩⟩ Hk
  have hS : (commM pi).view.setOn (slotR (rOf u)).toLoadRect.set ⊆ (slotM pi (rOf u)).view.set := by
    rw [slot_set]; exact (View.set_slice (commM pi).view (slotR (rOf u))).ge
  have hv : (shapeCast S32x8192 ((commM pi).view.readAt (Elt F) (slotR (rOf u)).toLoadRect f) shapeCasts_S1x32x8192_S32x8192 : FVec F S32x8192 .f32) = v := hf
  have hw : (locM pi).view.readAt (Elt F) locR.toLoadRect g = w := by
    rw [← hg]; funext i
    show (locM pi).view.read (Elt F) g (locR.emb i) = _
    rw [locR_emb]
  iapply (wp_load (m := commM pi) (r := (slotR (rOf u)).toLoadRect) 𝒱₀ (c : Thread nD τ) none Set.univ hS) $$ Hs
  iintro Hs
  iapply (wp_load (m := locM pi) (r := locR.toLoadRect) 𝒱₀ (c : Thread nD τ) none Set.univ (View.setOn_subset_set _ _)) $$ Hl
  iintro Hl
  iapply (wp_load (m := commM pi) (r := (slotR (rOf u)).toLoadRect) 𝒱₀ (c : Thread nD τ) none Set.univ hS) $$ Hs
  iintro Hs
  rw [hv, hw]
  iapply (wp_store (m := commM pi) (r := slotR (rOf u)) 𝒱₀ (c : Thread nD τ) none Set.univ (by rw [slot_set]; exact subset_rfl)) $$ Hs
  iintro Hs
  iapply Hk
  isplitl [Hs]
  · iexists _; isplitr
    rotate_left
    · iexact Hs
    ipureintro
    rw [slot_read]
    show shapeCast S32x8192 (((commM pi).view.slice (slotR (rOf u))).read (Elt F) (((commM pi).view.slice (slotR (rOf u))).write (Elt F) f _ Finset.univ)) _ = _
    rw [View.read_write_univ]
    exact cast_cast_slot _
  · iexists g; isplitr; · ipureintro; exact hg
    iexact Hl

end Cert.Ring

end
-- ==== Proof.Step.lean ====
/-
  One step of one pipe: what a pipe holds before it, and that it holds the same of the next step after.
-/
module

public import proofs.«01_k».proof.Proof.Ops

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → FVec F S4096x8192 .f32) (K : GSem nD τ sig → ℕ)

/-! ## Lists of programs -/

theorem seqP_append (l l' : List (KProg F PUnit)) : seqP (l ++ l') = (seqP l >>= fun _ => seqP l') := by
  induction l with
  | nil => rfl
  | cons p l ih =>
    show (p >>= fun _ => seqP (l ++ l')) = ((p >>= fun _ => seqP l) >>= fun _ => seqP l')
    rw [ih, Prog.bind_assoc]

theorem seqP_cons (p : KProg F PUnit) (l : List (KProg F PUnit)) : seqP (p :: l) = (p >>= fun _ => seqP l) := rfl

/-! ## Arithmetic of the rounds -/

/-- The load a step waits for, and the one it starts after that. -/
def la (u : ℕ) : ℕ := 4 * (u / 6) + 1 + min (u % 6) 3
def lb (u : ℕ) : ℕ := 4 * (u / 6) + 1 + min (u % 6 + 1) 3
/-- The store a step waits for, and the one it starts after that. -/
def ta (u : ℕ) : ℕ := 4 * (u / 6) + (u % 6 - 3)
def tb (u : ℕ) : ℕ := 4 * (u / 6) + (u % 6 - 2)

theorem rOf_succ (u : ℕ) : rOf (u + 1) = sOf u := Fin.ext (by show (u + 1 + 1) % 2 = u % 2; omega)

theorem Ico_take {a b : ℕ} (h : a < b) (Φ : ℕ → sProp 𝕄) : bigSep (Finset.Ico a b) Φ = iprop(Φ a ∗ bigSep (Finset.Ico (a + 1) b) Φ) := by
  have e : Finset.Ico a b = insert a (Finset.Ico (a + 1) b) := by ext i; simp only [Finset.mem_Ico, Finset.mem_insert]; omega
  rw [e]; exact bigSep_insert (by simp)

theorem At_reached (g : GSem nD τ sig) (n : ℕ) : (At g n : sProp 𝕄) ⊢ iprop(reached ER g n ∗ At g n) := by
  unfold At
  iintro ⟨H, #R⟩
  isplitr; · iexact R
  isplitl [H]; · iexact H
  iexact R

/-! ## The result's rows -/

/-- The step that stores a block. -/
def stored (c : Dev nD) (pi : Fin 8) (j : Fin 16) : ℕ :=
  6 * (j.val / 4) + 2 + (if pi.val < 4 then (c.val + 9 - j.val % 4) % 4 else (j.val % 4 + 5 - c.val) % 4)

theorem stored_jS : ∀ (c : Dev nD) (pi : Fin 8) (u : Fin 24), 2 ≤ u.val % 6 → stored c pi (jS c pi u.val) = u.val := by decide +kernel
theorem jS_stored : ∀ (c : Dev nD) (pi : Fin 8) (j : Fin 16), jS c pi (stored c pi j) = j ∧ 2 ≤ stored c pi j % 6 ∧ stored c pi j < 24 := by decide +kernel

/-- A block of the result before step `u`. -/
def oOf (c : Dev nD) (pi : Fin 8) (u : ℕ) (j : Fin 16) : sProp 𝕄 :=
  if stored c pi j < u then Ob c pi j (blk (outV P) pi j) else ObAny c pi j

def oSt (c : Dev nD) (pi : Fin 8) (u : ℕ) : sProp 𝕄 := bigSep Finset.univ fun j => oOf P c pi u j
/-- The same but for the block step `u` stores. -/
def oHole (c : Dev nD) (pi : Fin 8) (u : ℕ) : sProp 𝕄 := bigSep (Finset.univ.erase (jS c pi u)) fun j => oOf P c pi u j

theorem oSt_take (c : Dev nD) (pi : Fin 8) {u : ℕ} (hu : u < 24) (h2 : 2 ≤ u % 6) :
    oSt P c pi u = iprop(ObAny c pi (jS c pi u) ∗ oHole P c pi u) := by
  unfold oSt oHole
  rw [bigSep_univ_at _ (jS c pi u)]
  unfold oOf
  rw [if_neg (by rw [stored_jS c pi ⟨u, hu⟩ h2]; exact Nat.lt_irrefl u)]

theorem oHole_put (c : Dev nD) (pi : Fin 8) {u : ℕ} (hu : u < 24) (h2 : 2 ≤ u % 6) :
    iprop(Ob c pi (jS c pi u) (blk (outV P) pi (jS c pi u)) ∗ oHole P c pi u) = oSt P c pi (u + 1) := by
  unfold oSt oHole
  rw [bigSep_univ_at _ (jS c pi u)]
  congr 1
  · unfold oOf
    rw [if_pos (by rw [stored_jS c pi ⟨u, hu⟩ h2]; exact Nat.lt_succ_self u)]
  · apply bigSep_congr
    intro j hj
    have hne : stored c pi j ≠ u := fun e => Finset.ne_of_mem_erase hj (by rw [← e, (jS_stored c pi j).1])
    unfold oOf
    by_cases h : stored c pi j < u
    · rw [if_pos h, if_pos (by omega)]
    · rw [if_neg h, if_neg (by omega)]

theorem oSt_skip (c : Dev nD) (pi : Fin 8) {u : ℕ} (h2 : ¬ 2 ≤ u % 6) : oSt P c pi u = oSt P c pi (u + 1) := by
  unfold oSt
  apply bigSep_congr
  intro j _
  have hne : stored c pi j ≠ u := fun e => h2 (by rw [← e]; exact (jS_stored c pi j).2.1)
  unfold oOf
  by_cases h : stored c pi j < u
  · rw [if_pos h, if_pos (by omega)]
  · rw [if_neg h, if_neg (by omega)]

/-! ## The product's rows -/

def pAll (c : Dev nD) (pi : Fin 8) : sProp 𝕄 := bigSep Finset.univ fun j => Pb c pi j (blk (P c) pi j)
def pHole (c : Dev nD) (pi : Fin 8) (j : Fin 16) : sProp 𝕄 := bigSep (Finset.univ.erase j) fun j => Pb c pi j (blk (P c) pi j)

theorem pAll_take (c : Dev nD) (pi : Fin 8) (j : Fin 16) : pAll P c pi = iprop(Pb c pi j (blk (P c) pi j) ∗ pHole P c pi j) := by
  unfold pAll pHole; exact bigSep_univ_at _ j

/-! ## What a pipe holds -/

/-- The other half of the slot being sent, but while that half is being stored. -/
def keepS (c : Dev nD) (pi : Fin 8) (u : ℕ) : sProp 𝕄 :=
  if 3 ≤ u % 6 then iprop(emp) else Sl c pi (sOf u) fullShare.right (sentV P pi u c)
def ldS (c : Dev nD) (pi : Fin 8) (u : ℕ) : sProp 𝕄 :=
  if u % 6 < 3 then iprop(cred (tallyAt (cLd c pi) 0 N) ∗ pHole P c pi (jS c pi u)) else iprop(LcAny c pi ∗ pAll P c pi)
def stS (c : Dev nD) (pi : Fin 8) (u : ℕ) : sProp 𝕄 :=
  if 3 ≤ u % 6 then iprop(cred (tallyAt (cSt c pi) 0 N) ∗ oHole P c pi (u - 1)) else oSt P c pi u

def Ats (c : Dev nD) (pi : Fin 8) (u : ℕ) : sProp 𝕄 :=
  iprop(At (cSnd c pi (sOf u)) (u / 2) ∗ At (cSnd c pi (rOf u)) ((u + 1) / 2) ∗ At (cRcv c pi (rOf u)) (u / 2) ∗ At (cRcv c pi (sOf u)) ((u + 1) / 2)
    ∗ At (cCr c pi) u ∗ At (cLd c pi) (la u) ∗ At (cSt c pi) (ta u))

def sendTok (c : Dev nD) (pi : Fin 8) (v : ℕ) : sProp 𝕄 :=
  iprop(Tok (cSnd c pi (sOf v)) (v / 2) ∗ Tok (cRcv (tgt pi c) pi (rOf v)) (v / 2))

def Toks (c : Dev nD) (pi : Fin 8) (u : ℕ) : sProp 𝕄 :=
  iprop(bigSep (Finset.Ico (u + 1) 24) (fun v => sendTok c pi v)
    ∗ bigSep (Finset.Ico u 23) (fun v => Tok (cCr (src pi c) pi) v)
    ∗ bigSep (Finset.Ico (lb u) 16) (fun r => Tok (cLd c pi) r)
    ∗ bigSep (Finset.Ico (tb u) 16) (fun r => Tok (cSt c pi) r)
    ∗ bigSep (Finset.Ico u 24) (fun v => cred (tallyAt (cRcv c pi (rOf v)) v N))
    ∗ bigSep (Finset.Ico u 23) (fun v => cred (tallyAt (cCr c pi) v 1)))

def PipeM (c : Dev nD) (pi : Fin 8) (u : ℕ) : sProp 𝕄 :=
  iprop(cred (tallyAt (cSnd c pi (sOf u)) 0 N) ∗ keepS P c pi u ∗ ldS P c pi u ∗ stS P c pi u ∗ Ats c pi u ∗ Toks c pi u)

/-- After the last step: its store is under way. -/
def PipeF (c : Dev nD) (pi : Fin 8) : sProp 𝕄 :=
  iprop(cred (tallyAt (cSt c pi) 0 N) ∗ oHole P c pi 23 ∗ Sl c pi (rOf 23) fullShare.left (postV P pi 23 c) ∗ SlAny c pi (sOf 23) ∗ LcAny c pi ∗ pAll P c pi
    ∗ At (cSnd c pi (sOf 23)) 12 ∗ At (cSnd c pi (rOf 23)) 12 ∗ At (cRcv c pi (rOf 23)) 12 ∗ At (cRcv c pi (sOf 23)) 12
    ∗ At (cCr c pi) 23 ∗ At (cLd c pi) 16 ∗ At (cSt c pi) 15)

def Pipe (c : Dev nD) (pi : Fin 8) (u : ℕ) : sProp 𝕄 := if u < 24 then PipeM P c pi u else PipeF P c pi

/-! ## The stages of a step -/

theorem stageA (c : Dev nD) (pi : Fin 8) (u : ℕ) (hu : u < 24) {O₀ O₁ : CellTallies nD τ sig ℕ}
    (hO : O₀ = if u < 23 then O₁ + tallyAt (cCr (src pi c) pi) u 1 else O₁) (hA : Above (2 * (8 * u + pos pi) + 2) O₀) (hA₁ : Above 0 O₁)
    {l : List (KProg F PUnit)} {Q : PUnit → sProp 𝕄} :
    iprop(Ctx P K ∗ Ow c O₀ ∗ cred (tallyAt (cSnd c pi (sOf u)) 0 N) ∗ cred (tallyAt (cRcv c pi (rOf u)) u N)
        ∗ At (cSnd c pi (sOf u)) (u / 2) ∗ At (cRcv c pi (rOf u)) (u / 2) ∗ At (cRcv c pi (sOf u)) ((u + 1) / 2) ∗ At (cSt c pi) (ta u)
        ∗ keepS P c pi u ∗ stS P c pi u ∗ (if u < 23 then Tok (cCr (src pi c) pi) u else emp))
      ⊢ iprop(((Ow c O₁ ∗ At (cSnd c pi (sOf u)) (u / 2 + 1) ∗ At (cRcv c pi (rOf u)) (u / 2 + 1) ∗ At (cRcv c pi (sOf u)) ((u + 1) / 2) ∗ At (cSt c pi) (tb u)
            ∗ Sl c pi (rOf u) fullShare (landV P pi u c) ∗ oSt P c pi u ∗ (if u < 23 then emp else SlAny c pi (sOf u))) -∗ Run c (seqP l) Q)
          -∗ Run c (seqP (recvL c pi u hu ++ l)) Q) := by
  have hA0 : Above 0 O₀ := hA.mono (Nat.zero_le _)
  unfold recvL
  simp only [List.append_assoc, List.cons_append, List.nil_append, seqP_cons]
  iintro ⟨#HC, HO, Hcs, Hcr, Has, Har, Hax, Hat, Hk, Hst, Htk⟩ Hgo
  iapply (wp_waitSnd P K c pi u hu hA0) $$ [HO Hcs Has]
  · iframe; iexact HC
  iintro ⟨HO, Has, Hleft⟩
  iapply (wp_waitRcv P K c pi u hu hA) $$ [HO Hcr Har]
  · iframe; iexact HC
  iintro ⟨HO, Har, Hland, #Hrc⟩
  -- the store of the step before
  have key : iprop(Ctx P K ∗ Ow c O₀ ∗ At (cSt c pi) (ta u) ∗ keepS P c pi u ∗ stS P c pi u)
      ⊢ iprop(((Ow c O₀ ∗ At (cSt c pi) (tb u) ∗ (∃ X, Sl c pi (sOf u) fullShare.right X) ∗ oSt P c pi u)
            -∗ Run c (seqP (opt (u < 23) (semSignalWord (src pi c) (crd pi) 1#32) ++ l)) Q)
          -∗ Run c (seqP (opt (3 ≤ u % 6) (storeWaitP c pi (u - 1) (by omega)) ++ (opt (u < 23) (semSignalWord (src pi c) (crd pi) 1#32) ++ l))) Q) := by
    by_cases h3 : 3 ≤ u % 6
    · have e : ta u = 4 * ((u - 1) / 6) + ((u - 1) % 6 - 2) := by unfold ta; omega
      have e' : tb u = 4 * ((u - 1) / 6) + ((u - 1) % 6 - 2) + 1 := by unfold tb; omega
      have hs : rOf (u - 1) = sOf u := Fin.ext (by show (u - 1 + 1) % 2 = u % 2; omega)
      have hp := oHole_put P c pi (u := u - 1) (by omega) (by omega)
      rw [Nat.sub_add_cancel (by omega : 1 ≤ u)] at hp
      have hu' : u - 1 < 24 := by omega
      have h2' : 2 ≤ (u - 1) % 6 := by omega
      unfold keepS stS
      simp only [opt, if_pos h3, List.singleton_append, seqP_cons]
      rw [e, e']
      iintro ⟨#HC, HO, Hat, -, Hc, Ho⟩ Hgo
      iapply (wp_waitSt P K c pi (u - 1) hu' h2' hA0) $$ [HO Hat Hc]
      · iframe; iexact HC
      unfold stPay
      iintro ⟨HO, Hat, Hob, Hr⟩
      iapply Hgo
      rw [← hp, hs]
      isplitl [HO]; · iexact HO
      isplitl [Hat]; · iexact Hat
      isplitl [Hr]; · iexists _; iexact Hr
      isplitl [Hob]; · iexact Hob
      iexact Ho
    · have e : ta u = tb u := by unfold ta tb; omega
      unfold keepS stS
      simp only [opt, if_neg h3, List.nil_append]
      rw [e]
      iintro ⟨#HC, HO, Hat, Hk, Ho⟩ Hgo
      iapply Hgo
      isplitl [HO]; · iexact HO
      isplitl [Hat]; · iexact Hat
      isplitl [Hk]; · iexists _; iexact Hk
      iexact Ho
  iapply key $$ [HO Hat Hk Hst]
  · iframe; iexact HC
  iintro ⟨HO, Hat, ⟨%X, Hright⟩, Host⟩
  ihave Hsl := (Sl_join c pi (sOf u) (sentV P pi u c) X) $$ [Hleft Hright]
  · isplitl [Hleft] <;> iassumption
  by_cases h : u < 23
  · simp only [opt, if_pos h, List.singleton_append, seqP_cons] at hO ⊢
    ihave Hax := (At_reached (cRcv c pi (sOf u)) ((u + 1) / 2)) $$ Hax
    icases Hax with ⟨#Hr, Hax⟩
    iapply (wp_sigCr P K c pi u h hO) $$ [HO Htk Hsl]
    · isplitr; · iexact HC
      isplitl [HO]; · iexact HO
      isplitl [Htk]; · iexact Htk
      isplitl [Hsl]; · unfold SlAny; iexists _; iexact Hsl
      isplitr; · iexact Hr
      iexact Hrc
    iintro HO
    iapply Hgo
    iframe
  · simp only [opt, if_neg h, List.nil_append] at hO ⊢
    subst hO
    iapply Hgo
    iframe
    unfold SlAny; iexists _; iexact Hsl

theorem stageB (c : Dev nD) (pi : Fin 8) (u : ℕ) (hu : u < 24) {O : CellTallies nD τ sig ℕ} (hA : Above 0 O)
    {l : List (KProg F PUnit)} {Q : PUnit → sProp 𝕄} :
    iprop(Ctx P K ∗ Ow c O ∗ Sl c pi (rOf u) fullShare (landV P pi u c) ∗ ldS P c pi u ∗ At (cLd c pi) (la u))
      ⊢ iprop(((Ow c O ∗ Sl c pi (rOf u) fullShare (postV P pi u c) ∗ LcAny c pi ∗ pAll P c pi ∗ At (cLd c pi) (lb u)) -∗ Run c (seqP l) Q)
          -∗ Run c (seqP (accL c pi u hu ++ l)) Q) := by
  unfold accL ldS
  by_cases h : u % 6 < 3
  · simp only [opt, if_pos h, List.append_assoc, List.cons_append, List.nil_append, seqP_cons]
    have e : la u = 4 * (u / 6) + 1 + u % 6 := by unfold la; omega
    have e' : lb u = 4 * (u / 6) + 1 + u % 6 + 1 := by unfold lb; omega
    have hr : 4 * (u / 6) + 1 + u % 6 < 16 := by omega
    rw [e, e', pAll_take P c pi (jS c pi u), postV_add P pi c h]
    iintro ⟨#HC, HO, Hs, ⟨Hc, Hp⟩, Hat⟩ Hgo
    iapply (wp_waitLd P K c pi (4 * (u / 6) + 1 + u % 6) hr
      (w := .waitDma2 (csem pi) (rowM pM (offS c pi u) (offS_inb c pi hu)) (locM pi) (View.wordExact_bits rfl) (locM_whole pi).wordExact)
      (by rw [← credit_loc pi]; exact wpE_waitDma2_eq 𝒱₀ (c : Thread nD τ) none Set.univ) hA) $$ [HO Hc Hat]
    · iframe; iexact HC
    unfold ldPay
    rw [if_neg (by omega), show 6 * ((4 * (u / 6) + 1 + u % 6) / 4) + ((4 * (u / 6) + 1 + u % 6) % 4 - 1) = u from by omega]
    iintro ⟨HO, Hat, Hl, Hb⟩
    iapply (wp_acc c pi u (landV P pi u c) (blk (P c) pi (jS c pi u))) $$ [Hs Hl]
    · iframe
    iintro ⟨Hs, Hl⟩
    iapply Hgo
    iframe
    unfold LcAny; iexists _; iexact Hl
  · simp only [opt, if_neg h, List.nil_append]
    have e : la u = lb u := by unfold la lb; omega
    rw [e, postV_pass P pi c h]
    iintro ⟨#HC, HO, Hs, ⟨Hl, Hp⟩, Hat⟩ Hgo
    iapply Hgo
    iframe

/-- After the store: the slot's left half, and the rest under way or at hand. -/
def postC (c : Dev nD) (pi : Fin 8) (u : ℕ) : sProp 𝕄 :=
  if 2 ≤ u % 6 then iprop(cred (tallyAt (cSt c pi) 0 N) ∗ oHole P c pi u)
  else iprop(Sl c pi (rOf u) fullShare.right (postV P pi u c) ∗ oSt P c pi u)

theorem stageC (c : Dev nD) (pi : Fin 8) (u : ℕ) (hu : u < 24) {l : List (KProg F PUnit)} {Q : PUnit → sProp 𝕄} :
    iprop(Ctx P K ∗ Sl c pi (rOf u) fullShare (postV P pi u c) ∗ oSt P c pi u ∗ At (cSt c pi) (tb u)
        ∗ bigSep (Finset.Ico (tb u) 16) (fun r => Tok (cSt c pi) r))
      ⊢ iprop(((Sl c pi (rOf u) fullShare.left (postV P pi u c) ∗ postC P c pi u ∗ At (cSt c pi) (tb u)
            ∗ bigSep (Finset.Ico (tb (u + 1)) 16) (fun r => Tok (cSt c pi) r)) -∗ Run c (seqP l) Q)
          -∗ Run c (seqP (opt (2 ≤ u % 6) (storeP c pi u hu) ++ l)) Q) := by
  unfold postC
  by_cases h : 2 ≤ u % 6
  · simp only [opt, if_pos h, List.cons_append, List.nil_append, seqP_cons]
    have e0 : tb u = 4 * (u / 6) + (u % 6 - 2) := rfl
    have e : tb (u + 1) = 4 * (u / 6) + (u % 6 - 2) + 1 := by unfold tb; omega
    rw [oSt_take P c pi hu h, e, e0, Ico_take (a := 4 * (u / 6) + (u % 6 - 2)) (by omega)]
    iintro ⟨#HC, Hs, ⟨Ho, Hh⟩, Hat, Ht, Hts⟩ Hgo
    ihave Hs := (Sl_halves c pi (rOf u) (postV P pi u c)) $$ Hs
    icases Hs with ⟨Hl, Hr⟩
    ihave Hat := (At_reached (cSt c pi) (4 * (u / 6) + (u % 6 - 2))) $$ Hat
    icases Hat with ⟨#Hre, Hat⟩
    iapply (wp_storeU P K c pi u hu h) $$ [Hr Ho Ht]
    · iframe
      isplitr; · iexact HC
      iexact Hre
    iintro Hc
    iapply Hgo
    iframe
  · simp only [opt, if_neg h, List.nil_append]
    have e : tb (u + 1) = tb u := by unfold tb; omega
    rw [e]
    iintro ⟨#HC, Hs, Ho, Hat, Hts⟩ Hgo
    ihave Hs := (Sl_halves c pi (rOf u) (postV P pi u c)) $$ Hs
    icases Hs with ⟨Hl, Hr⟩
    iapply Hgo
    iframe

/-- At a round's end the slot is taken over by the next round's first rows. -/
theorem stageD1 (c : Dev nD) (pi : Fin 8) (u : ℕ) (hu : u < 24) (h : u + 1 < 24) {O : CellTallies nD τ sig ℕ} (hA : Above 0 O)
    {l : List (KProg F PUnit)} {Q : PUnit → sProp 𝕄} :
    iprop(Ctx P K ∗ Ow c O ∗ Sl c pi (rOf u) fullShare.left (postV P pi u c) ∗ postC P c pi u ∗ pAll P c pi ∗ At (cSt c pi) (tb u) ∗ At (cLd c pi) (lb u)
        ∗ bigSep (Finset.Ico (lb u) 16) (fun r => Tok (cLd c pi) r))
      ⊢ iprop(((Ow c O ∗ Sl c pi (sOf (u + 1)) fullShare.left (sentV P pi (u + 1) c) ∗ keepS P c pi (u + 1) ∗ stS P c pi (u + 1) ∗ pAll P c pi
            ∗ At (cSt c pi) (ta (u + 1)) ∗ At (cLd c pi) (la (u + 1)) ∗ bigSep (Finset.Ico (la (u + 1)) 16) (fun r => Tok (cLd c pi) r)) -∗ Run c (seqP l) Q)
          -∗ Run c (seqP (opt (u % 6 = 5) (storeWaitP c pi u hu) ++ (opt (u % 6 = 5) (initP c pi ((u + 1) / 6) (by omega))
              ++ (opt (u % 6 = 5) (initWaitP c pi ((u + 1) / 6) (by omega)) ++ l)))) Q) := by
  unfold postC keepS stS
  by_cases h5 : u % 6 = 5
  · have e1 : tb u = 4 * (u / 6) + (u % 6 - 2) := rfl
    have e2 : ta (u + 1) = 4 * (u / 6) + (u % 6 - 2) + 1 := by unfold ta; omega
    have e3 : lb u = 4 * ((u + 1) / 6) := by unfold lb; omega
    have e4 : la (u + 1) = 4 * ((u + 1) / 6) + 1 := by unfold la; omega
    have hs0 : rOf u = 0 := Fin.ext (by show (u + 1) % 2 = 0; omega)
    have hs1 : sOf (u + 1) = 0 := hs0
    have hg : (u + 1) / 6 < 4 := by omega
    have h2 : 2 ≤ u % 6 := by omega
    simp only [opt, if_pos h5, List.cons_append, List.nil_append, seqP_cons, if_pos h2, if_neg (by omega : ¬ 3 ≤ (u + 1) % 6)]
    rw [← oHole_put P c pi hu h2, e1, e2, e3, e4, Ico_take (a := 4 * ((u + 1) / 6)) (by omega), sentV_round P pi c (by omega : (u + 1) % 6 = 0), hs1,
      pAll_take P c pi (jI c ((u + 1) / 6))]
    iintro ⟨#HC, HO, Hl, ⟨Hc, Ho⟩, Hp, Hat, Hal, Ht, Hts⟩ Hgo
    iapply (wp_waitSt P K c pi u hu h2 hA) $$ [HO Hat Hc]
    · iframe; iexact HC
    unfold stPay
    iintro ⟨HO, Hat, Hob, Hr⟩
    ihave Hs := (Sl_join c pi (rOf u) (postV P pi u c) (postV P pi u c)) $$ [Hl Hr]
    · isplitl [Hl] <;> iassumption
    rw [hs0]
    ihave Hal := (At_reached (cLd c pi) (4 * ((u + 1) / 6))) $$ Hal
    icases Hal with ⟨#Hre, Hal⟩
    icases Hp with ⟨Hb, Hp⟩
    iapply (wp_initG P K c pi ((u + 1) / 6) hg) $$ [Hs Hb Ht]
    · unfold SlAny; iframe
      isplitr; · iexact HC
      isplitl; · iexists _; iexact Hs
      iexact Hre
    iintro Hc
    iapply (wp_waitLd P K c pi (4 * ((u + 1) / 6)) (by omega)
      (w := .waitDma2 (csem pi) (rowM pM (offI c pi ((u + 1) / 6)) (offI_inb c pi hg)) (slotM pi 0) (View.wordExact_bits rfl) ((View.wordExact_bits rfl).reshape _ _))
      (by rw [← credit_slot pi 0]; exact wpE_waitDma2_eq 𝒱₀ (c : Thread nD τ) none Set.univ) hA) $$ [HO Hc Hal]
    · iframe; iexact HC
    unfold ldPay
    rw [if_pos (by omega), show 4 * ((u + 1) / 6) / 4 = (u + 1) / 6 from by omega]
    iintro ⟨HO, Hal, Hs, Hb⟩
    ihave Hs := (Sl_halves c pi 0 _) $$ Hs
    icases Hs with ⟨Hl, Hr⟩
    iapply Hgo
    iframe
  · have e2 : tb u = ta (u + 1) := by unfold ta tb; omega
    have e3 : lb u = la (u + 1) := by unfold la lb; omega
    simp only [opt, if_neg h5, List.nil_append]
    rw [e2, e3, sentV_step P pi c (by omega : (u + 1) % 6 ≠ 0)]
    by_cases h2 : 2 ≤ u % 6
    · simp only [if_pos h2, if_pos (by omega : 3 ≤ (u + 1) % 6), Nat.add_sub_cancel]
      iintro ⟨#HC, HO, Hl, ⟨Hc, Ho⟩, Hp, Hat, Hal, Hts⟩ Hgo
      iapply Hgo
      iframe
    · simp only [if_neg h2, if_neg (by omega : ¬ 3 ≤ (u + 1) % 6)]
      rw [← oSt_skip P c pi h2]
      iintro ⟨#HC, HO, Hl, ⟨Hr, Ho⟩, Hp, Hat, Hal, Hts⟩ Hgo
      iapply Hgo
      iframe

theorem stageD3 (c : Dev nD) (pi : Fin 8) (u : ℕ) (h : u + 1 < 24) {l : List (KProg F PUnit)} {Q : PUnit → sProp 𝕄} :
    iprop(Ctx P K ∗ LcAny c pi ∗ pAll P c pi ∗ At (cLd c pi) (la (u + 1)) ∗ bigSep (Finset.Ico (la (u + 1)) 16) (fun r => Tok (cLd c pi) r))
      ⊢ iprop(((ldS P c pi (u + 1) ∗ At (cLd c pi) (la (u + 1)) ∗ bigSep (Finset.Ico (lb (u + 1)) 16) (fun r => Tok (cLd c pi) r)) -∗ Run c (seqP l) Q)
          -∗ Run c (seqP (opt ((u + 1) % 6 < 3) (loadP c pi (u + 1) h) ++ l)) Q) := by
  unfold ldS
  by_cases h3 : (u + 1) % 6 < 3
  · simp only [opt, if_pos h3, List.cons_append, List.nil_append, seqP_cons]
    have e : la (u + 1) = 4 * ((u + 1) / 6) + 1 + (u + 1) % 6 := by unfold la; omega
    have e' : lb (u + 1) = 4 * ((u + 1) / 6) + 1 + (u + 1) % 6 + 1 := by unfold lb; omega
    rw [e, e', Ico_take (a := 4 * ((u + 1) / 6) + 1 + (u + 1) % 6) (by omega), pAll_take P c pi (jS c pi (u + 1))]
    iintro ⟨#HC, Hl, ⟨Hb, Hp⟩, Hat, Ht, Hts⟩ Hgo
    ihave Hat := (At_reached (cLd c pi) (4 * ((u + 1) / 6) + 1 + (u + 1) % 6)) $$ Hat
    icases Hat with ⟨#Hre, Hat⟩
    iapply (wp_loadU P K c pi (u + 1) h h3) $$ [Hl Hb Ht]
    · iframe
      isplitr; · iexact HC
      iexact Hre
    iintro Hc
    iapply Hgo
    iframe
  · simp only [opt, if_neg h3, List.nil_append]
    have e : la (u + 1) = lb (u + 1) := by unfold la lb; omega
    rw [e]
    iintro ⟨#HC, Hl, Hp, Hat, Hts⟩ Hgo
    iapply Hgo
    iframe

theorem stageD2 (c : Dev nD) (pi : Fin 8) (u : ℕ) (hu : u < 23) {O₁ O : CellTallies nD τ sig ℕ}
    (hO : O₁ = O + tallyAt (cRcv (tgt pi c) pi (rOf (u + 1))) (u + 1) N) (hA : Above (2 * (8 * u + pos pi) + 3) O₁)
    {l : List (KProg F PUnit)} {Q : PUnit → sProp 𝕄} :
    iprop(Ctx P K ∗ Ow c O₁ ∗ cred (tallyAt (cCr c pi) u 1) ∗ At (cCr c pi) u ∗ Sl c pi (sOf (u + 1)) fullShare.left (sentV P pi (u + 1) c)
        ∗ sendTok c pi (u + 1) ∗ At (cSnd c pi (sOf (u + 1))) ((u + 1) / 2))
      ⊢ iprop(((Ow c O ∗ At (cCr c pi) (u + 1) ∗ cred (tallyAt (cSnd c pi (sOf (u + 1))) 0 N) ∗ At (cSnd c pi (sOf (u + 1))) ((u + 1) / 2)) -∗ Run c (seqP l) Q)
          -∗ Run c (seqP ([semWaitWord (crd pi) 1#32, sendP c pi (u + 1)] ++ l)) Q) := by
  simp only [List.cons_append, List.nil_append, seqP_cons]
  unfold sendTok
  iintro ⟨#HC, HO, Hc, Hat, Hs, ⟨Ht, Ht'⟩, Has⟩ Hgo
  iapply (wp_waitCr P K c pi u hu hA) $$ [HO Hc Hat]
  · iframe; iexact HC
  iintro ⟨HO, Hat, Hlv⟩
  ihave Hat := (At_reached (cCr c pi) (u + 1)) $$ Hat
  icases Hat with ⟨#Hrc, Hat⟩
  ihave Has := (At_reached (cSnd c pi (sOf (u + 1))) ((u + 1) / 2)) $$ Has
  icases Has with ⟨#Hrs, Has⟩
  iapply (wp_sendU P K c pi (u + 1) (by omega) hO) $$ [HO Hs Hlv Ht Ht']
  · iframe
    isplitr; · iexact HC
    isplitr; · iexact Hrc
    iexact Hrs
  iintro ⟨Hcs, HO⟩
  iapply Hgo
  iframe

/-! ## What is owed -/

/-- The pipe served at a place in the order of all steps. -/
def pipeAt (n : ℕ) : Fin 8 := ⟨n % 8 / 2 + 4 * (n % 2), by omega⟩

theorem pipeAt_pos : ∀ pi : Fin 8, pipeAt (pos pi) = pi := by decide
theorem pos_pipeAt : ∀ n : Fin 8, pos (pipeAt n.val) = n.val := by decide
theorem pipeAt_step (u : ℕ) (pi : Fin 8) : pipeAt (8 * u + pos pi) = pi := by
  have h : pipeAt (8 * u + pos pi) = pipeAt (pos pi) := Fin.ext (by
    show (8 * u + pos pi) % 8 / 2 + 4 * ((8 * u + pos pi) % 2) = pos pi % 8 / 2 + 4 * (pos pi % 2); omega)
  rw [h, pipeAt_pos]

/-- The leave a step gives, and the transfer it starts. -/
def payA (c : Dev nD) (k : ℕ) : CellTallies nD τ sig ℕ := tallyAt (cCr (src (pipeAt k) c) (pipeAt k)) (k / 8) 1
def payB (c : Dev nD) (k : ℕ) : CellTallies nD τ sig ℕ := tallyAt (cRcv (tgt (pipeAt k) c) (pipeAt k) (rOf (k / 8 + 1))) (k / 8 + 1) N

/-- What a device owes before a step. -/
def owe (c : Dev nD) (k : ℕ) : CellTallies nD τ sig ℕ := ∑ i ∈ Finset.Ico k 184, (payB c i + payA c i)

theorem owe_take (c : Dev nD) {k : ℕ} (h : k < 184) : owe c k = owe c (k + 1) + payB c k + payA c k := by
  unfold owe
  have e : Finset.Ico k 184 = insert k (Finset.Ico (k + 1) 184) := by ext i; simp only [Finset.mem_Ico, Finset.mem_insert]; omega
  rw [e, Finset.sum_insert (by simp), add_comm, add_assoc]

theorem owe_done (c : Dev nD) {k : ℕ} (h : 184 ≤ k) : owe c k = 0 := by
  unfold owe; rw [Finset.Ico_eq_empty (by omega), Finset.sum_empty]

theorem Above.sum {n : ℕ} {s : Finset ℕ} {f : ℕ → CellTallies nD τ sig ℕ} (h : ∀ i ∈ s, Above n (f i)) : Above n (∑ i ∈ s, f i) := by
  induction s using Finset.induction_on with
  | empty => exact Above.zero n
  | insert i s hi ih =>
    rw [Finset.sum_insert hi]
    exact (h i (Finset.mem_insert_self _ _)).add (ih fun j hj => h j (Finset.mem_insert_of_mem hj))

theorem payA_above (c : Dev nD) {k n : ℕ} (hk : k < 184) (hn : n < 2 * k + 3) : Above n (payA c k) := by
  refine Above.tally _ _ _ _ (by omega) ?_
  rw [kind_cr]
  show n < 2 * (8 * (k / 8) + pos (pipeAt k)) + 3
  have e := pos_pipeAt ⟨k % 8, Nat.mod_lt _ (by decide)⟩
  have e' : pipeAt k = pipeAt (k % 8) := Fin.ext (by show k % 8 / 2 + 4 * (k % 2) = k % 8 % 8 / 2 + 4 * (k % 8 % 2); omega)
  rw [e', e]; dsimp only; omega
theorem payB_above (c : Dev nD) {k n : ℕ} (hk : k < 184) (hn : n < 2 * k + 18) : Above n (payB c k) := by
  refine Above.tally _ _ _ _ (by omega) ?_
  rw [kind_rcv]
  show n < 2 * (8 * (k / 8 + 1) + pos (pipeAt k)) + 2
  have e := pos_pipeAt ⟨k % 8, Nat.mod_lt _ (by decide)⟩
  have e' : pipeAt k = pipeAt (k % 8) := Fin.ext (by show k % 8 / 2 + 4 * (k % 2) = k % 8 % 8 / 2 + 4 * (k % 8 % 2); omega)
  rw [e', e]; dsimp only; omega

theorem owe_above (c : Dev nD) {k n : ℕ} (hn : n < 2 * k + 3) : Above n (owe c k) :=
  Above.sum fun i hi => by
    rw [Finset.mem_Ico] at hi
    exact (payB_above c hi.2 (by omega)).add (payA_above c hi.2 (by omega))

/-! ## The step -/

theorem step (c : Dev nD) (pi : Fin 8) (u : ℕ) (hu : u < 24) {l : List (KProg F PUnit)} {Q : PUnit → sProp 𝕄} :
    iprop(Ctx P K ∗ Ow c (owe c (8 * u + pos pi)) ∗ Pipe P c pi u)
      ⊢ iprop(((Ow c (owe c (8 * u + pos pi + 1)) ∗ Pipe P c pi (u + 1)) -∗ Run c (seqP l) Q)
          -∗ Run c (seqP (stepL c pi u hu ++ l)) Q) := by
  have hpos := pos_lt pi
  unfold Pipe
  rw [if_pos hu]
  unfold PipeM stepL Ats Toks
  by_cases h : u < 23
  · have hn : u + 1 < 24 := by omega
    have e0 := owe_take c (k := 8 * u + pos pi) (by omega)
    have eA : payA c (8 * u + pos pi) = tallyAt (cCr (src pi c) pi) u 1 := by
      unfold payA; rw [pipeAt_step, show (8 * u + pos pi) / 8 = u from by omega]
    have eB : payB c (8 * u + pos pi) = tallyAt (cRcv (tgt pi c) pi (rOf (u + 1))) (u + 1) N := by
      unfold payB; rw [pipeAt_step, show (8 * u + pos pi) / 8 = u from by omega]
    rw [eA] at e0
    have hB := payB_above c (k := 8 * u + pos pi) (n := 2 * (8 * u + pos pi) + 3) (by omega) (by omega)
    have hR := owe_above c (k := 8 * u + pos pi + 1) (n := 2 * (8 * u + pos pi) + 3) (by omega)
    have h0 := hR.add hB
    rw [if_pos hn, rOf_succ]
    unfold nextL
    rw [dif_pos hn]
    simp only [List.append_assoc]
    rw [Ico_take (a := u) (b := 23) h (fun v => Tok (cCr (src pi c) pi) v), Ico_take (a := u) (b := 24) hu (fun v => cred (tallyAt (cRcv c pi (rOf v)) v N)),
      Ico_take (a := u) (b := 23) h (fun v => cred (tallyAt (cCr c pi) v 1)), Ico_take (a := u + 1) (b := 24) hn (fun v => sendTok c pi v)]
    iintro ⟨#HC, HO, Hcs, Hks, Hld, Hst, ⟨As, As', Ar, Ar', Ac, Al, At⟩, ⟨Tt, Ts⟩, ⟨Tc, Tcs⟩, Tl, Tst, ⟨Cr, Crs⟩, ⟨Cc, Ccs⟩⟩ Hgo
    iapply (stageA P K c pi u hu (O₁ := owe c (8 * u + pos pi + 1) + payB c (8 * u + pos pi)) (by rw [if_pos h]; exact e0)
      (owe_above c (by omega)) (h0.mono (Nat.zero_le _))) $$ [HO Hcs Cr As Ar Ar' At Hks Hst Tc]
    · rw [if_pos h]; iframe; iexact HC
    iintro ⟨HO, As, Ar, Ar', At, Hs, Ho, -⟩
    iapply (stageB P K c pi u hu (h0.mono (Nat.zero_le _))) $$ [HO Hs Hld Al]
    · iframe; iexact HC
    iintro ⟨HO, Hs, Hl, Hp, Al⟩
    iapply (stageC P K c pi u hu) $$ [Hs Ho At Tst]
    · iframe; iexact HC
    iintro ⟨Hs, Hpc, At, Tst⟩
    iapply (stageD1 P K c pi u hu hn (h0.mono (Nat.zero_le _))) $$ [HO Hs Hpc Hp At Al Tl]
    · iframe; iexact HC
    iintro ⟨HO, Hs, Hks, Hst, Hp, At, Al, Tl⟩
    iapply (stageD2 P K c pi u h (O₁ := owe c (8 * u + pos pi + 1) + payB c (8 * u + pos pi)) (O := owe c (8 * u + pos pi + 1)) (by rw [eB]) h0) $$ [HO Cc Ac Hs Tt As']
    · iframe; iexact HC
    iintro ⟨HO, Ac, Hcs, As'⟩
    iapply (stageD3 P K c pi u hn) $$ [Hl Hp Al Tl]
    · iframe; iexact HC
    iintro ⟨Hld, Al, Tl⟩
    iapply Hgo
    rw [show u / 2 + 1 = (u + 1 + 1) / 2 from by omega]
    iframe
  · obtain rfl : u = 23 := by omega
    rw [if_neg (by decide), owe_done c (k := 8 * 23 + pos pi + 1) (by omega), owe_done c (k := 8 * 23 + pos pi) (by omega)]
    unfold nextL PipeF
    rw [dif_neg (by decide)]
    simp only [List.append_assoc, List.nil_append]
    rw [Ico_take (a := 23) (b := 24) (by decide) (fun v => cred (tallyAt (cRcv c pi (rOf v)) v N))]
    have hA := fun l' => stageA P K c pi 23 hu (O₀ := 0) (O₁ := 0) (by rw [if_neg h]) (Above.zero _) (Above.zero _) (l := l') (Q := Q)
    simp only [if_neg h] at hA
    iintro ⟨#HC, HO, Hcs, Hks, Hld, Hst, ⟨As, As', Ar, Ar', Ac, Al, At⟩, -, -, -, Tst, ⟨Cr, -⟩, -⟩ Hgo
    iapply (hA _) $$ [HO Hcs Cr As Ar Ar' At Hks Hst]
    · iframe; iexact HC
    iintro ⟨HO, As, Ar, Ar', At, Hs, Ho, Hany⟩
    iapply (stageB P K c pi 23 hu (Above.zero _)) $$ [HO Hs Hld Al]
    · iframe; iexact HC
    iintro ⟨HO, Hs, Hl, Hp, Al⟩
    have hC := fun l' => stageC P K c pi 23 hu (l := l') (Q := Q)
    unfold postC at hC
    simp only [if_pos (by decide : 2 ≤ 23 % 6)] at hC
    iapply (hC _) $$ [Hs Ho At Tst]
    · iframe; iexact HC
    iintro ⟨Hs, ⟨Hc, Ho⟩, At, -⟩
    iapply Hgo
    isplitl [HO]; · iexact HO
    isplitl [Hc]; · iexact Hc
    isplitl [Ho]; · iexact Ho
    isplitl [Hs]; · iexact Hs
    isplitl [Hany]; · iexact Hany
    isplitl [Hl]; · iexact Hl
    isplitl [Hp]; · iexact Hp
    isplitl [As]; · iexact As
    isplitl [As']; · iexact As'
    isplitl [Ar]; · iexact Ar
    isplitl [Ar']; · iexact Ar'
    isplitl [Ac]; · iexact Ac
    isplitl [Al]; · iexact Al
    iexact At

end Cert.Ring

end
-- ==== Proof.Run.lean ====
/-
  The whole body on one device: the handshake, each pipe's start, the steps in order, and the last stores awaited.
-/
module

public import proofs.«01_k».proof.Proof.Step

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → FVec F S4096x8192 .f32) (K : GSem nD τ sig → ℕ)

/-! ## One program per pipe -/

/-- The pipes served one after another, each from `A` to `B`. -/
theorem sweep (c : Dev nD) (prog : Fin 8 → List (KProg F PUnit)) (O : ℕ → CellTallies nD τ sig ℕ) (A B : Fin 8 → sProp 𝕄)
    (p : Fin 8 → ℕ) (q : ℕ → Fin 8) (hqp : ∀ n, n < 8 → p (q n) = n) (hinj : ∀ a b, p a = p b → a = b) {Q : PUnit → sProp 𝕄} {l : List (KProg F PUnit)}
    (h : ∀ pi l, iprop(Ctx P K ∗ Ow c (O (p pi)) ∗ A pi) ⊢ iprop(((Ow c (O (p pi + 1)) ∗ B pi) -∗ Run c (seqP l) Q) -∗ Run c (seqP (prog pi ++ l)) Q)) :
    ∀ n m, m + n = 8 →
      iprop(Ctx P K ∗ Ow c (O m) ∗ bigSep Finset.univ fun pi => if p pi < m then B pi else A pi)
        ⊢ iprop(((Ow c (O 8) ∗ bigSep Finset.univ fun pi => if p pi < 8 then B pi else A pi) -∗ Run c (seqP l) Q)
            -∗ Run c (seqP ((List.range' m n).flatMap (fun i => prog (q i)) ++ l)) Q) := by
  intro n
  induction n with
  | zero =>
    intro m hm
    obtain rfl : m = 8 := by omega
    iintro ⟨#HC, H⟩ Hgo
    iapply Hgo
    iexact H
  | succ n ih =>
    intro m hm
    have hp := hqp m (by omega)
    have hh := h (q m) ((List.range' (m + 1) n).flatMap (fun i => prog (q i)) ++ l)
    rw [hp] at hh
    have hother : bigSep (Finset.univ.erase (q m)) (fun pi => if p pi < m then B pi else A pi)
        = bigSep (Finset.univ.erase (q m)) (fun pi => if p pi < m + 1 then B pi else A pi) := by
      apply bigSep_congr
      intro i hi
      have hne : p i ≠ m := fun e => Finset.ne_of_mem_erase hi (hinj _ _ (e.trans hp.symm))
      by_cases h' : p i < m
      · rw [if_pos h', if_pos (by omega)]
      · rw [if_neg h', if_neg (by omega)]
    rw [List.range'_succ, List.flatMap_cons, List.append_assoc, bigSep_univ_at _ (q m), if_neg (by omega : ¬ p (q m) < m), hother]
    have ih' := ih (m + 1) (by omega)
    rw [bigSep_univ_at _ (q m), if_pos (by omega : p (q m) < m + 1)] at ih'
    iintro ⟨#HC, HO, HA, Hr⟩ Hgo
    iapply hh $$ [HO HA]
    · iframe; iexact HC
    iintro ⟨HO, HB⟩
    iapply ih' $$ [HO HB Hr]
    · iframe; iexact HC
    iexact Hgo

theorem sweep_all (c : Dev nD) (prog : Fin 8 → List (KProg F PUnit)) (O : ℕ → CellTallies nD τ sig ℕ) (A B : Fin 8 → sProp 𝕄)
    (p : Fin 8 → ℕ) (q : ℕ → Fin 8) (hqp : ∀ n, n < 8 → p (q n) = n) (hinj : ∀ a b, p a = p b → a = b) (hp : ∀ a, p a < 8)
    {Q : PUnit → sProp 𝕄} {l l' : List (KProg F PUnit)} (hl : l' = (List.range' 0 8).flatMap (fun i => prog (q i)) ++ l)
    (h : ∀ pi l, iprop(Ctx P K ∗ Ow c (O (p pi)) ∗ A pi) ⊢ iprop(((Ow c (O (p pi + 1)) ∗ B pi) -∗ Run c (seqP l) Q) -∗ Run c (seqP (prog pi ++ l)) Q)) :
    iprop(Ctx P K ∗ Ow c (O 0) ∗ bigSep Finset.univ A)
      ⊢ iprop(((Ow c (O 8) ∗ bigSep Finset.univ B) -∗ Run c (seqP l) Q) -∗ Run c (seqP l') Q) := by
  have hs := sweep P K c prog O A B p q hqp hinj (l := l) h 8 0 rfl
  simp only [Nat.not_lt_zero, if_false, if_pos (hp _)] at hs
  rw [hl]; exact hs

theorem pos_inj : ∀ a b : Fin 8, pos a = pos b → a = b := by decide

/-! ## The steps in order -/

theorem row_run (c : Dev nD) (u : Fin 24) {l : List (KProg F PUnit)} {Q : PUnit → sProp 𝕄} :
    iprop(Ctx P K ∗ Ow c (owe c (8 * u.val)) ∗ bigSep Finset.univ fun pi => Pipe P c pi u.val)
      ⊢ iprop(((Ow c (owe c (8 * (u.val + 1))) ∗ bigSep Finset.univ fun pi => Pipe P c pi (u.val + 1)) -∗ Run c (seqP l) Q)
          -∗ Run c (seqP (rowL c u ++ l)) Q) :=
  sweep_all P K c (fun pi => stepL c pi u.val u.2) (fun n => owe c (8 * u.val + n)) _ _ pos pipeAt
    (fun n hn => pos_pipeAt ⟨n, hn⟩) pos_inj pos_lt rfl (fun pi l => step P K c pi u.val u.2)

theorem rows_run (c : Dev nD) {l : List (KProg F PUnit)} {Q : PUnit → sProp 𝕄} : ∀ (us : List (Fin 24)) (k : ℕ), us.map Fin.val = List.range' k us.length →
    k + us.length = 24 →
    iprop(Ctx P K ∗ Ow c (owe c (8 * k)) ∗ bigSep Finset.univ fun pi => Pipe P c pi k)
      ⊢ iprop(((Ow c (owe c (8 * 24)) ∗ bigSep Finset.univ fun pi => Pipe P c pi 24) -∗ Run c (seqP l) Q)
          -∗ Run c (seqP (us.flatMap (rowL c) ++ l)) Q) := by
  intro us
  induction us with
  | nil =>
    intro k _ hk
    obtain rfl : k = 24 := hk
    iintro ⟨#HC, H⟩ Hgo
    iapply Hgo
    iexact H
  | cons u us ih =>
    intro k hm hk
    rw [List.length_cons, List.map_cons, List.range'_succ, List.cons.injEq] at hm
    rw [List.length_cons] at hk
    obtain ⟨rfl, hm⟩ := hm
    rw [List.flatMap_cons, List.append_assoc]
    iintro ⟨#HC, H⟩ Hgo
    iapply (row_run P K c u) $$ [H]
    · iframe; iexact HC
    iintro H
    iapply (ih (u.val + 1) hm (by omega)) $$ [H]
    · iframe; iexact HC
    iexact Hgo

/-! ## The start -/

theorem pAll_split (c : Dev nD) (pi : Fin 8) (j : Fin 16) : (pAll P c pi : sProp 𝕄) ⊢ iprop(Pb c pi j (blk (P c) pi j) ∗ pHole P c pi j) := by
  rw [pAll_take P c pi j]
theorem pAll_join (c : Dev nD) (pi : Fin 8) (j : Fin 16) : iprop(Pb c pi j (blk (P c) pi j) ∗ pHole P c pi j) ⊢ (pAll P c pi : sProp 𝕄) := by
  rw [pAll_take P c pi j]

/-- What a pipe has of the run's tokens and credits at its beginning. -/
def Start (c : Dev nD) (pi : Fin 8) : sProp 𝕄 :=
  iprop(bigSep (Finset.Ico 0 24) (fun v => sendTok c pi v)
    ∗ bigSep (Finset.Ico 0 23) (fun v => Tok (cCr (src pi c) pi) v)
    ∗ bigSep (Finset.Ico 0 16) (fun r => Tok (cSt c pi) r)
    ∗ bigSep (Finset.Ico 0 24) (fun v => cred (tallyAt (cRcv c pi (rOf v)) v N))
    ∗ bigSep (Finset.Ico 0 23) (fun v => cred (tallyAt (cCr c pi) v 1)))

def At0 (c : Dev nD) (pi : Fin 8) : sProp 𝕄 :=
  iprop(At (cSnd c pi 0) 0 ∗ At (cSnd c pi 1) 0 ∗ At (cRcv c pi 1) 0 ∗ At (cRcv c pi 0) 0 ∗ At (cCr c pi) 0 ∗ At (cSt c pi) 0)

/-- A pipe before its first load; before its first transfer. -/
def Pre0 (c : Dev nD) (pi : Fin 8) : sProp 𝕄 :=
  iprop(SlAny c pi 0 ∗ LcAny c pi ∗ pAll P c pi ∗ oSt P c pi 0 ∗ At0 c pi ∗ At (cLd c pi) 0 ∗ bigSep (Finset.Ico 0 16) (fun r => Tok (cLd c pi) r) ∗ Start c pi)
def Pre1 (c : Dev nD) (pi : Fin 8) : sProp 𝕄 :=
  iprop(cred (tallyAt (cLd c pi) 0 N) ∗ LcAny c pi ∗ pHole P c pi (jI c 0) ∗ oSt P c pi 0 ∗ At0 c pi ∗ At (cLd c pi) 0
    ∗ bigSep (Finset.Ico 1 16) (fun r => Tok (cLd c pi) r) ∗ Start c pi)

def pp (n : ℕ) : Fin 8 := ⟨n % 8, Nat.mod_lt _ (by decide)⟩
theorem pp_val (pi : Fin 8) : pp pi.val = pi := Fin.ext (Nat.mod_eq_of_lt pi.2)

/-- What a device owes while the pipes make their first transfers. -/
def owe0 (c : Dev nD) (n : ℕ) : CellTallies nD τ sig ℕ :=
  owe c 0 + ∑ i ∈ Finset.Ico n 8, tallyAt (cRcv (tgt (pp i) c) (pp i) (rOf 0)) 0 N

theorem owe0_take (c : Dev nD) {n : ℕ} (h : n < 8) : owe0 c n = owe0 c (n + 1) + tallyAt (cRcv (tgt (pp n) c) (pp n) (rOf 0)) 0 N := by
  have e : Finset.Ico n 8 = insert n (Finset.Ico (n + 1) 8) := by ext i; simp only [Finset.mem_Ico, Finset.mem_insert]; omega
  unfold owe0
  rw [e, Finset.sum_insert (by simp), add_comm (tallyAt _ _ _), add_assoc]
theorem owe0_done (c : Dev nD) : owe0 c 8 = owe c 0 := by
  unfold owe0; rw [Finset.Ico_self, Finset.sum_empty, add_zero]
theorem owe0_above (c : Dev nD) (n : ℕ) : Above 1 (owe0 c n) :=
  (owe_above c (by omega)).add (Above.sum fun i _ => Above.tally _ _ _ _ (by decide) (by rw [kind_rcv]; show 1 < 2 * _ + 2; omega))

theorem init_run (c : Dev nD) (pi : Fin 8) (O : CellTallies nD τ sig ℕ) {l : List (KProg F PUnit)} {Q : PUnit → sProp 𝕄} :
    iprop(Ctx P K ∗ Ow c O ∗ Pre0 P c pi)
      ⊢ iprop(((Ow c O ∗ Pre1 P c pi) -∗ Run c (seqP l) Q) -∗ Run c (seqP ([initP c pi 0 (by decide)] ++ l)) Q) := by
  simp only [List.cons_append, List.nil_append, seqP_cons]
  unfold Pre0 Pre1
  rw [Ico_take (a := 0) (b := 16) (by decide) (fun r => Tok (cLd c pi) r), pAll_take P c pi (jI c 0)]
  iintro ⟨#HC, HO, Hs, Hl, ⟨Hb, Hp⟩, Ho, Ha, Hal, ⟨Ht, Hts⟩, HS⟩ Hgo
  ihave Hal := (At_reached (cLd c pi) 0) $$ Hal
  icases Hal with ⟨#Hre, Hal⟩
  iapply (wp_initG P K c pi 0 (Nat.zero_lt_succ 3)) $$ [Hs Hb Ht]
  · isplitr; · iexact HC
    isplitl [Hb]; · iexact Hb
    isplitl [Hs]; · iexact Hs
    isplitl [Ht]; · iexact Ht
    iexact Hre
  iintro Hc
  iapply Hgo
  iframe

theorem start_run (c : Dev nD) (pi : Fin 8) {l : List (KProg F PUnit)} {Q : PUnit → sProp 𝕄} :
    iprop(Ctx P K ∗ Ow c (owe0 c pi.val) ∗ (Pre1 P c pi ∗ Leave c pi 0))
      ⊢ iprop(((Ow c (owe0 c (pi.val + 1)) ∗ Pipe P c pi 0) -∗ Run c (seqP l) Q) -∗ Run c (seqP ([startP c pi] ++ l)) Q) := by
  have hA := (owe0_above c pi.val).mono (Nat.zero_le 1)
  have hO := owe0_take c pi.2
  rw [pp_val] at hO
  have hb : seqP ([startP (F := F) c pi] ++ l) = (initWaitP c pi 0 (by decide) >>= fun _ => sendP c pi 0 >>= fun _ => loadP c pi 0 (by decide) >>= fun _ => seqP l) := by
    show (startP c pi >>= fun _ => seqP l) = _
    unfold startP
    simp only [Prog.bind_assoc]
  rw [hb]
  unfold Pipe
  rw [if_pos (by decide)]
  unfold Pre1 PipeM Ats Toks Start At0 keepS ldS stS
  rw [if_neg (by decide), if_pos (by decide), if_neg (by decide), Ico_take (a := 1) (b := 16) (by decide) (fun r => Tok (cLd c pi) r),
    Ico_take (a := 0) (b := 24) (by decide) (fun v => sendTok c pi v)]
  unfold sendTok
  iintro ⟨#HC, HO, ⟨Hc, Hl, Hp, Ho, ⟨As, As', Ar, Ar', Ac, At⟩, Al, ⟨Ht, Hts⟩, ⟨⟨T1, T2⟩, Ts⟩, Tc, Tst, Cr, Cc⟩, Hlv⟩ Hgo
  iapply (wp_waitLd P K c pi 0 (by decide)
    (w := .waitDma2 (csem pi) (rowM pM (offI c pi 0) (offI_inb c pi (by decide))) (slotM pi 0) (View.wordExact_bits rfl) ((View.wordExact_bits rfl).reshape _ _))
    (by rw [← credit_slot pi 0]; exact wpE_waitDma2_eq 𝒱₀ (c : Thread nD τ) none Set.univ) hA) $$ [HO Hc Al]
  · iframe; iexact HC
  unfold ldPay
  rw [if_pos (by decide)]
  iintro ⟨HO, Al, Hs, Hb⟩
  ihave Hs := (Sl_halves c pi 0 _) $$ Hs
  icases Hs with ⟨Hsl, Hsr⟩
  ihave Hp := (pAll_join P c pi (jI c 0)) $$ [Hb Hp]
  · isplitl [Hb]; · iexact Hb
    iexact Hp
  ihave As := (At_reached (cSnd c pi 0) 0) $$ As
  icases As with ⟨#Hrs, As⟩
  ihave Ac := (At_reached (cCr c pi) 0) $$ Ac
  icases Ac with ⟨#Hrc, Ac⟩
  iapply (wp_sendU P K c pi 0 (by decide) hO) $$ [HO Hsl Hlv T1 T2]
  · isplitr; · iexact HC
    isplitl [HO]; · iexact HO
    isplitl [Hsl]; · iexact Hsl
    isplitl [Hlv]; · iexact Hlv
    isplitr; · iexact Hrc
    isplitl [T1]; · iexact T1
    isplitr; · iexact Hrs
    iexact T2
  iintro ⟨Hcs, HO⟩
  ihave Al := (At_reached (cLd c pi) 1) $$ Al
  icases Al with ⟨#Hrl, Al⟩
  ihave Hp := (pAll_split P c pi (jS c pi 0)) $$ Hp
  icases Hp with ⟨Hb, Hp⟩
  iapply (wp_loadU P K c pi 0 (Nat.zero_lt_succ 23) (by decide)) $$ [Hb Hl Ht]
  · isplitr; · iexact HC
    isplitl [Hb]; · iexact Hb
    isplitl [Hl]; · iexact Hl
    isplitl [Ht]; · iexact Ht
    iexact Hrl
  iintro Hc
  iapply Hgo
  isplitl [HO]; · iexact HO
  isplitl [Hcs]; · iexact Hcs
  isplitl [Hsr]; · iexact Hsr
  isplitl [Hc Hp]
  · isplitl [Hc]; · iexact Hc
    iexact Hp
  isplitl [Ho]; · iexact Ho
  isplitl [As As' Ar Ar' Ac Al At]
  · isplitl [As]; · iexact As
    isplitl [As']; · iexact As'
    isplitl [Ar]; · iexact Ar
    isplitl [Ar']; · iexact Ar'
    isplitl [Ac]; · iexact Ac
    isplitl [Al]; · iexact Al
    iexact At
  isplitl [Ts]; · iexact Ts
  isplitl [Tc]; · iexact Tc
  isplitl [Hts]; · iexact Hts
  isplitl [Tst]; · iexact Tst
  isplitl [Cr]; · iexact Cr
  iexact Cc

/-! ## The end -/

def Ends (c : Dev nD) (pi : Fin 8) : sProp 𝕄 :=
  iprop(At (cSnd c pi 0) 12 ∗ At (cSnd c pi 1) 12 ∗ At (cRcv c pi 0) 12 ∗ At (cRcv c pi 1) 12 ∗ At (cLd c pi) 16 ∗ At (cSt c pi) 16 ∗ At (cCr c pi) 23)

/-- A pipe when everything is done. -/
def Done (c : Dev nD) (pi : Fin 8) : sProp 𝕄 :=
  iprop(SlAny c pi 0 ∗ SlAny c pi 1 ∗ LcAny c pi ∗ pAll P c pi ∗ (bigSep Finset.univ fun j => Ob c pi j (blk (outV P) pi j)) ∗ Ends c pi)

theorem oSt_done (c : Dev nD) (pi : Fin 8) : oSt P c pi 24 = bigSep Finset.univ fun j => Ob c pi j (blk (outV P) pi j) := by
  unfold oSt
  apply bigSep_congr
  intro j _
  unfold oOf
  rw [if_pos (jS_stored c pi j).2.2]

theorem end_run (c : Dev nD) (pi : Fin 8) {l : List (KProg F PUnit)} {Q : PUnit → sProp 𝕄} :
    iprop(Ctx P K ∗ Ow c 0 ∗ Pipe P c pi 24)
      ⊢ iprop(((Ow c 0 ∗ Done P c pi) -∗ Run c (seqP l) Q) -∗ Run c (seqP ([storeWaitP c pi 23 (by decide)] ++ l)) Q) := by
  simp only [List.cons_append, List.nil_append, seqP_cons]
  unfold Pipe
  rw [if_neg (by decide)]
  unfold PipeF Done Ends
  rw [← oSt_done, ← oHole_put P c pi (u := 23) (by decide) (by decide)]
  iintro ⟨#HC, HO, Hc, Ho, Hl, Hany, Hlc, Hp, As, As', Ar, Ar', Ac, Al, At⟩ Hgo
  iapply (wp_waitSt P K c pi 23 (Nat.lt_succ_self 23) (by decide) (Above.zero _)) $$ [HO Hc At]
  · isplitr; · iexact HC
    isplitl [Hc]; · iexact Hc
    isplitl [HO]; · iexact HO
    iexact At
  unfold stPay
  iintro ⟨HO, At, Hob, Hr⟩
  ihave Hs := (Sl_join c pi (rOf 23) (postV P pi 23 c) (postV P pi 23 c)) $$ [Hl Hr]
  · isplitl [Hl] <;> iassumption
  iapply Hgo
  isplitl [HO]; · iexact HO
  isplitl [Hs]; · unfold SlAny; iexists _; iexact Hs
  isplitl [Hany]; · iexact Hany
  isplitl [Hlc]; · iexact Hlc
  isplitl [Hp]; · iexact Hp
  isplitl [Hob Ho]
  · isplitl [Hob]; · iexact Hob
    iexact Ho
  isplitl [As']; · iexact As'
  isplitl [As]; · iexact As
  isplitl [Ar]; · iexact Ar
  isplitl [Ar']; · iexact Ar'
  isplitl [Al]; · iexact Al
  isplitl [At]; · iexact At
  iexact Ac

/-! ## The handshake -/

/-- What a device owes at its beginning. -/
def due (c : Dev nD) : CellTallies nD τ sig ℕ := (owe0 c 0 + tallyAt (cBr (rightD c)) 0 1) + tallyAt (cBr (leftD c)) 0 1

theorem split_dirs (Φ : Fin 8 → sProp 𝕄) : bigSep Finset.univ Φ = iprop(bigSep (dirs false) Φ ∗ bigSep (dirs true) Φ) := by
  rw [show (Finset.univ : Finset (Fin 8)) = dirs false ∪ dirs true from by decide]
  exact bigSep_union (by decide)

/-- What a device lets its neighbours write into. -/
def Lend (c : Dev nD) (pi : Fin 8) : sProp 𝕄 := iprop(SlAny c pi 1 ∗ reached ER (cRcv c pi 1) 0)

theorem lend_false (c : Dev nD) : (bigSep (dirs false) (fun pi => Lend c pi) : sProp 𝕄) = bigSep (dirs false) fun pi => Leave (leftD c) pi 0 := by
  apply bigSep_congr
  intro pi hpi
  have h : pi.val < 4 := by have := (Finset.mem_filter.mp hpi).2; simpa using this
  unfold Lend Leave tgt
  rw [if_pos h, right_left]; rfl
theorem lend_true (c : Dev nD) : (bigSep (dirs true) (fun pi => Lend c pi) : sProp 𝕄) = bigSep (dirs true) fun pi => Leave (rightD c) pi 0 := by
  apply bigSep_congr
  intro pi hpi
  have h : ¬ pi.val < 4 := by have := (Finset.mem_filter.mp hpi).2; simpa using this
  unfold Lend Leave tgt
  rw [if_neg h, left_right]; rfl

theorem rest_br (c : Dev nD) : bigSep ((ringRd P).duties (cBr c) 0 \ ∅) (fun d => (ringRd P).payload (cBr c) 0 d)
    = bigSep Finset.univ fun pi => Leave (F := F) c pi 0 := by
  rw [Finset.sdiff_empty, duties_br, split_dirs, show (Finset.univ : Finset Bool) = {false, true} from by decide,
    bigSep_insert (by decide), bigSep_singleton, pay_br, pay_br]
  rfl

theorem shake_run (c : Dev nD) {l : List (KProg F PUnit)} {Q : PUnit → sProp 𝕄} :
    iprop(Ctx P K ∗ reached ER (cBr (leftD c)) 0 ∗ reached ER (cBr (rightD c)) 0 ∗ Ow c (due c) ∗ dutyTok ER (cBr (leftD c)) 0 false
        ∗ dutyTok ER (cBr (rightD c)) 0 true ∗ cred (tallyAt (cBr c) 0 2) ∗ atPos ER (cBr c) 0 ∅ 0 ∗ bigSep Finset.univ fun pi => Lend c pi)
      ⊢ iprop(((Ow c (owe0 c 0) ∗ atPos ER (cBr c) 1 ∅ 0 ∗ bigSep Finset.univ fun pi => Leave c pi 0) -∗ Run c (seqP l) Q)
          -∗ Run c (seqP ([shakeP c] ++ l)) Q) := by
  have hb : seqP ([shakeP (F := F) c] ++ l) = (semSignalWord (leftD c) bar 1#32 >>= fun _ => semSignalWord (rightD c) bar 1#32
      >>= fun _ => semWaitWord bar 2#32 >>= fun _ => seqP l) := by
    show (shakeP c >>= fun _ => seqP l) = _
    unfold shakeP
    simp only [Prog.bind_assoc]
  rw [hb, split_dirs, lend_false, lend_true]
  unfold Ow
  iintro ⟨#HC, #Rl, #Rr, ⟨%W, HO⟩, Tl, Tr, Hc, Hat, Sl, Sr⟩ Hgo
  iapply (Rounds.wp_signal 𝒱₀ ER (ringRd P) (c : Thread nD τ) none (dst := (leftD c : Thread nD τ)) (sem := bar) (r := 0) (d := false)
      (κ := K (cBr (leftD c))) (k' := 1) (by rw [duties_br]; exact Finset.mem_univ _) rfl 0 (owe0 c 0 + tallyAt (cBr (rightD c)) 0 1) rfl (W := W)) $$ [HO Tl Sl]
  · isplitr; · iapply (Ctx_inv P K (leftD c) (.reg bar)); iexact HC
    isplitl [HO]; · iexact HO
    isplitl [Tl]; · iexact Tl
    isplitl [Sl]
    · rw [pay_br]; iexact Sl
    iexact Rl
  iintro HO
  iapply (Rounds.wp_signal 𝒱₀ ER (ringRd P) (c : Thread nD τ) none (dst := (rightD c : Thread nD τ)) (sem := bar) (r := 0) (d := true)
      (κ := K (cBr (rightD c))) (k' := 1) (by rw [duties_br]; exact Finset.mem_univ _) rfl 0 (owe0 c 0) rfl (W := W)) $$ [HO Tr Sr]
  · isplitr; · iapply (Ctx_inv P K (rightD c) (.reg bar)); iexact HC
    isplitl [HO]; · iexact HO
    isplitl [Tr]; · iexact Tr
    isplitl [Sr]
    · rw [pay_br]; iexact Sr
    iexact Rr
  iintro HO
  iapply (Rounds.wp_wait_rest_token 𝒱₀ ER (ringRd P) (c : Thread nD τ) none (κ := K (cBr c)) (w := .semWait bar ((2 : ℕ) : ℤ))
      (wpE_semWait_eq 𝒱₀ (c : Thread nD τ) none Set.univ) (Set.mem_univ _) 0 (O := owe0 c 0) (W := W) (R := 0) (m := 0) (T := ∅)
      ((Nat.zero_add 2).trans (expect_br P c).symm)) $$ [Hc HO Hat]
  · isplitr; · iapply (Ctx_inv P K c (.reg bar)); iexact HC
    isplitl [Hc]; · iexact Hc
    isplitl [HO]; · iexact HO
    isplitr; · iapply (mayWait c (.reg bar) (i := 0) (n := 1) (by decide) (by rw [kind_br]; rfl) (owe0_above c 0)); iapply (Ctx_lev P K); iexact HC
    iexact Hat
  rw [rest_br]
  iintro ⟨HO, Hat, -, Hp⟩
  iapply Hgo
  isplitl [HO]; · iexists _; iexact HO
  isplitl [Hat] <;> iassumption

/-! ## The whole body -/

/-- What a device enters the body with, beside what it owes. -/
def Enter (c : Dev nD) : sProp 𝕄 :=
  iprop(reached ER (cBr (leftD c)) 0 ∗ reached ER (cBr (rightD c)) 0 ∗ dutyTok ER (cBr (leftD c)) 0 false ∗ dutyTok ER (cBr (rightD c)) 0 true
    ∗ cred (tallyAt (cBr c) 0 2) ∗ atPos ER (cBr c) 0 ∅ 0 ∗ (bigSep Finset.univ fun pi => Lend c pi) ∗ bigSep Finset.univ fun pi => Pre0 P c pi)

theorem body_run (c : Dev nD) {Q : PUnit → sProp 𝕄} :
    iprop(Ctx P K ∗ Ow c (due c) ∗ Enter P c)
      ⊢ iprop(((Ow c 0 ∗ atPos ER (cBr c) 1 ∅ 0 ∗ bigSep Finset.univ fun pi => Done P c pi) -∗ Run c (pure ⟨⟩) Q)
          -∗ Run c (seqP (bodyL c)) Q) := by
  have id_lt : ∀ a : Fin 8, a.val < 8 := fun a => a.2
  have hI := fun l => sweep_all P K c (fun pi => [initP c pi 0 (by decide)]) (fun _ => owe0 c 0) (Pre0 P c) (Pre1 P c) Fin.val pp
    (fun n hn => Nat.mod_eq_of_lt hn) (fun a b => Fin.ext) id_lt (Q := Q) (l := l)
    (l' := ((List.finRange 8).map fun pi => initP c pi 0 (by decide)) ++ l) rfl (fun pi l => init_run P K c pi (owe0 c 0))
  have hS := fun l => sweep_all P K c (fun pi => [startP c pi]) (owe0 c) (fun pi => iprop(Pre1 P c pi ∗ Leave c pi 0)) (fun pi => Pipe P c pi 0) Fin.val pp
    (fun n hn => Nat.mod_eq_of_lt hn) (fun a b => Fin.ext) id_lt (Q := Q) (l := l)
    (l' := ((List.finRange 8).map fun pi => startP c pi) ++ l) rfl (fun pi l => start_run P K c pi)
  have hR := fun l => rows_run P K c (l := l) (Q := Q) steps 0 (by decide) (by decide)
  have hE := sweep_all P K c (fun pi => [storeWaitP c pi 23 (by decide)]) (fun _ => 0) (fun pi => Pipe P c pi 24) (Done P c) pos pipeAt
    (fun n hn => pos_pipeAt ⟨n, hn⟩) pos_inj pos_lt (Q := Q) (l := [])
    (l' := order.map fun pi => storeWaitP c pi 23 (by decide)) rfl (fun pi l => end_run P K c pi)
  rw [owe_done c (k := 8 * 24) (by decide)] at hR
  rw [owe0_done] at hS
  unfold bodyL Enter
  simp only [List.append_assoc]
  iintro ⟨#HC, HO, #Rl, #Rr, Tl, Tr, Hc, Hat, Hlend, Hpre⟩ Hgo
  iapply (shake_run P K c) $$ [HO Tl Tr Hc Hat Hlend]
  · iframe
    isplitr; · iexact HC
    isplitr; · iexact Rl
    iexact Rr
  iintro ⟨HO, Hat, Hlv⟩
  iapply (hI _) $$ [HO Hpre]
  · iframe; iexact HC
  iintro ⟨HO, Hpre⟩
  ihave Hpl := (show iprop(bigSep Finset.univ (Pre1 P c) ∗ bigSep Finset.univ fun pi => Leave c pi 0)
      ⊢ bigSep Finset.univ fun pi => iprop(Pre1 P c pi ∗ Leave c pi 0) from by rw [bigSep_sep']) $$ [Hpre Hlv]
  · isplitl [Hpre] <;> iassumption
  iapply (hS _) $$ [HO Hpl]
  · iframe; iexact HC
  iintro ⟨HO, Hp⟩
  iapply (hR _) $$ [HO Hp]
  · isplitr; · iexact HC
    isplitl [HO] <;> iassumption
  iintro ⟨HO, Hp⟩
  iapply hE $$ [HO Hp]
  · iframe; iexact HC
  iintro ⟨HO, Hp⟩
  iapply Hgo
  iframe

end Cert.Ring

end
-- ==== Proof.Mem.lean ====
/-
  A device's buffers as the pieces the kernel works on: the two big arrays as their blocks of rows, a communication
  buffer as its two slots.
-/
module

public import proofs.«01_k».proof.Proof.Run
public import proofs.«01_k».proof.Proof.Gen.KernelIdeal.Launch

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → FVec F S4096x8192 .f32) (K : GSem nD τ sig → ℕ)

/-! ## Families over the pipes -/

theorem bigSep_pipes (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [bigSep_eq_bigSepL_of_eq [0, 1, 2, 3, 4, 5, 6, 7] (by decide) (by decide)]
  rfl

theorem zip {ι : Type} [Fintype ι] [DecidableEq ι] (Φ Ψ : ι → sProp 𝕄) :
    iprop(bigSep Finset.univ Φ ∗ bigSep Finset.univ Ψ) ⊢ bigSep Finset.univ fun i => iprop(Φ i ∗ Ψ i) :=
  Entails.of_eq (bigSep_sep' _ _ _).symm
theorem unzip {ι : Type} [Fintype ι] [DecidableEq ι] (Φ Ψ : ι → sProp 𝕄) :
    (bigSep Finset.univ fun i => iprop(Φ i ∗ Ψ i)) ⊢ iprop(bigSep Finset.univ Φ ∗ bigSep Finset.univ Ψ) :=
  Entails.of_eq (bigSep_sep' _ _ _)

/-! ## Blocks of rows -/

theorem blocks_disjoint (t t' : Fin 8 × Fin 16) (h : t ≠ t') : Disjoint (blkR t.1 t.2).set (blkR t'.1 t'.2).set := by
  refine Rect.unit_disjoint (0 : Fin 2) ?_
  show 512 * t.1.val + 32 * t.2.val + 32 ≤ 512 * t'.1.val + 32 * t'.2.val ∨ 512 * t'.1.val + 32 * t'.2.val + 32 ≤ 512 * t.1.val + 32 * t.2.val
  have h2 : ¬ (t.1.val = t'.1.val ∧ t.2.val = t'.2.val) := fun e => h (Prod.ext (Fin.ext e.1) (Fin.ext e.2))
  have := t.2.2; have := t'.2.2
  omega

theorem blocks_cover : (Finset.univ : Finset (Fin 8 × Fin 16)).biUnion (fun t => (blkR t.1 t.2).set) = Finset.univ := by
  refine Finset.eq_univ_iff_forall.mpr fun i => Finset.mem_biUnion.mpr ?_
  have h0 : (i 0).val < 4096 := (i 0).2
  have h1 : (i 1).val < 8192 := (i 1).2
  refine ⟨(⟨(i 0).val / 512, by omega⟩, ⟨(i 0).val % 512 / 32, by omega⟩), Finset.mem_univ _, Rect.mem_set_unit.mpr fun a => ?_⟩
  fin_cases a
  · show 512 * ((i 0).val / 512) + 32 * ((i 0).val % 512 / 32) ≤ (i 0).val ∧ (i 0).val < 512 * ((i 0).val / 512) + 32 * ((i 0).val % 512 / 32) + 32
    omega
  · show 0 ≤ (i 1).val ∧ (i 1).val < 0 + 8192
    omega

instance elt_nonempty : ∀ e, Nonempty (Elt F e) := fun e => inferInstance

/-- An array's blocks, by pipe. -/
theorem split_blocks (c : Dev nD) (m : Memref sig .tc .hbm S4096x8192 .f32) (X : FVec F S4096x8192 .f32) :
    (ownsTc c m fullShare X : sProp 𝕄) ⊢ bigSep Finset.univ fun pi => bigSep Finset.univ fun j => ownsTc c (blkM m pi j) fullShare (blk X pi j) := by
  refine (owns_rects (Val := Elt F) (c : Thread nD τ) m fullShare (fun t : Fin 8 × Fin 16 => blkR t.1 t.2) (fun _ _ => rfl) blocks_disjoint blocks_cover X).trans ?_
  rw [bigSep_univ_prod]
  exact Entails.of_eq rfl

theorem join_blocks (c : Dev nD) (m : Memref sig .tc .hbm S4096x8192 .f32) (X : FVec F S4096x8192 .f32) :
    (bigSep Finset.univ fun pi => bigSep Finset.univ fun j => ownsTc c (blkM m pi j) fullShare (blk X pi j)) ⊢ (ownsTc c m fullShare X : sProp 𝕄) := by
  refine BIBase.Entails.trans ?_ (owns_of_rects (Val := Elt F) (c : Thread nD τ) m fullShare (fun t : Fin 8 × Fin 16 => blkR t.1 t.2) (fun _ _ => rfl) blocks_disjoint blocks_cover X)
  rw [bigSep_univ_prod]
  exact Entails.of_eq rfl

theorem p_split (c : Dev nD) (X : FVec F S4096x8192 .f32) :
    ((((c : Thread nD τ).loc main_v1) ↦{fullShare} X : sProp 𝕄)) ⊢ bigSep Finset.univ fun pi => bigSep Finset.univ fun j => Pb c pi j (blk X pi j) := by
  exact (Entails.of_eq (owns_whole (Val := Elt F) (c : Thread nD τ) main_v1 fullShare X).symm).trans (split_blocks c pM X)
theorem p_join (c : Dev nD) (X : FVec F S4096x8192 .f32) :
    (bigSep Finset.univ fun pi => bigSep Finset.univ fun j => Pb c pi j (blk X pi j)) ⊢ (((c : Thread nD τ).loc main_v1) ↦{fullShare} X : sProp 𝕄) := by
  exact (join_blocks c pM X).trans (Entails.of_eq (owns_whole (Val := Elt F) (c : Thread nD τ) main_v1 fullShare X))
theorem o_join (c : Dev nD) (X : FVec F S4096x8192 .f32) :
    (bigSep Finset.univ fun pi => bigSep Finset.univ fun j => Ob c pi j (blk X pi j)) ⊢ (((c : Thread nD τ).loc main_v2) ↦{fullShare} X : sProp 𝕄) := by
  exact (join_blocks c oM X).trans (Entails.of_eq (owns_whole (Val := Elt F) (c : Thread nD τ) main_v2 fullShare X))

theorem Ob_any (c : Dev nD) (pi : Fin 8) (j : Fin 16) (X : FVec F S32x8192 .f32) :
    (ownsTc c (blkM oM pi j) fullShare X : sProp 𝕄) ⊢ ObAny c pi j := by
  unfold ObAny Ob
  iintro H
  iexists _
  iexact H

/-- The result array, whatever it holds, is ready for every store. -/
theorem o_split (c : Dev nD) (X : FVec F S4096x8192 .f32) :
    ((((c : Thread nD τ).loc main_v2) ↦{fullShare} X : sProp 𝕄)) ⊢ bigSep Finset.univ fun pi => oSt P c pi 0 := by
  refine ((Entails.of_eq (owns_whole (Val := Elt F) (c : Thread nD τ) main_v2 fullShare X).symm).trans (split_blocks c oM X)).trans (bigSep_mono fun pi _ => ?_)
  unfold oSt
  refine bigSep_mono fun j _ => ?_
  unfold oOf
  rw [if_neg (Nat.not_lt_zero _)]
  exact Ob_any c pi j _

/-! ## Slots -/

theorem slot_of_slice (c : Dev nD) (pi : Fin 8) (s : Fin 2) (Y : FVec F S1x32x8192 .f32) :
    (ownsTc c ((commM pi).slice (slotR s) (fun _ => rfl)) fullShare Y : sProp 𝕄) ⊢ SlAny c pi s := by
  unfold SlAny Sl ownsTc owns
  iintro ⟨%f, -, H⟩
  iexists (slotM pi s).view.read (Elt F) f
  iexists f
  isplitr; · ipureintro; rfl
  rw [show (slotM pi s).view.set = ((commM pi).slice (slotR s) (fun _ => rfl)).view.set from View.set_reshape _ _]
  iexact H

theorem slice_of_slot (c : Dev nD) (pi : Fin 8) (s : Fin 2) :
    (SlAny c pi s : sProp 𝕄) ⊢ iprop(∃ f : ((commM pi).slice (slotR s) (fun _ => rfl)).view.ty.Contents (Elt F), ownsTc c ((commM pi).slice (slotR s) (fun _ => rfl)) fullShare
      (((commM pi).slice (slotR s) (fun _ => rfl)).view.read (Elt F) f)) := by
  unfold SlAny Sl ownsTc owns
  iintro ⟨%X, %f, -, H⟩
  iexists f
  iexists f
  isplitr; · ipureintro; rfl
  rw [show ((commM pi).slice (slotR s) (fun _ => rfl)).view.set = (slotM pi s).view.set from (View.set_reshape _ _).symm]
  iexact H

theorem slots_disjoint (s s' : Fin 2) (h : s ≠ s') : Disjoint (slotR s).set (slotR s').set := by
  refine Rect.unit_disjoint (0 : Fin 3) ?_
  show s.val + 1 ≤ s'.val ∨ s'.val + 1 ≤ s.val
  have : s.val ≠ s'.val := fun e => h (Fin.ext e)
  omega

theorem slots_cover : (Finset.univ : Finset (Fin 2)).biUnion (fun s => (slotR s).set) = Finset.univ := by
  refine Finset.eq_univ_iff_forall.mpr fun i => Finset.mem_biUnion.mpr ?_
  have h0 : (i 0).val < 2 := (i 0).2
  have h1 : (i 1).val < 32 := (i 1).2
  have h2 : (i 2).val < 8192 := (i 2).2
  refine ⟨⟨(i 0).val, h0⟩, Finset.mem_univ _, Rect.mem_set_unit.mpr fun a => ?_⟩
  fin_cases a
  · show (i 0).val ≤ (i 0).val ∧ (i 0).val < (i 0).val + 1
    omega
  · show 0 ≤ (i 1).val ∧ (i 1).val < 0 + 32
    omega
  · show 0 ≤ (i 2).val ∧ (i 2).val < 0 + 8192
    omega

theorem comm_split (c : Dev nD) (pi : Fin 8) (X : FVec F S2x32x8192 .f32) :
    (ownsTc c (commM pi) fullShare X : sProp 𝕄) ⊢ iprop(SlAny c pi 0 ∗ SlAny c pi 1) := by
  refine (owns_rects (Val := Elt F) (c : Thread nD τ) (commM pi) fullShare slotR (fun _ _ => rfl) slots_disjoint slots_cover X).trans ?_
  refine (bigSep_mono (Ψ := fun s => SlAny c pi s) fun s _ => slot_of_slice c pi s _).trans ?_
  rw [BI.bigSep_fin_two]
  exact BI.Entails.refl _

theorem comm_join (c : Dev nD) (pi : Fin 8) :
    iprop(SlAny c pi 0 ∗ SlAny c pi 1) ⊢ (iprop(∃ X : FVec F S2x32x8192 .f32, ownsTc c (commM pi) fullShare X) : sProp 𝕄) := by
  refine (Entails.of_eq (BI.bigSep_fin_two (fun s : Fin 2 => (SlAny c pi s : sProp 𝕄))).symm).trans ?_
  refine (bigSep_mono fun s _ => slice_of_slot c pi s).trans ?_
  refine (bigSep_exists_pi Finset.univ _).trans ?_
  iintro ⟨%f, H⟩
  iexists Rect.glue slotR slots_cover (fun s => ((commM pi).slice (slotR s) (fun _ => rfl)).view.read (Elt F) (f s))
  iapply (owns_of_rects (Val := Elt F) (c : Thread nD τ) (commM pi) fullShare slotR (fun _ _ => rfl) slots_disjoint slots_cover _)
  iapply (show (bigSep Finset.univ fun s => ownsTc c ((commM pi).slice (slotR s) (fun _ => rfl)) fullShare
      (((commM pi).slice (slotR s) (fun _ => rfl)).view.read (Elt F) (f s)) : sProp 𝕄) ⊢ _ from Entails.of_eq (bigSep_congr fun s _ => by
        congr 1; funext y
        exact (Rect.glue_emb slotR slots_cover slots_disjoint (fun s => ((commM pi).slice (slotR s) (fun _ => rfl)).view.read (Elt F) (f s)) s y).symm))
  iexact H

end Cert.Ring

end
-- ==== Proof.Match.lean ====
/-
  The printed body is the body of `Prog`: each operation of the one is the same operation of the other.
-/
module

public import proofs.«01_k».proof.Proof.Prog
public import proofs.«01_k».proof.Proof.Gen.KernelIdeal.Points

@[expose] public section

noncomputable section

namespace Cert.Ring

open Cert.KernelIdeal Cert.KernelIdeal.Gen
open Idealize.ShloMosaic Idealize.ShloMosaic.TcCoe
open Idealize.SL.Sem

variable {F : FTy → Type} [FloatOps F]

/-- One program of the list met at the head of another. -/
theorem seqP_match {a p k : KProg F PUnit} {l : List (KProg F PUnit)} (h : p = (a >>= fun _ => k)) (hk : k = seqP l) :
    p = seqP (a :: l) := by rw [h, hk]; rfl

theorem dev_match {p : KProg F PUnit} {f g : Dev nD → KProg F PUnit} (h : p = Prog.op .deviceId f) (hk : ∀ c, f c = g c) :
    p = Prog.op .deviceId g := by rw [h]; exact congrArg _ (funext hk)

set_option maxRecDepth 1000000 in
set_option maxHeartbeats 40000000 in
/-- The printed body: one operation after another, 1537 pieces in all. -/
theorem body_eq : bodyAt0 (F := F) t0_0 = (Prog.op .deviceId fun c => seqP (bodyL c)) := by
  refine dev_match (Eq.refl _) fun c => ?_
  iterate 1537 refine seqP_match (Eq.refl _) ?_
  exact Eq.refl _

end Cert.Ring

end
-- ==== Proof.Region.lean ====
/-
  The kernel call as one region of the program: what a device enters it with and leaves it with.

  The launch leaves a device the right to open each of its scoped semaphore cells; on entry they are opened and the
  buffers cut into pieces, then the body runs, and before it returns every cell is closed, its counter back at zero.
-/
module

public import proofs.«01_k».proof.Proof.Mem
public import proofs.«01_k».proof.Proof.Match

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

/-! ## The scoped semaphores -/

/-- A pipe's seven scoped semaphores. -/
def osem (k : Fin 8 × Fin 7) : SemLoc sig :=
  match k.2 with
  | 0 => .dma (ssem k.1 0) | 1 => .dma (ssem k.1 1) | 2 => .dma (rsem k.1 0) | 3 => .dma (rsem k.1 1)
  | 4 => .dma (csem k.1) | 5 => .dma (tsem k.1) | 6 => .reg (crd k.1)

theorem bigSep_seven (Φ : Fin 7 → sProp 𝕄) : bigSep Finset.univ Φ = iprop(Φ 0 ∗ Φ 1 ∗ Φ 2 ∗ Φ 3 ∗ Φ 4 ∗ Φ 5 ∗ Φ 6) := by
  rw [bigSep_eq_bigSepL_of_eq [0, 1, 2, 3, 4, 5, 6] (by decide) (by decide)]
  rfl

/-- One assertion for each of a pipe's scoped cells. -/
def Sev (Φ : GSem nD τ sig → sProp 𝕄) (c : Dev nD) (pi : Fin 8) : sProp 𝕄 :=
  iprop(Φ (cSnd c pi 0) ∗ Φ (cSnd c pi 1) ∗ Φ (cRcv c pi 0) ∗ Φ (cRcv c pi 1) ∗ Φ (cLd c pi) ∗ Φ (cSt c pi) ∗ Φ (cCr c pi))

theorem sev_eq (Φ : GSem nD τ sig → sProp 𝕄) (c : Dev nD) :
    (bigSep Finset.univ fun k : Fin 8 × Fin 7 => Φ ((c : Thread nD τ), osem k)) = bigSep Finset.univ fun pi => Sev Φ c pi := by
  rw [bigSep_univ_prod]
  refine bigSep_congr fun pi _ => ?_
  rw [bigSep_seven]
  rfl

theorem ownSems_eq (c : Dev nD) : (Pipeline.ownSems0 osem c : sProp 𝕄) = bigSep Finset.univ fun pi => Sev (fun g => semVal g 0) c pi :=
  sev_eq (fun g => semVal g 0) c

variable (P : Dev nD → FVec F S4096x8192 .f32) (K : GSem nD τ sig → ℕ)

/-! ## Opening and closing the cells -/

theorem open_one (c : Dev nD) (sm : SemLoc sig) :
    iprop(Ctx P K ∗ openTok ER ((c : Thread nD τ), sm) ∗ semVal ((c : Thread nD τ), sm) 0) ⊢ (|={Set.univ}=> At ((c : Thread nD τ), sm) 0 : sProp 𝕄) := by
  unfold At
  iintro ⟨#HC, Ho, Hs⟩
  iapply (Rounds.cell_open ER (ringRd P) (g := ((c : Thread nD τ), sm)) (Set.mem_univ (K ((c : Thread nD τ), sm))))
  isplitr; · iapply (Ctx_inv P K c sm); iexact HC
  isplitl [Ho] <;> iassumption

theorem close_one (c : Dev nD) (sm : SemLoc sig) (R : ℕ) (hR : lastOf (kindOf sm) ≤ R) :
    iprop(Ctx P K ∗ atPos ER ((c : Thread nD τ), sm) R ∅ 0) ⊢ (|={Set.univ}=> semVal ((c : Thread nD τ), sm) 0 : sProp 𝕄) := by
  iintro ⟨#HC, Hat⟩
  iapply (Rounds.cell_close ER (ringRd P) (g := ((c : Thread nD τ), sm)) (R := R) (Set.mem_univ (K ((c : Thread nD τ), sm))) id
    (fun r hr => duties_later P c sm r (hR.trans hr)))
  isplitr; · iapply (Ctx_inv P K c sm); iexact HC
  iexact Hat

theorem open_pipe (c : Dev nD) (pi : Fin 8) :
    iprop(Ctx P K ∗ Sev (openTok ER) c pi ∗ Sev (fun g => semVal g 0) c pi) ⊢ (|={Set.univ}=> Sev (fun g => At g 0) c pi : sProp 𝕄) := by
  unfold Sev
  iintro ⟨#HC, ⟨O1, O2, O3, O4, O5, O6, O7⟩, S1, S2, S3, S4, S5, S6, S7⟩
  imod (open_one P K c (.dma (ssem pi 0))) $$ [O1 S1] with A1
  · isplitr; · iexact HC
    isplitl [O1] <;> iassumption
  imod (open_one P K c (.dma (ssem pi 1))) $$ [O2 S2] with A2
  · isplitr; · iexact HC
    isplitl [O2] <;> iassumption
  imod (open_one P K c (.dma (rsem pi 0))) $$ [O3 S3] with A3
  · isplitr; · iexact HC
    isplitl [O3] <;> iassumption
  imod (open_one P K c (.dma (rsem pi 1))) $$ [O4 S4] with A4
  · isplitr; · iexact HC
    isplitl [O4] <;> iassumption
  imod (open_one P K c (.dma (csem pi))) $$ [O5 S5] with A5
  · isplitr; · iexact HC
    isplitl [O5] <;> iassumption
  imod (open_one P K c (.dma (tsem pi))) $$ [O6 S6] with A6
  · isplitr; · iexact HC
    isplitl [O6] <;> iassumption
  imod (open_one P K c (.reg (crd pi))) $$ [O7 S7] with A7
  · isplitr; · iexact HC
    isplitl [O7] <;> iassumption
  imodintro
  iframe

theorem close_at (c : Dev nD) (sm : SemLoc sig) (R : ℕ) (hR : lastOf (kindOf sm) ≤ R) :
    iprop(Ctx P K ∗ At ((c : Thread nD τ), sm) R) ⊢ (|={Set.univ}=> semVal ((c : Thread nD τ), sm) 0 : sProp 𝕄) := by
  unfold At
  iintro ⟨#HC, Ha, -⟩
  iapply (close_one P K c sm R hR)
  isplitr; · iexact HC
  iexact Ha

theorem close_pipe (c : Dev nD) (pi : Fin 8) : iprop(Ctx P K ∗ Ends c pi) ⊢ (|={Set.univ}=> Sev (fun g => semVal g 0) c pi : sProp 𝕄) := by
  unfold Sev Ends
  iintro ⟨#HC, A1, A2, A3, A4, A5, A6, A7⟩
  imod (close_at P K c (.dma (ssem pi 0)) 12 (by rw [kind_snd]; exact le_rfl)) $$ [A1] with S1
  · isplitr; · iexact HC
    iexact A1
  imod (close_at P K c (.dma (ssem pi 1)) 12 (by rw [kind_snd]; exact le_rfl)) $$ [A2] with S2
  · isplitr; · iexact HC
    iexact A2
  imod (close_at P K c (.dma (rsem pi 0)) 12 (by rw [kind_rcv]; exact le_rfl)) $$ [A3] with S3
  · isplitr; · iexact HC
    iexact A3
  imod (close_at P K c (.dma (rsem pi 1)) 12 (by rw [kind_rcv]; exact le_rfl)) $$ [A4] with S4
  · isplitr; · iexact HC
    iexact A4
  imod (close_at P K c (.dma (csem pi)) 16 (by rw [kind_ld]; exact le_rfl)) $$ [A5] with S5
  · isplitr; · iexact HC
    iexact A5
  imod (close_at P K c (.dma (tsem pi)) 16 (by rw [kind_st]; exact le_rfl)) $$ [A6] with S6
  · isplitr; · iexact HC
    iexact A6
  imod (close_at P K c (.reg (crd pi)) 23 (by rw [kind_cr]; exact le_rfl)) $$ [A7] with S7
  · isplitr; · iexact HC
    iexact A7
  imodintro
  iframe

/-- The same for every pipe at once. -/
theorem open_all (c : Dev nD) :
    iprop(Ctx P K ∗ (bigSep Finset.univ fun pi => Sev (openTok ER) c pi) ∗ (bigSep Finset.univ fun pi => Sev (fun g => semVal g 0) c pi))
      ⊢ (|={Set.univ}=> bigSep Finset.univ fun pi => Sev (fun g => At g 0) c pi : sProp 𝕄) := by
  refine BIBase.Entails.trans ?_ (bigSep_fupd Finset.univ fun pi => Sev (fun g => At g 0) c pi)
  iintro ⟨#HC, Ho, Hs⟩
  iapply (bigSep_with_persistent (R := Ctx P K) (Φ := fun pi => iprop(Sev (openTok ER) c pi ∗ Sev (fun g => semVal g 0) c pi)) fun pi _ => open_pipe P K c pi)
  isplitr; · iexact HC
  iapply (zip _ _)
  isplitl [Ho] <;> iassumption

theorem close_all (c : Dev nD) :
    iprop(Ctx P K ∗ bigSep Finset.univ fun pi => Ends c pi)
      ⊢ (|={Set.univ}=> bigSep Finset.univ fun pi => Sev (fun g => semVal g 0) c pi : sProp 𝕄) := by
  refine BIBase.Entails.trans ?_ (bigSep_fupd Finset.univ fun pi => Sev (fun g => semVal g 0) c pi)
  iintro ⟨#HC, Ho⟩
  iapply (bigSep_with_persistent (R := Ctx P K) (Φ := fun pi => Ends c pi) fun pi _ => close_pipe P K c pi)
  isplitr; · iexact HC
  iexact Ho

/-! ## The scoped buffers -/

/-- A pipe's two buffers, at any contents. -/
def CbAny (c : Dev nD) (pi : Fin 8) : sProp 𝕄 := iprop(∃ X : FVec F S2x32x8192 .f32, ownsTc c (commM pi) fullShare X)

theorem any_whole (c : Dev nD) (b : Ref sig .tc) :
    (iprop(∃ f : Buf (Elt F) ((c : Thread nD τ).loc b), ((c : Thread nD τ).loc b) ↦{fullShare} f) : sProp 𝕄)
      = iprop(∃ f : Buf (Elt F) ((c : Thread nD τ).loc b), ownsTc c (Memref.whole b) fullShare f) := by
  congr 1; funext f
  exact (owns_whole (Val := Elt F) (c : Thread nD τ) b fullShare f).symm

theorem eight_and (A0 A1 A2 A3 A4 A5 A6 A7 B : sProp 𝕄) :
    iprop(A0 ∗ A1 ∗ A2 ∗ A3 ∗ A4 ∗ A5 ∗ A6 ∗ A7 ∗ B) = iprop((A0 ∗ A1 ∗ A2 ∗ A3 ∗ A4 ∗ A5 ∗ A6 ∗ A7) ∗ B) := by
  have h₁ : iprop(A0 ∗ A1 ∗ A2 ∗ A3 ∗ A4 ∗ A5 ∗ A6 ∗ A7 ∗ B) ⊢ iprop((A0 ∗ A1 ∗ A2 ∗ A3 ∗ A4 ∗ A5 ∗ A6 ∗ A7) ∗ B) := by
    iintro ⟨H0, H1, H2, H3, H4, H5, H6, H7, H⟩
    iframe
  have h₂ : iprop((A0 ∗ A1 ∗ A2 ∗ A3 ∗ A4 ∗ A5 ∗ A6 ∗ A7) ∗ B) ⊢ iprop(A0 ∗ A1 ∗ A2 ∗ A3 ∗ A4 ∗ A5 ∗ A6 ∗ A7 ∗ B) := by
    iintro ⟨⟨H0, H1, H2, H3, H4, H5, H6, H7⟩, H⟩
    iframe
  exact BI.equiv_iff.mp ⟨h₁, h₂⟩

theorem scoped_eq (c : Dev nD) :
    (Pipeline.scopedRest (Ix := ℕ) (Name := ℕ) (U := UU) (Lvl := ℕ) (Val := Elt F) cfg0.spec c : sProp 𝕄)
      = iprop((bigSep Finset.univ fun pi => CbAny c pi) ∗ (bigSep Finset.univ fun pi => LcAny c pi)) := by
  rw [scopedRest0_eq, bigSep_pipes, bigSep_pipes]
  simp only [any_whole]
  exact eight_and (CbAny c 0) (CbAny c 1) (CbAny c 2) (CbAny c 3) (CbAny c 4) (CbAny c 5) (CbAny c 6) (CbAny c 7) _

theorem slots_split (c : Dev nD) (pi : Fin 8) : (CbAny c pi : sProp 𝕄) ⊢ iprop(SlAny c pi 0 ∗ SlAny c pi 1) := by
  unfold CbAny
  iintro ⟨%X, H⟩
  iapply (comm_split c pi X)
  iexact H
theorem slots_join (c : Dev nD) (pi : Fin 8) : iprop(SlAny c pi 0 ∗ SlAny c pi 1) ⊢ (CbAny c pi : sProp 𝕄) := comm_join c pi

/-! ## What a device enters the region with -/

/-- A pipe's part of it, beside the buffers: its place at every cell, and the tokens. -/
def PipeG (c : Dev nD) (pi : Fin 8) : sProp 𝕄 :=
  iprop(Sev (fun g => At g 0) c pi ∗ bigSep (Finset.Ico 0 16) (fun r => Tok (cLd c pi) r) ∗ Start c pi)

/-- What a device brings to the handshake. -/
def Shake (c : Dev nD) : sProp 𝕄 :=
  iprop(reached ER (cBr (leftD c)) 0 ∗ reached ER (cBr (rightD c)) 0 ∗ dutyTok ER (cBr (leftD c)) 0 false ∗ dutyTok ER (cBr (rightD c)) 0 true
    ∗ cred (tallyAt (cBr c) 0 2) ∗ atPos ER (cBr c) 0 ∅ 0)

theorem pipe_enter (c : Dev nD) (pi : Fin 8) :
    iprop(PipeG c pi ∗ CbAny c pi ∗ LcAny c pi ∗ pAll P c pi ∗ oSt P c pi 0) ⊢ iprop(Lend c pi ∗ Pre0 P c pi) := by
  unfold PipeG Lend Pre0 Sev At0
  iintro ⟨⟨⟨A1, A2, A3, A4, A5, A6, A7⟩, T, S⟩, Hc, Hl, Hp, Ho⟩
  ihave Hs := (slots_split c pi) $$ Hc
  icases Hs with ⟨S0, S1⟩
  ihave A4 := (At_reached (cRcv c pi 1) 0) $$ A4
  icases A4 with ⟨#Hr, A4⟩
  isplitl [S1]
  · isplitl [S1]; · iexact S1
    iexact Hr
  iframe

theorem enter_intro (c : Dev nD) :
    iprop(Shake c ∗ (bigSep Finset.univ fun pi => PipeG c pi) ∗ (bigSep Finset.univ fun pi => CbAny c pi) ∗ (bigSep Finset.univ fun pi => LcAny c pi)
        ∗ (bigSep Finset.univ fun pi => pAll P c pi) ∗ bigSep Finset.univ fun pi => oSt P c pi 0) ⊢ (Enter P c : sProp 𝕄) := by
  have zip5 : iprop((bigSep Finset.univ fun pi => PipeG c pi) ∗ (bigSep Finset.univ fun pi => CbAny c pi) ∗ (bigSep Finset.univ fun pi => LcAny c pi)
        ∗ (bigSep Finset.univ fun pi => pAll P c pi) ∗ bigSep Finset.univ fun pi => oSt P c pi 0)
      ⊢ bigSep Finset.univ fun pi => iprop(PipeG c pi ∗ CbAny c pi ∗ LcAny c pi ∗ pAll P c pi ∗ oSt P c pi 0) := by
    simp only [bigSep_sep']
    exact BI.Entails.refl _
  have go : (bigSep Finset.univ fun pi => iprop(PipeG c pi ∗ CbAny c pi ∗ LcAny c pi ∗ pAll P c pi ∗ oSt P c pi 0))
      ⊢ iprop((bigSep Finset.univ fun pi => (Lend c pi : sProp 𝕄)) ∗ bigSep Finset.univ fun pi => Pre0 P c pi) :=
    (bigSep_mono fun pi _ => pipe_enter P c pi).trans (unzip _ _)
  unfold Shake Enter
  iintro ⟨⟨R1, R2, T1, T2, Hc, Ha⟩, H⟩
  ihave H := zip5 $$ H
  ihave H := go $$ H
  icases H with ⟨HL, HP⟩
  iframe

/-! ## The body -/

/-- What the body leaves. -/
def Left (c : Dev nD) : sProp 𝕄 :=
  iprop(semVal (cBr c) 0 ∗ (bigSep Finset.univ fun pi => Sev (fun g => semVal g 0) c pi) ∗ (bigSep Finset.univ fun pi => CbAny c pi)
    ∗ (bigSep Finset.univ fun pi => LcAny c pi) ∗ (bigSep Finset.univ fun pi => pAll P c pi)
    ∗ bigSep Finset.univ fun pi => bigSep Finset.univ fun j => Ob c pi j (blk (outV P) pi j))

theorem pipe_done (c : Dev nD) (pi : Fin 8) :
    (Done P c pi : sProp 𝕄) ⊢ iprop(Ends c pi ∗ CbAny c pi ∗ LcAny c pi ∗ pAll P c pi ∗ bigSep Finset.univ fun j => Ob c pi j (blk (outV P) pi j)) := by
  unfold Done
  iintro ⟨S0, S1, Hl, Hp, Ho, He⟩
  ihave Hc := (slots_join c pi) $$ [S0 S1]
  · isplitl [S0] <;> iassumption
  iframe

theorem left_intro (c : Dev nD) :
    iprop(Ctx P K ∗ atPos ER (cBr c) 1 ∅ 0 ∗ bigSep Finset.univ fun pi => Done P c pi) ⊢ (|={Set.univ}=> Left P c : sProp 𝕄) := by
  have go : (bigSep Finset.univ fun pi => (Done P c pi : sProp 𝕄))
      ⊢ iprop((bigSep Finset.univ fun pi => Ends c pi) ∗ (bigSep Finset.univ fun pi => CbAny c pi) ∗ (bigSep Finset.univ fun pi => LcAny c pi)
        ∗ (bigSep Finset.univ fun pi => pAll P c pi) ∗ bigSep Finset.univ fun pi => bigSep Finset.univ fun j => Ob c pi j (blk (outV P) pi j)) := by
    refine (bigSep_mono fun pi _ => pipe_done P c pi).trans ?_
    simp only [bigSep_sep']
    exact BI.Entails.refl _
  unfold Left
  iintro ⟨#HC, Ha, Hd⟩
  ihave H := go $$ Hd
  icases H with ⟨He, Hc, Hl, Hp, Ho⟩
  imod (close_one P K c (.reg bar) 1 (by rw [kind_br]; exact le_rfl)) $$ [Ha] with Hb
  · isplitr; · iexact HC
    iexact Ha
  imod (close_all P K c) $$ [He] with Hs
  · isplitr; · iexact HC
    iexact He
  imodintro
  iframe

theorem whole_run (c : Dev nD) {Q : PUnit → sProp 𝕄} :
    iprop(Ctx P K ∗ Ow c (due c) ∗ Enter P c) ⊢ iprop(((Ow c 0 ∗ Left P c) -∗ Q ⟨⟩) -∗ Run c (bodyAt0 (F := F) t0_0) Q) := by
  rw [body_eq]
  simp only [Run, wp_deviceId]
  iintro ⟨#HC, HO, He⟩ Hk
  iapply (body_run P K c) $$ [HO He]
  · isplitr; · iexact HC
    isplitl [HO] <;> iassumption
  iintro ⟨HO, Ha, Hd⟩
  iapply (show iprop(|={Set.univ}=> Q ⟨⟩) ⊢ Run c (pure ⟨⟩) Q from by
    show _ ⊢ Run c (Prog.ret ⟨⟩) Q
    unfold Run
    rw [wp_ret])
  imod (left_intro P K c) $$ [Ha Hd] with HL
  · isplitr; · iexact HC
    isplitl [Ha] <;> iassumption
  imodintro
  iapply Hk
  isplitl [HO] <;> iassumption

end Cert.Ring

end
-- ==== Proof.Talk.lean ====
/-
  The kernel call's region: its proof data, its body's obligation, and its entry and exit.
-/
module

public import proofs.«01_k».proof.Proof.Region
public import proofs.«01_k».proof.Proof.Gen.KernelIdeal.Frame

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## The buffers -/

def bufs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- One whole buffer at given contents. -/
abbrev pt (c : Dev nD) (b : Ref sig .tc) (X : Buf (Elt F) ((c : Thread nD τ).loc b)) : sProp 𝕄 := ((c : Thread nD τ).loc b) ↦{fullShare} X

theorem bufs_eq (c : Dev nD) (W : Valuation τ sig (Elt F)) : (StableHlo.held (c : Thread nD τ) bufs W : sProp 𝕄)
    = iprop(pt c main_arg0 (W main_arg0) ∗ pt c main_arg1 (W main_arg1) ∗ pt c main_v1 (W main_v1) ∗ pt c main_v2 (W main_v2)) := by
  unfold StableHlo.held
  rw [bigSep_eq_bigSepL_of_eq [Proc.devRef .tc main_arg0, Proc.devRef .tc main_arg1, Proc.devRef .tc main_v1, Proc.devRef .tc main_v2] (by decide) (by decide)]
  rfl

theorem unscopedSems0_eq (c : Dev nD) : (unscopedSems0 c : sProp 𝕄) = semVal (cBr c) 0 := by
  unfold unscopedSems0
  rw [show (Finset.univ.filter fun sm : SemLoc sig => ¬ sm.isScoped .tc) = {SemLoc.reg bar} from by decide, BI.bigSep_singleton]

/-- The buffers at launch, after the local product, and after the call. -/
def V₀ (c : Dev nD) : Valuation τ sig (Elt F) := fun b => m ((c : Dev nD), b)
def V₁ (c : Dev nD) : Valuation τ sig (Elt F) := StableHlo.after hostOps0 (V₀ m c)
/-- The partial products. -/
def parts (c : Dev nD) : FVec F S4096x8192 .f32 := V₁ m c main_v1
def V₂ (c : Dev nD) : Valuation τ sig (Elt F) := Function.update (V₁ m c) main_v2 (outV (parts m))

theorem V₁_arg0 (c : Dev nD) : V₁ m c main_arg0 = m ((c : Thread nD τ).loc main_arg0) := V_main_arg0 m c
theorem V₁_arg1 (c : Dev nD) : V₁ m c main_arg1 = m ((c : Thread nD τ).loc main_arg1) := V_main_arg1 m c
theorem V₂_arg0 (c : Dev nD) : V₂ m c main_arg0 = V₁ m c main_arg0 := Function.update_of_ne (by decide) ..
theorem V₂_arg1 (c : Dev nD) : V₂ m c main_arg1 = V₁ m c main_arg1 := Function.update_of_ne (by decide) ..
theorem V₂_v1 (c : Dev nD) : V₂ m c main_v1 = V₁ m c main_v1 := Function.update_of_ne (by decide) ..
theorem V₂_v2 (c : Dev nD) : V₂ m c main_v2 = outV (parts m) := Function.update_self ..

/-! ## What comes from launch -/

/-- Every cell's invariant. -/
def Invs (P : Dev nD → FVec F S4096x8192 .f32) (K : GSem nD τ sig → ℕ) : sProp 𝕄 :=
  bigSep (Finset.univ : Finset (Dev nD × SemLoc sig)) fun x => cellInv ER (ringRd P) (K ((x.1 : Thread nD τ), x.2)) ((x.1 : Thread nD τ), x.2)

instance Invs_persistent (P : Dev nD → FVec F S4096x8192 .f32) (K : GSem nD τ sig → ℕ) : BI.Persistent (Invs P K) := by unfold Invs; infer_instance

/-- A pipe's tokens and credit. -/
def PipeT (c : Dev nD) (pi : Fin 8) : sProp 𝕄 := iprop(bigSep (Finset.Ico 0 16) (fun r => Tok (cLd c pi) r) ∗ Start c pi)

def Tk (c : Dev nD) : sProp 𝕄 :=
  iprop(∃ K, Invs (parts m) K ∗ Shake c ∗ (bigSep Finset.univ fun pi => Sev (fun g => openTok ER g) c pi) ∗ bigSep Finset.univ fun pi => PipeT c pi)
def Xk (c : Dev nD) : sProp 𝕄 := iprop(∃ K, Ctx (parts m) K ∗ Shake c ∗ bigSep Finset.univ fun pi => PipeG c pi)
def Yk (c : Dev nD) : sProp 𝕄 := semVal (cBr c) 0

theorem pipesG (c : Dev nD) :
    iprop((bigSep Finset.univ fun pi => Sev (fun g => At g 0) c pi) ∗ bigSep Finset.univ fun pi => PipeT c pi)
      ⊢ bigSep Finset.univ fun pi => (PipeG c pi : sProp 𝕄) :=
  zip _ _

theorem hopen (c : Dev nD) : iprop(Tk m c ∗ Pipeline.ownSems0 osem c ∗ levAts L lv) ⊢ (|={Set.univ}=> Xk m c : sProp 𝕄) := by
  rw [ownSems_eq]
  unfold Tk Xk
  iintro ⟨⟨%K, #HI, HS, Ho, Ht⟩, Hv, #Hlev⟩
  ihave #HC := (show iprop(Invs (parts m) K ∗ levAts L lv) ⊢ Ctx (parts m) K from BI.Entails.refl _) $$ [HI Hlev]
  · isplitr; · iexact HI
    iexact Hlev
  imod (open_all (parts m) K c) $$ [Ho Hv] with HA
  · isplitr; · iexact HC
    isplitl [Ho] <;> iassumption
  imodintro
  iexists K
  isplitr; · iexact HC
  isplitl [HS]; · iexact HS
  iapply (pipesG c)
  isplitl [HA] <;> iassumption

/-! ## The proof data -/

/-- The arguments, which ride through. -/
def Args (c : Dev nD) : sProp 𝕄 := iprop(pt c main_arg0 (V₁ m c main_arg0) ∗ pt c main_arg1 (V₁ m c main_arg1))

def In (c : Dev nD) : sProp 𝕄 := iprop((∃ K, Ctx (parts m) K ∗ Enter (parts m) c) ∗ Args m c ∗ ∃ r, prngReg c r)
def Out (c : Dev nD) : sProp 𝕄 := iprop(Left (parts m) c ∗ Args m c ∗ ∃ r, prngReg c r)

def dat (c : Dev nD) : Pipeline.Dat τ (Elt F) ℕ ℕ UU ℕ cfg0 c where
  A w := w.elim0
  after w := w.elim0
  Φ t := if t.val = 0 then In m c else Out m c
  q w := w.elim0
  owed t := if t.val = 0 then due c else 0

abbrev adm : (p : Fin 1) → (pcfgs (F := F) p).Adm := fun p => (cfgs p).toPCfg_adm
def pdats : (p : Fin 1) → (c : Dev nD) → Pipeline.Dat τ (Elt F) ℕ ℕ UU ℕ (Pipeline.pin (pcfgs (F := F)) adm p) c
  | 0 => dat m

theorem bigSep_W {M : Type} [URA M] (Φ : Fin 0 → sProp M) : bigSep Finset.univ Φ = (BI.emp : sProp M) :=
  bigSep_univ_eq_bigSepL [] (by decide) (by decide) Φ

theorem owed_zero (c : Dev nD) : (pdats (F := F) m 0 c).owed 0 = due c := by
  show (if ((0 : Fin (cfg0.N + 1)).val = 0) then due c else 0) = due c; exact if_pos rfl
theorem owed_first (c : Dev nD) : (dat (F := F) m c).owed t0_0.castSucc = due c := by
  show (if (t0_0.castSucc : Fin (cfg0.N + 1)).val = 0 then due c else 0) = due c; exact if_pos rfl
theorem owed_last (c : Dev nD) : (pdats (F := F) m 0 c).owed (Fin.last _) = 0 := by
  show (if (Fin.last cfg0.N).val = 0 then due c else 0) = 0
  rw [Fin.val_last, if_neg (by rw [show cfg0.N = 1 from N_0]; decide)]

theorem owesAt_intro {cfg : Pipeline.Cfg sig Λ₀} {c : Dev nD} (dat : Dat τ (Elt F) ℕ ℕ UU ℕ cfg c) (t : Fin (cfg.N + 1))
    (O : CellTallies nD τ sig ℕ) (h0 : dat.owed t = O) (hr : dat.recorded t = Set.univ) :
    (Ow c O : sProp 𝕄) ⊢ (dat.owesAt 0 t : sProp 𝕄) := by
  unfold Ow Dat.owesAt Pipeline.owesWithin Dat.bound; rw [h0, hr]
  iintro ⟨%W, HO⟩; iexists W; isplitr; · ipureintro; exact fun _ _ => Or.inl trivial
  iexact HO
theorem owesAt_elim {cfg : Pipeline.Cfg sig Λ₀} {c : Dev nD} (dat : Dat τ (Elt F) ℕ ℕ UU ℕ cfg c) (t : Fin (cfg.N + 1))
    (O : CellTallies nD τ sig ℕ) (h0 : dat.owed t = O) :
    (dat.owesAt 0 t : sProp 𝕄) ⊢ Ow c O := by
  unfold Ow Dat.owesAt Pipeline.owesWithin; rw [h0]
  iintro ⟨%W, -, HO⟩; iexists W; iexact HO

theorem body (c : Dev nD) : BodyObligation (dat (F := F) m c) defs₀ 𝒱₀ 0 Set.univ := fun t => by
  obtain rfl := fin_N0 t
  rw [bigSep_W, bigSep_W]
  rw [show (dat m c).Φ t0_0.castSucc = In m c from rfl, show (dat m c).Φ t0_0.succ = Out m c from rfl]
  unfold In Out
  iintro ⟨⟨⟨%K, #HC, HE⟩, HA, Hp⟩, HO, -⟩
  ihave HO := (owesAt_elim (dat m c) _ (due c) (owed_first m c)) $$ HO
  iapply (whole_run (parts m) K c) $$ [HO HE]
  · isplitr; · iexact HC
    isplitl [HO] <;> iassumption
  iintro ⟨HO, HL⟩
  isplitr [HO]
  · isplitl [HL]; · iexact HL
    isplitl [HA] <;> iassumption
  isplitl [HO]; · iapply (owesAt_intro (dat m c) t0_0.succ 0 (owed_last m c) rfl); iexact HO
  iempintro

theorem hin (c : Dev nD) : iprop(Pipeline.scopedRest (Pipeline.pin (pcfgs (F := F)) adm 0).spec c ∗ (∃ r, prngReg c r) ∗ StableHlo.held (c.tc : Thread nD τ) bufs (V₁ m c) ∗ Xk m c)
    ⊢ (pdats m 0 c).Φ 0 := by
  rw [show (pdats m 0 c).Φ 0 = In m c from rfl, bufs_eq, show (Pipeline.scopedRest (Pipeline.pin (pcfgs (F := F)) adm 0).spec c : sProp 𝕄) = _ from scoped_eq c]
  unfold In Xk Args
  iintro ⟨⟨Hc, Hl⟩, Hp, ⟨H0, H1, H2, H3⟩, ⟨%K, #HC, HS, HG⟩⟩
  isplitr [Hp H0 H1]
  · iexists K
    isplitr; · iexact HC
    iapply (enter_intro (parts m) c)
    isplitl [HS]; · iexact HS
    isplitl [HG]; · iexact HG
    isplitl [Hc]; · iexact Hc
    isplitl [Hl]; · iexact Hl
    isplitl [H2]
    · iapply (p_split c (parts m c)); iexact H2
    iapply (o_split (parts m) c _); iexact H3
  isplitr [Hp]
  · isplitl [H0] <;> iassumption
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) bufs (V₂ m c) ∗ Pipeline.ownSems0 osem c ∗ Yk c) := by
  rw [show (pdats m 0 c).Φ (Fin.last _) = Out m c from rfl, bufs_eq, V₂_arg0, V₂_arg1, V₂_v1, V₂_v2, ownSems_eq,
    show (Pipeline.scopedRest (Pipeline.pin (pcfgs (F := F)) adm 0).spec c : sProp 𝕄) = _ from scoped_eq c]
  unfold Out Left Yk Args
  iintro ⟨⟨Hb, Hs, Hc, Hl, Hp, Ho⟩, ⟨H0, H1⟩, Hr⟩
  isplitl [Hc Hl]; · isplitl [Hc] <;> iassumption
  isplitl [Hr]; · iexact Hr
  isplitl [H0 H1 Hp Ho]
  · isplitl [H0]; · iexact H0
    isplitl [H1]; · iexact H1
    isplitl [Hp]
    · iapply (p_join c (parts m c)); iexact Hp
    iapply (o_join c (outV (parts m))); iexact Ho
  isplitl [Hs]; · iexact Hs
  iexact Hb

theorem due_above (c : Dev nD) : Above 0 (due c) :=
  (((owe0_above c 0).mono (Nat.zero_le 1)).add (Above.tally _ _ _ _ (by decide) (by rw [kind_br]; exact Nat.one_pos))).add
    (Above.tally _ _ _ _ (by decide) (by rw [kind_br]; exact Nat.one_pos))

theorem cutD (c : Dev nD) (t : Fin ((Pipeline.pin (pcfgs (F := F)) adm 0).N + 1)) (g : GSem nD τ sig) (i : ℕ) (h : 0 < (pdats (F := F) m 0 c).owed t g i) :
    i ∈ L g ∧ (0 : ℕ) < lv g i := by
  have e : (pdats (F := F) m 0 c).owed t = if t.val = 0 then due c else 0 := rfl
  rw [e] at h
  split at h
  · exact due_above c g i h
  · exact absurd h (Nat.lt_irrefl 0)

theorem kitP : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0

set_option backward.isDefEq.respectTransparency.types false in
def reg : Pipeline.RegionSeg (pcfgs (F := F)) adm (pdats m) 0 defs₀ 𝒱₀ L lv 0 :=
  Pipeline.RegionSeg.ofTalk (pcfgs (F := F)) adm (pdats m) 0 defs₀ 𝒱₀ L lv 0 osem (by decide : Pipeline.OwnSemFacts cfg0.spec osem)
    bufs bufs (Finset.Subset.refl _) kitP rfl (fun c => (body m c).loose)
    (fun _ => 0) due (fun c => (owed_zero m c).trans (zero_add _).symm) (owed_last m) (fun _ => rfl) (fun _ w => w.elim0)
    (V₁ m) (V₂ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun _ w => w.elim0, fun _ w => w.elim0, fun c t g i h => cutD m c t g i h⟩
    (fun _ => iprop(emp))
    (fun _ w => w.elim0) (fun _ w => w.elim0)

/-! ## The region's ends -/

/-- What rides beside the buffers up to the region. -/
def R (c : Dev nD) : sProp 𝕄 := iprop(Tk m c ∗ (∃ r, prngReg c r) ∗ Ow c (due c))

theorem held_arr (c : Dev nD) (W : Valuation τ sig (Elt F)) :
    (StableHlo.held (c.tc : Thread nD τ) (Pipeline.arrRefs (τ := τ) (pcfgs (F := F) 0).spec) W : sProp 𝕄) = BI.emp := by
  have : Pipeline.arrRefs (τ := τ) (pcfgs (F := F) 0).spec = ∅ := by
    unfold Pipeline.arrRefs
    rw [Finset.map_eq_empty, Finset.image_eq_empty, Finset.univ_eq_empty]
  rw [this]
  unfold StableHlo.held
  exact BI.bigSep_empty

theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) bufs (V₁ m c) ∗ emp) ∗ Tk m c ∗ ∃ Wd, owes (c : Thread nD τ) (0 + due c) Wd)
  rw [held_arr, zero_add]
  unfold R Ow
  iintro ⟨Hh, HT, Hp, HO⟩
  isplitr; · iempintro
  isplitl [Hp]; · iexact Hp
  isplitl [Hh]
  · isplitl [Hh]; · iexact Hh
    iempintro
  isplitl [HT] <;> iassumption

theorem reg_post (c : Dev nD) : (reg m).post c
    ⊢ iprop(StableHlo.held (c : Thread nD τ) bufs (V₂ m c) ∗ (semVal (cBr c) 0 ∗ ∃ W, owes (c : Thread nD τ) (0 : CellTallies nD τ sig ℕ) W)) := by
  show iprop(StableHlo.held (c.tc : Thread nD τ) (Pipeline.arrRefs (τ := τ) (pcfgs (F := F) 0).spec) (V₂ m c) ∗ (∃ r, prngReg c r)
    ∗ (StableHlo.held (c.tc : Thread nD τ) bufs (V₂ m c) ∗ emp) ∗ Yk c ∗ ∃ Wd, owes (c : Thread nD τ) (0 : CellTallies nD τ sig ℕ) Wd) ⊢ _
  rw [held_arr]
  unfold Yk
  iintro ⟨-, -, ⟨Hh, -⟩, Hb, HO⟩
  isplitl [Hh]; · iexact Hh
  isplitl [Hb]; · iexact Hb
  iexact HO

end Cert.Ring
-- ==== Proof.Value.lean ====
/-
  The value over the extended reals: the devices' partial products add up to the whole product, and where every
  partial product is at most 15 in absolute value the kernel's silu is the reference's.
-/
module

public import proofs.«01_k».proof.Defs
public import proofs.«01_k».proof.Proof.Talk
public import proofs.«01_k».proof.Proof.Gen.Pre_small_KernelIdeal
public import proofs.«01_k».proof.Proof.Gen.ReferenceIdeal
public import Idealize.ShloMosaic.Lib.StackMember
public import Idealize.ShloMosaic.Lib.ReduceAll
public import Idealize.ShloMosaic.Lib.IdealHost
public import Idealize.ShloMosaic.Lib.Claim
public import Idealize.ShloMosaic.Lib.Pointwise.Sums

@[expose] public section

noncomputable section

namespace Cert.Ring

open Cert.KernelIdeal Cert.KernelIdeal.Gen
open Idealize.ShloMosaic Idealize.ShloMosaic.TcCoe
open Idealize.SL.Sem

/-! ## The constants -/

theorem fifteen : Ideal.ofBits .f32 0x41700000#32 = ((15 : ℝ) : EReal) := by
  simp [Ideal.ofBits, Ideal.ieee, -EReal.coe_mul]; norm_num

theorem sixty : Ideal.ofBits .f32 0x42700000#32 = ((60 : ℝ) : EReal) := by
  simp [Ideal.ofBits, Ideal.ieee, -EReal.coe_mul]; norm_num

theorem neg_sixty : Ideal.ofBits .f32 0xC2700000#32 = ((-60 : ℝ) : EReal) := by
  simp [Ideal.ofBits, Ideal.ieee, -EReal.coe_mul, -EReal.coe_neg]; norm_num

/-! ## Silu of a number between −60 and 60 -/

/-- A number at most 15 in absolute value is real. -/
theorem real_of_abs {x : EReal} (h : max x (-x) ≤ ((15 : ℝ) : EReal)) : ∃ r : ℝ, x = (r : EReal) ∧ |r| ≤ 15 := by
  induction x using EReal.rec with
  | bot => simp at h
  | top => simp at h
  | coe r =>
    refine ⟨r, rfl, ?_⟩
    rw [← EReal.coe_neg, max_le_iff, EReal.coe_le_coe_iff, EReal.coe_le_coe_iff] at h
    exact abs_le.2 ⟨by linarith [h.2], h.1⟩

/-- On such a number the clip does nothing, and the product with a reciprocal is the quotient. -/
theorem silu_eq {y : ℝ} (h : |y| ≤ 60) :
    (y : EReal) * Ideal.div 1 (1 + Ideal.exp (0 - (y : EReal)))
      = Ideal.div (y : EReal) (1 + Ideal.exp (-(min ((60 : ℝ) : EReal) (max ((-60 : ℝ) : EReal) (y : EReal))))) := by
  obtain ⟨h₁, h₂⟩ := abs_le.1 h
  rw [max_eq_right (EReal.coe_le_coe_iff.2 h₁), min_eq_right (EReal.coe_le_coe_iff.2 h₂), zero_sub]
  refine Ideal.mul_one_div ?_
  have e : (1 : EReal) + Ideal.exp (-(y : EReal)) = ((1 + Real.exp (-y) : ℝ) : EReal) := by
    rw [← EReal.coe_neg]; rfl
  rw [e]
  exact_mod_cast (by positivity : (1 + Real.exp (-y) : ℝ) ≠ 0)

/-! ## The sum over the ring -/

/-- Going round the ring from any device meets every device once. -/
theorem round_ring {M : Type} [AddCommMonoid M] (f : Dev nD → M) (pi : Fin 8) (q : Dev nD) :
    f q + f (tgt pi q) + f (tgt pi (tgt pi q)) + f (tgt pi (tgt pi (tgt pi q))) = ∑ c, f c := by
  have h : (Finset.univ : Finset (Dev nD)) = {q, tgt pi q, tgt pi (tgt pi q), tgt pi (tgt pi (tgt pi q))}
      ∧ q ∉ ({tgt pi q, tgt pi (tgt pi q), tgt pi (tgt pi (tgt pi q))} : Finset (Dev nD))
      ∧ tgt pi q ∉ ({tgt pi (tgt pi q), tgt pi (tgt pi (tgt pi q))} : Finset (Dev nD))
      ∧ tgt pi (tgt pi q) ≠ tgt pi (tgt pi (tgt pi q)) := by revert pi q; decide +kernel
  obtain ⟨e, h₁, h₂, h₃⟩ := h
  rw [e, Finset.sum_insert h₁, Finset.sum_insert h₂, Finset.sum_pair h₃]
  simp only [add_assoc]

theorem sumV_apply (P : Dev nD → FVec Ideal S4096x8192 .f32) (pi : Fin 8) (q : Dev nD) (i : S4096x8192.Idx) :
    sumV P pi q i = ∑ c, (P c i : EReal) := round_ring (fun c => (P c i : EReal)) pi q

/-! ## The whole product is the sum of the parts -/

variable (m : (ℓ : Loc nD τ sig) → Buf (Elt Ideal) ℓ)

theorem parts_eq (c : Dev nD) : parts m c = Host.dotGeneral (φ₁ := .f32) (φ₂ := .f32) dot_S4096x1024_S1024x8192_S4096x8192_1_0_0_1_n_n none
    (m ((c : Thread nD τ).loc main_arg0)) (m ((c : Thread nD τ).loc main_arg1)) := by
  show StableHlo.after hostOps0 (V₀ m c) main_v1 = _
  unfold_abbrev_sides
  after_results
  rfl

/-- One row of the whole left array times one column of the whole right one, device by device. -/
theorem whole_eq (X : FVec Ideal ⟨2, ![4096, 4096]⟩ .f32) (W : FVec Ideal ⟨2, ![4096, 8192]⟩ .f32) (i : S4096x8192.Idx)
    (hX : ∀ c : Dev nD, m ((c : Thread nD τ).loc main_arg0) = Layout.block ⟨2, ![4096, 1024]⟩ ⟨2, ![4096, 4096]⟩ 1 4 c X)
    (hW : ∀ c : Dev nD, m ((c : Thread nD τ).loc main_arg1) = Layout.block ⟨2, ![1024, 8192]⟩ ⟨2, ![4096, 8192]⟩ 0 4 c W) :
    (Host.dotGeneral (DotDims.plain 4096 4096 8192) none X W i : EReal) = ∑ c, (parts m c i : EReal) := by
  obtain ⟨a, b, rfl⟩ : ∃ (a : Fin 4096) (b : Fin 8192), i = ValueIdx.ix2 a b := ⟨_, _, ValueIdx.eq_ix2 i⟩
  rw [StackMember.dotGeneral_plain_apply, Fin.sum_univ_tiles 4 1024 rfl]
  refine Finset.sum_congr rfl fun c _ => ?_
  rw [parts_eq, hX, hW]
  refine Eq.trans ?_ (StackMember.dotGeneral_plain_apply (m := 4096) (k := 1024) (n := 8192) none _ _ a b).symm
  refine Finset.sum_congr rfl fun k _ => ?_
  refine congrArg₂ (· * ·) (congrArg X ?_) (congrArg W ?_) <;>
    (funext d; apply Fin.ext; match d with | ⟨0, _⟩ => rfl | ⟨1, _⟩ => rfl)

/-! ## The result -/

/-- What the precondition says of a device's partial product. -/
theorem parts_small (h : Cert.Pre_KernelIdeal_small_KernelIdeal m) (c : Dev nD) (i : S4096x8192.Idx) :
    ∃ r : ℝ, (parts m c i : EReal) = (r : EReal) ∧ |r| ≤ 15 := by
  apply real_of_abs
  have e := congrFun (h c) fun a => a.elim0
  have le := Host.reduce_andi_all _ _ _ _ _ e i
  rw [parts_eq, ← fifteen]
  exact of_decide_eq_true (BitVec.ofBool_eq_iff_eq.1 le)

/-- So the sum of the four partial products is a real number between −60 and 60. -/
theorem sum_small (h : Cert.Pre_KernelIdeal_small_KernelIdeal m) (i : S4096x8192.Idx) :
    ∃ r : ℝ, ∑ c, (parts m c i : EReal) = (r : EReal) ∧ |r| ≤ 60 := by
  choose r hr using fun c => parts_small m h c i
  refine ⟨∑ c, r c, ?_, ?_⟩
  · rw [Fin.sum_univ_four, Fin.sum_univ_four, (hr 0).1, (hr 1).1, (hr 2).1, (hr 3).1]; rfl
  · rw [Fin.sum_univ_four, abs_le]
    have h₀ := abs_le.1 (hr 0).2
    have h₁ := abs_le.1 (hr 1).2
    have h₂ := abs_le.1 (hr 2).2
    have h₃ := abs_le.1 (hr 3).2
    constructor <;> linarith [h₀.1, h₀.2, h₁.1, h₁.2, h₂.1, h₂.2, h₃.1, h₃.2]

/-- What the reference leaves in its result, as a function of the whole arrays. -/
def refV (X : FVec Ideal ⟨2, ![4096, 4096]⟩ .f32) (W : FVec Ideal ⟨2, ![4096, 8192]⟩ .f32) : FVec Ideal S4096x8192 .f32 :=
  let y := Host.dotGeneral Cert.ReferenceIdeal.dot_S4096x4096_S4096x8192_S4096x8192_1_0_0_1_n_n none X W
  let wide (b : BitVec 32) := broadcastInDim S4096x8192 ![] Cert.ReferenceIdeal.Gen.bcast_S_S4096x8192
    (constant (F := Ideal) Cert.ReferenceIdeal.S_ .f32 b)
  Host.divf y (addf (wide 0x3F800000#32) (Host.exp (Host.negf (minimumf (wide 0x42700000#32) (maximumf (wide 0xC2700000#32) y)))))

/-- The kernel's result is the reference's. -/
theorem outV_eq (h : Cert.Pre_KernelIdeal_small_KernelIdeal m)
    (X : FVec Ideal ⟨2, ![4096, 4096]⟩ .f32) (W : FVec Ideal ⟨2, ![4096, 8192]⟩ .f32)
    (hX : ∀ c : Dev nD, m ((c : Thread nD τ).loc main_arg0) = Layout.block ⟨2, ![4096, 1024]⟩ ⟨2, ![4096, 4096]⟩ 1 4 c X)
    (hW : ∀ c : Dev nD, m ((c : Thread nD τ).loc main_arg1) = Layout.block ⟨2, ![1024, 8192]⟩ ⟨2, ![4096, 8192]⟩ 0 4 c W) :
    outV (parts m) = refV X W := by
  funext i
  obtain ⟨r, hr, hr60⟩ := sum_small m h i
  have hk : sumV (parts m) (pipeOf (i 0).val) (chunkOf (i 0).val) i = (r : EReal) := (sumV_apply _ _ _ i).trans hr
  have hw : Host.dotGeneral (DotDims.plain 4096 4096 8192) none X W i = (r : EReal) := (whole_eq m X W i hX hW).trans hr
  have l : outV (parts m) i = (r : EReal) * Ideal.div (Ideal.ofBits .f32 0x3F800000#32)
      (Ideal.ofBits .f32 0x3F800000#32 + Ideal.exp (Ideal.ofBits .f32 0x00000000#32 - (r : EReal))) := by
    rw [← hk]; rfl
  have e : refV X W i = Ideal.div (r : EReal) (Ideal.ofBits .f32 0x3F800000#32
      + Ideal.exp (-(min (Ideal.ofBits .f32 0x42700000#32) (max (Ideal.ofBits .f32 0xC2700000#32) (r : EReal))))) := by
    rw [← hw]; rfl
  rw [l, e, Ideal.ofBits_one_f32, Ideal.ofBits_zero_f32, sixty, neg_sixty]
  exact silu_eq hr60

end Cert.Ring

end
-- ==== Proof.Credit.lean ====
/-
  The credit a device starts with: what all devices owe, counted at the cells where it is owed.
-/
module

public import proofs.«01_k».proof.Proof.Talk

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Counting -/

theorem pipeAt_add (n k : ℕ) : pipeAt (8 * n + k) = pipeAt k := by unfold pipeAt; apply Fin.ext; show _ = _; dsimp only; omega

/-- Eight steps in a row are one step of every pipe. -/
theorem sum_steps {M : Type} [AddCommMonoid M] (g : Fin 8 → ℕ → M) (n : ℕ) :
    ∑ i ∈ Finset.range (8 * n), g (pipeAt i) (i / 8) = ∑ pi, ∑ u ∈ Finset.range n, g pi u := by
  induction n with
  | zero => simp
  | succ n ih =>
    have hd (k : ℕ) (hk : k < 8) : (8 * n + k) / 8 = n := by omega
    simp only [Finset.sum_range_succ, Finset.sum_add_distrib]
    rw [← ih, show 8 * (n + 1) = 8 * n + 8 from by omega, Finset.sum_range_add]
    congr 1
    rw [Finset.sum_congr rfl fun k hk => by rw [pipeAt_add, hd k (Finset.mem_range.mp hk)], Finset.sum_range (n := 8)]
    exact Finset.sum_bijective (fun k : Fin 8 => pipeAt k.val) (by decide) (fun _ => by simp) fun _ _ => rfl

/-- One pipe's part of what a device owes. -/
def dueP (d : Dev nD) (pi : Fin 8) : CellTallies nD τ sig ℕ :=
  ∑ u ∈ Finset.range 24, tallyAt (cRcv (tgt pi d) pi (rOf u)) u N + ∑ u ∈ Finset.range 23, tallyAt (cCr (src pi d) pi) u 1
/-- One pipe's part of a device's credit. -/
def credP (c : Dev nD) (pi : Fin 8) : CellTallies nD τ sig ℕ :=
  ∑ u ∈ Finset.range 24, tallyAt (cRcv c pi (rOf u)) u N + ∑ u ∈ Finset.range 23, tallyAt (cCr c pi) u 1

theorem due_eq (d : Dev nD) : due d = (∑ pi, dueP d pi) + tallyAt (cBr (rightD d)) 0 1 + tallyAt (cBr (leftD d)) 0 1 := by
  unfold due owe0 owe
  congr 2
  have e₁ : ∑ i ∈ Finset.Ico 0 184, (payB d i + payA d i)
      = ∑ pi, ∑ u ∈ Finset.range 23, (tallyAt (cRcv (tgt pi d) pi (rOf (u + 1))) (u + 1) N + tallyAt (cCr (src pi d) pi) u 1) := by
    rw [← Finset.range_eq_Ico]
    exact sum_steps (fun pi u => (tallyAt (cRcv (tgt pi d) pi (rOf (u + 1))) (u + 1) N + tallyAt (cCr (src pi d) pi) u 1 : CellTallies nD τ sig ℕ)) 23
  have e₂ : ∑ i ∈ Finset.Ico 0 8, (tallyAt (cRcv (tgt (pp i) d) (pp i) (rOf 0)) 0 N : CellTallies nD τ sig ℕ)
      = ∑ pi, tallyAt (cRcv (tgt pi d) pi (rOf 0)) 0 N := by
    rw [← Finset.range_eq_Ico, Finset.sum_range (n := 8)]
    exact Finset.sum_congr rfl fun pi _ => by rw [pp_val]
  rw [e₁, e₂, ← Finset.sum_add_distrib]
  refine Finset.sum_congr rfl fun pi _ => ?_
  unfold dueP
  rw [Finset.sum_range_succ' _ 23, Finset.sum_add_distrib, add_right_comm]

def credT (c : Dev nD) : CellTallies nD τ sig ℕ := (∑ pi, credP c pi) + tallyAt (cBr c) 0 2

theorem sum_due : (∑ d, due d) = ∑ c, credT c := by
  have eB : (∑ d : Dev nD, tallyAt (cBr (rightD d)) 0 1) + ∑ d : Dev nD, tallyAt (cBr (leftD d)) 0 1 = (∑ c : Dev nD, tallyAt (cBr c) 0 2 : CellTallies nD τ sig ℕ) := by
    have h₁ : ∑ d : Dev nD, tallyAt (cBr (rightD d)) 0 1 = (∑ c : Dev nD, tallyAt (cBr c) 0 1 : CellTallies nD τ sig ℕ) :=
      Equiv.sum_comp (ringE 0) fun c => (tallyAt (cBr c) 0 1 : CellTallies nD τ sig ℕ)
    have h₂ : ∑ d : Dev nD, tallyAt (cBr (leftD d)) 0 1 = (∑ c : Dev nD, tallyAt (cBr c) 0 1 : CellTallies nD τ sig ℕ) :=
      Equiv.sum_comp (ringE 7) fun c => (tallyAt (cBr c) 0 1 : CellTallies nD τ sig ℕ)
    rw [h₁, h₂, ← Finset.sum_add_distrib]
    exact Finset.sum_congr rfl fun c _ => tallyAt_add _ _ _ _
  have eP (pi : Fin 8) : ∑ d, dueP d pi = ∑ c, credP c pi := by
    unfold dueP credP
    rw [Finset.sum_add_distrib, Finset.sum_add_distrib]
    congr 1
    · exact Equiv.sum_comp (ringE pi) fun c => (∑ u ∈ Finset.range 24, tallyAt (cRcv c pi (rOf u)) u N : CellTallies nD τ sig ℕ)
    · exact Equiv.sum_comp (ringE pi).symm fun c => (∑ u ∈ Finset.range 23, tallyAt (cCr c pi) u 1 : CellTallies nD τ sig ℕ)
  unfold credT
  simp only [due_eq]
  rw [Finset.sum_add_distrib, Finset.sum_add_distrib, Finset.sum_add_distrib, add_assoc, eB, Finset.sum_comm, Finset.sum_congr rfl fun pi _ => eP pi, Finset.sum_comm]

/-! ## Whose cells -/

/-- Every count at one device's cells. -/
def On (c : Dev nD) (O : CellTallies nD τ sig ℕ) : Prop := ∀ g, O g ≠ 0 → g.1 = (c.tc : Thread nD τ)

theorem On.add {c : Dev nD} {O O' : CellTallies nD τ sig ℕ} (h : On c O) (h' : On c O') : On c (O + O') := fun g hg => by
  by_cases h0 : O g = 0
  · exact h' g fun h1 => hg (by rw [Pi.add_apply, h0, h1, add_zero])
  · exact h g h0
theorem On.tally (c : Dev nD) (sm : SemLoc sig) (i k : ℕ) : On c (tallyAt ((c : Thread nD τ), sm) i k) := fun g hg => by
  by_contra h
  exact hg (tallyAt_ne_cell (fun e => h (by rw [e])) _ _)
theorem On.sum {c : Dev nD} {ι : Type} [DecidableEq ι] {s : Finset ι} {f : ι → CellTallies nD τ sig ℕ} (h : ∀ i ∈ s, On c (f i)) : On c (∑ i ∈ s, f i) := by
  induction s using Finset.induction_on with
  | empty => exact fun g hg => absurd rfl hg
  | insert i s hi ih =>
    rw [Finset.sum_insert hi]
    exact (h i (Finset.mem_insert_self i s)).add (ih fun j hj => h j (Finset.mem_insert_of_mem hj))

theorem credT_on (c : Dev nD) : On c (credT c) :=
  (On.sum fun pi _ => (On.sum fun u _ => On.tally c _ _ _).add (On.sum fun u _ => On.tally c _ _ _)).add (On.tally c _ _ _)

/-! ## The credit split -/

theorem cred_sum {ι : Type} [DecidableEq ι] (s : Finset ι) (f : ι → CellTallies nD τ sig ℕ) :
    (cred (∑ i ∈ s, f i) : sProp 𝕄) ⊢ bigSep s fun i => cred (f i) := by
  induction s using Finset.induction_on with
  | empty =>
    rw [Finset.sum_empty, cred_zero, BI.bigSep_empty]
    exact BI.Entails.refl _
  | insert i s hi ih =>
    rw [Finset.sum_insert hi, bigSep_insert hi]
    exact (cred_add _ _).1.trans (sep_mono_right ih)

/-- A pipe's credit. -/
def PipeC (c : Dev nD) (pi : Fin 8) : sProp 𝕄 :=
  iprop(bigSep (Finset.Ico 0 24) (fun v => cred (tallyAt (cRcv c pi (rOf v)) v N)) ∗ bigSep (Finset.Ico 0 23) (fun v => cred (tallyAt (cCr c pi) v 1)))

theorem cred_pipe (c : Dev nD) (pi : Fin 8) : (cred (credP c pi) : sProp 𝕄) ⊢ PipeC c pi := by
  unfold credP PipeC
  rw [Finset.range_eq_Ico, Finset.range_eq_Ico]
  exact (cred_add _ _).1.trans (BIClass.sep_mono (cred_sum _ _) (cred_sum _ _))

theorem creds (c : Dev nD) :
    (Pipeline.launchCred due c : sProp 𝕄) ⊢ iprop((bigSep Finset.univ fun pi => PipeC c pi) ∗ cred (tallyAt (cBr c) 0 2)) := by
  rw [Pipeline.launchCred_of_sum due credT sum_due (fun d g => credT_on d g) c]
  unfold credT
  refine (cred_add _ _).1.trans (sep_mono_left ((cred_sum _ _).trans (bigSep_mono fun pi _ => cred_pipe c pi)))

end Cert.Ring
-- ==== Proof.Deal.lean ====
/-
  The tokens made at launch, and how they are dealt: a device holds the tokens of what it will itself do.
-/
module

public import proofs.«01_k».proof.Proof.Talk

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The cells -/

theorem osem_inj : Function.Injective osem := by decide
theorem osem_ne_bar : ∀ k, osem k ≠ .reg bar := by decide
theorem all_sems : ∀ sm : SemLoc sig, sm = .reg bar ∨ ∃ k, sm = osem k := by decide

def barEmb : Dev nD ↪ GSem nD τ sig := ⟨fun c => cBr c, fun _ _ h => congrArg (fun g : GSem nD τ sig => g.1.1) h⟩
def scEmb : Dev nD × (Fin 8 × Fin 7) ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells, and the scoped ones. -/
abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : cBr c ∈ (barCells : Finset (GSem nD τ sig)) := Finset.mem_map_of_mem barEmb (Finset.mem_univ c)

theorem cell_mem (c : Dev nD) (sm : SemLoc sig) : ((c : Thread nD τ), sm) ∈ (barCells ∪ scCells : Finset (GSem nD τ sig)) := by
  rcases all_sems sm with rfl | ⟨k, rfl⟩
  · exact Finset.mem_union_left _ (bar_mem c)
  · exact Finset.mem_union_right _ (Finset.mem_map_of_mem scEmb (Finset.mem_univ (c, k)))

/-! ## The tokens -/

/-- The cell and the round of a pipe's five kinds of token. -/
def tcell (k : Fin 5) (v : ℕ) : Fin 7 × ℕ :=
  match k with
  | 0 => (⟨v % 2, by omega⟩, v / 2) | 1 => (⟨2 + (v + 1) % 2, by omega⟩, v / 2) | 2 => (6, v) | 3 => (5, v) | 4 => (4, v)

theorem tcell_inj : Function.Injective (fun x : Fin 5 × Fin 24 => tcell x.1 x.2.val) := by
  rintro ⟨k, v⟩ ⟨k', v'⟩ h
  fin_cases k <;> fin_cases k' <;> simp [tcell, Fin.ext_iff] at h ⊢ <;> omega

def ringTok : Dev nD × (Fin 8 × (Fin 5 × Fin 24)) ↪ GSem nD τ sig × ℕ × Bool :=
  ⟨fun x => (((x.1 : Thread nD τ), osem (x.2.1, (tcell x.2.2.1 x.2.2.2.val).1)), (tcell x.2.2.1 x.2.2.2.val).2, false), by
    rintro ⟨c, pi, y⟩ ⟨c', pi', y'⟩ h
    have h₁ := congrArg (fun t : GSem nD τ sig × ℕ × Bool => t.1.1.1) h
    have h₂ := osem_inj (congrArg (fun t : GSem nD τ sig × ℕ × Bool => t.1.2) h)
    have h₃ := congrArg (fun t : GSem nD τ sig × ℕ × Bool => t.2.1) h
    have h₄ := tcell_inj (Prod.ext (congrArg Prod.snd h₂) h₃)
    have h₅ := congrArg Prod.fst h₂
    dsimp only at h₁ h₄ h₅
    rw [h₁, h₄, h₅]⟩
def barTok : Dev nD × Bool ↪ GSem nD τ sig × ℕ × Bool :=
  ⟨fun x => (cBr x.1, 0, x.2), fun _ _ h =>
    Prod.ext (congrArg (fun t : GSem nD τ sig × ℕ × Bool => t.1.1.1) h) (congrArg (fun t : GSem nD τ sig × ℕ × Bool => t.2.2) h)⟩

abbrev ringToks : Finset (GSem nD τ sig × ℕ × Bool) := Finset.univ.map ringTok
abbrev barToks : Finset (GSem nD τ sig × ℕ × Bool) := Finset.univ.map barTok

theorem disjoint_toks : Disjoint ringToks barToks := by
  rw [Finset.disjoint_left]
  rintro g h₁ h₂
  obtain ⟨x, -, rfl⟩ := Finset.mem_map.mp h₁
  obtain ⟨y, -, h⟩ := Finset.mem_map.mp h₂
  exact osem_ne_bar _ (congrArg (fun t : GSem nD τ sig × ℕ × Bool => t.1.2) h).symm

theorem bigSep_five (Φ : Fin 5 → sProp 𝕄) : bigSep Finset.univ Φ = iprop(Φ 0 ∗ Φ 1 ∗ Φ 2 ∗ Φ 3 ∗ Φ 4) := by
  rw [bigSep_eq_bigSepL_of_eq [0, 1, 2, 3, 4] (by decide) (by decide)]
  rfl
theorem bigSep_two (Φ : Bool → sProp 𝕄) : bigSep Finset.univ Φ = iprop(Φ false ∗ Φ true) := by
  rw [bigSep_eq_bigSepL_of_eq [false, true] (by decide) (by decide)]
  rfl

theorem bigSep_upto (n : ℕ) (hn : n ≤ 24) (Φ : ℕ → sProp 𝕄) : (bigSep (Finset.univ : Finset (Fin 24)) fun v => Φ v.val) ⊢ bigSep (Finset.Ico 0 n) Φ := by
  have e : (bigSep (Finset.univ : Finset (Fin 24)) fun v => Φ v.val) = bigSep (Finset.univ.map Fin.valEmbedding) Φ := (bigSep_map Fin.valEmbedding).symm
  rw [e]
  refine bigSep_subset fun i hi => ?_
  have := (Finset.mem_Ico.mp hi).2
  exact Finset.mem_map.mpr ⟨⟨i, by omega⟩, Finset.mem_univ _, rfl⟩

/-- A pipe's tokens by the cell's device. -/
def Own (c : Dev nD) (pi : Fin 8) : sProp 𝕄 :=
  iprop(bigSep (Finset.Ico 0 24) (fun v => Tok (cSnd c pi (sOf v)) (v / 2)) ∗ bigSep (Finset.Ico 0 24) (fun v => Tok (cRcv c pi (rOf v)) (v / 2))
    ∗ bigSep (Finset.Ico 0 23) (fun v => Tok (cCr c pi) v) ∗ bigSep (Finset.Ico 0 16) (fun r => Tok (cSt c pi) r) ∗ bigSep (Finset.Ico 0 16) (fun r => Tok (cLd c pi) r))

/-- The same by the device that spends them. -/
def Spend (c : Dev nD) (pi : Fin 8) : sProp 𝕄 :=
  iprop(bigSep (Finset.Ico 0 24) (fun v => Tok (cSnd c pi (sOf v)) (v / 2)) ∗ bigSep (Finset.Ico 0 24) (fun v => Tok (cRcv (tgt pi c) pi (rOf v)) (v / 2))
    ∗ bigSep (Finset.Ico 0 23) (fun v => Tok (cCr (src pi c) pi) v) ∗ bigSep (Finset.Ico 0 16) (fun r => Tok (cSt c pi) r) ∗ bigSep (Finset.Ico 0 16) (fun r => Tok (cLd c pi) r))

theorem ring_own : (bigSep ringToks fun x => (dutyTok ER x.1 x.2.1 x.2.2 : sProp 𝕄)) ⊢ bigSep Finset.univ fun c => bigSep Finset.univ fun pi => Own c pi := by
  unfold ringToks
  rw [bigSep_map, bigSep_univ_prod]
  refine bigSep_mono fun c _ => ?_
  rw [bigSep_univ_prod]
  refine bigSep_mono fun pi _ => ?_
  rw [bigSep_univ_prod, bigSep_five]
  refine sep_mono ?_ (sep_mono ?_ (sep_mono ?_ (sep_mono ?_ ?_)))
  · refine BIBase.Entails.trans (Entails.of_eq (bigSep_congr fun v _ => ?_)) (bigSep_upto 24 (by decide) fun v => Tok (cSnd c pi (sOf v)) (v / 2))
    rcases Nat.mod_two_eq_zero_or_one v.val with h | h <;> simp [ringTok, tcell, osem, h]
    · exact congrArg (fun s => (dutyTok ER (cSnd c pi s) (v.val / 2) false : sProp 𝕄)) (Fin.ext h.symm : (0 : Fin 2) = sOf v.val)
    · exact congrArg (fun s => (dutyTok ER (cSnd c pi s) (v.val / 2) false : sProp 𝕄)) (Fin.ext h.symm : (1 : Fin 2) = sOf v.val)
  · refine BIBase.Entails.trans (Entails.of_eq (bigSep_congr fun v _ => ?_)) (bigSep_upto 24 (by decide) fun v => Tok (cRcv c pi (rOf v)) (v / 2))
    rcases Nat.mod_two_eq_zero_or_one (v.val + 1) with h | h <;> simp [ringTok, tcell, osem, h]
    · exact congrArg (fun s => (dutyTok ER (cRcv c pi s) (v.val / 2) false : sProp 𝕄)) (Fin.ext h.symm : (0 : Fin 2) = rOf v.val)
    · exact congrArg (fun s => (dutyTok ER (cRcv c pi s) (v.val / 2) false : sProp 𝕄)) (Fin.ext h.symm : (1 : Fin 2) = rOf v.val)
  · exact bigSep_upto 23 (by decide) fun v => Tok (cCr c pi) v
  · exact bigSep_upto 16 (by decide) fun v => Tok (cSt c pi) v
  · exact bigSep_upto 16 (by decide) fun v => Tok (cLd c pi) v

theorem bigSep_swap (Φ : Dev nD → Fin 8 → sProp 𝕄) :
    (bigSep Finset.univ fun c => bigSep Finset.univ fun pi => Φ c pi) = bigSep Finset.univ fun pi => bigSep Finset.univ fun c => Φ c pi := by
  rw [← bigSep_univ_prod (fun x : Dev nD × Fin 8 => Φ x.1 x.2), ← bigSep_univ_prod (fun x : Fin 8 × Dev nD => Φ x.2 x.1)]
  exact bigSep_univ_equiv (Equiv.prodComm (Fin 8) (Dev nD)) _

/-- Each pipe's assertions handed round its own ring. -/
theorem around (f : Fin 8 → Dev nD ≃ Dev nD) (Φ : Dev nD → Fin 8 → sProp 𝕄) :
    (bigSep Finset.univ fun c => bigSep Finset.univ fun pi => Φ c pi) = bigSep Finset.univ fun c => bigSep Finset.univ fun pi => Φ (f pi c) pi := by
  rw [bigSep_swap, bigSep_swap fun c pi => Φ (f pi c) pi]
  exact bigSep_congr fun pi _ => bigSep_univ_equiv (f pi) _

theorem ring_spend : (bigSep Finset.univ fun c => bigSep Finset.univ fun pi => (Own c pi : sProp 𝕄)) = bigSep Finset.univ fun c => bigSep Finset.univ fun pi => Spend c pi := by
  unfold Own Spend
  simp only [bigSep_sep']
  rw [around ringE fun c pi => (bigSep (Finset.Ico 0 24) fun v => (Tok (cRcv c pi (rOf v)) (v / 2) : sProp 𝕄)),
    around (fun pi => (ringE pi).symm) fun c pi => (bigSep (Finset.Ico 0 23) fun v => (Tok (cCr c pi) v : sProp 𝕄))]
  rfl

theorem bar_deal : (bigSep barToks fun x => (dutyTok ER x.1 x.2.1 x.2.2 : sProp 𝕄))
    = bigSep Finset.univ fun c : Dev nD => iprop(dutyTok ER (cBr (leftD c)) 0 false ∗ dutyTok ER (cBr (rightD c)) 0 true) := by
  unfold barToks
  rw [bigSep_map, bigSep_univ_prod]
  have e : (bigSep Finset.univ fun c : Dev nD => bigSep Finset.univ fun b : Bool => (dutyTok ER (barTok (c, b)).1 (barTok (c, b)).2.1 (barTok (c, b)).2.2 : sProp 𝕄))
      = bigSep Finset.univ fun c : Dev nD => iprop(dutyTok ER (cBr c) 0 false ∗ dutyTok ER (cBr c) 0 true) :=
    bigSep_congr fun c _ => by rw [bigSep_two]; rfl
  rw [e, bigSep_sep', bigSep_sep', bigSep_univ_equiv (ringE 7) (fun c : Dev nD => (dutyTok ER (cBr c) 0 false : sProp 𝕄)),
    bigSep_univ_equiv (ringE 0) (fun c : Dev nD => (dutyTok ER (cBr c) 0 true : sProp 𝕄))]
  rfl

/-- All the tokens, each with the device that spends it. -/
theorem deal : (bigSep (ringToks ∪ barToks) fun x => (dutyTok ER x.1 x.2.1 x.2.2 : sProp 𝕄))
    ⊢ iprop((bigSep Finset.univ fun c => bigSep Finset.univ fun pi => Spend c pi)
      ∗ bigSep Finset.univ fun c : Dev nD => iprop(dutyTok ER (cBr (leftD c)) 0 false ∗ dutyTok ER (cBr (rightD c)) 0 true)) := by
  rw [bigSep_union disjoint_toks, bar_deal, ← ring_spend]
  exact sep_mono_left ring_own

end Cert.Ring
-- ==== Proof.Main.lean ====
/-
  The launch, and the whole program's run on the four devices.
-/
module

public import proofs.«01_k».proof.Proof.Credit
public import proofs.«01_k».proof.Proof.Deal

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## The segments -/

theorem ops_sub : ∀ op ∈ (hostOps0 : List (HloOp τ sig (Elt F))), op.bufs ⊆ bufs := fun op h => by
  simp only [hostOps0, List.mem_singleton] at h; subst h
  show ({Proc.devRef .tc main_arg0, Proc.devRef .tc main_arg1, Proc.devRef .tc main_v1} : Finset (DevRef τ sig)) ⊆ bufs; decide

def seg : Pipeline.HostSeg (Name := ℕ) (U := UU) (pcfgs (F := F)) defs₀ 𝒱₀ L lv :=
  Pipeline.HostSeg.ofOps _ _ _ _ _ bufs hostOps0 ops_sub (List.forall_iff_forall_mem.mp hostOps0_fresh) (V₀ m) (R m)

def segs : List (Pipeline.Seg (pcfgs (F := F)) adm (pdats m) 0 defs₀ 𝒱₀ L lv) := [.host (seg m), .region (reg m)]

theorem main_eq (c : Dev nD) : main (F := F) c = Pipeline.Seg.run (segs m) :=
  main_segs adm (pdats m) 0 𝒱₀ L lv (seg m) (reg m) rfl c

/-! ## The launch -/

def u₀ : UU :=
  (initOf (Pipeline.cells (Pipeline.pin (pcfgs (F := F)) adm) cellOf_inj) (Pipeline.launchToks (Pipeline.pin (pcfgs (F := F)) adm) cellOf_inj),
    launchOf barCells scCells (ringToks ∪ barToks))

/-- The launch's element stays on one device until it is shared out. -/
def G (c : Dev nD) : sProp 𝕄 := if c = 0 then BI.own (ER (launchOf barCells scCells (ringToks ∪ barToks))) else iprop(emp)
theorem bigSep_G : bigSep Finset.univ (G (F := F)) = BI.own (ER (launchOf barCells scCells (ringToks ∪ barToks))) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What every device may consult. -/
def records (κ : GSem nD τ sig → ℕ) : sProp 𝕄 :=
  iprop((bigSep (barCells ∪ scCells) fun g => cellInv ER (ringRd (parts m)) (κ g) g) ∗ bigSep barCells fun g => reached ER g 0)

instance records_persistent (κ : GSem nD τ sig → ℕ) : BI.Persistent (records m κ) := by unfold records; infer_instance

theorem records_invs (κ : GSem nD τ sig → ℕ) : (records m κ : sProp 𝕄) ⊢ Invs (parts m) κ := by
  have h : (bigSep (barCells ∪ scCells) fun g => (cellInv ER (ringRd (parts m)) (κ g) g : sProp 𝕄)) ⊢ Invs (parts m) κ :=
    bigSep_intro_persistent fun x _ => bigSep_elim (cell_mem x.1 x.2)
  unfold records
  iintro ⟨HI, -⟩
  iapply h; iexact HI

theorem records_bar (κ : GSem nD τ sig → ℕ) (c : Dev nD) : (records m κ : sProp 𝕄) ⊢ reached ER (cBr c) 0 := by
  have h : (bigSep barCells fun g => (reached ER g 0 : sProp 𝕄)) ⊢ reached ER (cBr c) 0 := bigSep_elim (bar_mem c)
  unfold records
  iintro ⟨-, HR⟩
  iapply h; iexact HR

/-- What stays with one device: its place at the barrier, its rights to open, its tokens. -/
def linear (c : Dev nD) : sProp 𝕄 :=
  iprop(atPos ER (cBr c) 0 ∅ 0 ∗ (bigSep Finset.univ fun pi => Sev (fun g => openTok ER g) c pi)
    ∗ (bigSep Finset.univ fun pi => Spend c pi) ∗ (dutyTok ER (cBr (leftD c)) 0 false ∗ dutyTok ER (cBr (rightD c)) 0 true))

/-- What of a device's launch holdings is no token of the protocol. -/
def bundle (c : Dev nD) : sProp 𝕄 :=
  iprop(StableHlo.held (c : Thread nD τ) bufs (V₀ m c) ∗ ((bigSep Finset.univ fun pi => PipeC c pi) ∗ cred (tallyAt (cBr c) 0 2))
    ∗ owes (c : Thread nD τ) (due c) ∅ ∗ ∃ r, prngReg c r)

theorem pipe_tokens (c : Dev nD) (pi : Fin 8) : iprop(Spend c pi ∗ PipeC c pi) ⊢ (PipeT c pi : sProp 𝕄) := by
  have h : iprop(bigSep (Finset.Ico 0 24) (fun v => Tok (cSnd c pi (sOf v)) (v / 2)) ∗ bigSep (Finset.Ico 0 24) (fun v => Tok (cRcv (tgt pi c) pi (rOf v)) (v / 2)))
      ⊢ bigSep (Finset.Ico 0 24) fun v => (sendTok c pi v : sProp 𝕄) := Entails.of_eq (bigSep_sep' _ _ _).symm
  unfold Spend PipeC PipeT Start
  iintro ⟨⟨H1, H2, H3, H4, H5⟩, H6, H7⟩
  isplitl [H5]; · iexact H5
  isplitl [H1 H2]
  · iapply h
    isplitl [H1] <;> iassumption
  iframe

theorem pipes_tokens (c : Dev nD) : iprop((bigSep Finset.univ fun pi => Spend c pi) ∗ bigSep Finset.univ fun pi => PipeC c pi)
    ⊢ bigSep Finset.univ fun pi => (PipeT c pi : sProp 𝕄) :=
  (zip _ _).trans (bigSep_mono fun pi _ => pipe_tokens c pi)

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (cBr c) 0)

theorem T₀_intro (κ : GSem nD τ sig → ℕ) (c : Dev nD) : iprop(records m κ ∗ (linear c ∗ bundle m c)) ⊢ T₀ m c := by
  unfold linear bundle T₀ R Tk Shake Ow
  iintro ⟨#HR, ⟨Ha, Hop, Hsp, ⟨Hb1, Hb2⟩⟩, Hh, ⟨Hcr, Hcb⟩, HO, Hp⟩
  isplitl [Hh]; · iexact Hh
  isplitr [HO Hp]
  · iexists κ
    isplitr; · iapply (records_invs m κ); iexact HR
    isplitl [Ha Hb1 Hb2 Hcb]
    · isplitr; · iapply (records_bar m κ); iexact HR
      isplitr; · iapply (records_bar m κ); iexact HR
      isplitl [Hb1]; · iexact Hb1
      isplitl [Hb2]; · iexact Hb2
      isplitl [Hcb] <;> iassumption
    isplitl [Hop]; · iexact Hop
    iapply (pipes_tokens c)
    isplitl [Hsp] <;> iassumption
  isplitl [Hp]; · iexact Hp
  iexists ∅; iexact HO

theorem init :
    iprop((bigSep Finset.univ fun c : Dev nD => iprop(unscopedBufs c (fun b => m ((c : Thread nD τ).loc b)) ∗ unscopedSems0 c
          ∗ owes (c : Thread nD τ) (due c) ∅ ∗ Pipeline.launchCred due c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (due c) ∅ ∗ Pipeline.launchCred due c ∗ prngReg c (ρ c) ∗ G c)
      ⊢ (iprop(bundle m c ∗ (semVal (cBr c) 0 ∗ G c)) : sProp 𝕄) := by
    rw [show unscopedBufs c (fun b => m ((c : Thread nD τ).loc b)) = StableHlo.held (c : Thread nD τ) bufs (V₀ m c) from unscopedBufs_held c (V₀ m c),
      unscopedSems0_eq]
    unfold bundle
    iintro ⟨Hh, Hus, HO, Hcr, Hp, HG⟩
    ihave Hc := (creds (F := F) c) $$ Hcr
    isplitr [Hus HG]
    · isplitl [Hh]; · iexact Hh
      isplitl [Hc]; · iexact Hc
      isplitl [HO]; · iexact HO
      iexists (ρ c); iexact Hp
    isplitl [Hus] <;> iassumption
  have hv : bigSep Finset.univ (fun c : Dev nD => (semVal (cBr c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cBr c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun pi => Sev (fun g => (openTok ER g : sProp 𝕄)) c pi) :=
    Entails.of_eq (by
      rw [bigSep_map, bigSep_univ_prod]
      exact bigSep_congr fun c _ => sev_eq (fun g => openTok ER g) c)
  have hall : (bigSep Finset.univ fun c : Dev nD => iprop(unscopedBufs c (fun b => m ((c : Thread nD τ).loc b)) ∗ unscopedSems0 c
          ∗ owes (c : Thread nD τ) (due c) ∅ ∗ Pipeline.launchCred due c ∗ prngReg c (ρ c) ∗ G c))
      ⊢ iprop((bigSep Finset.univ fun c : Dev nD => bundle m c) ∗ ((bigSep Finset.univ fun c : Dev nD => semVal (cBr c) 0) ∗ bigSep Finset.univ (G (F := F))) : sProp 𝕄) := by
    refine (bigSep_mono fun c _ => hcore c).trans ?_
    simp only [bigSep_sep']
    exact BI.Entails.refl _
  have hlin : iprop((bigSep Finset.univ fun c : Dev nD => atPos ER (cBr c) 0 ∅ 0) ∗ (bigSep Finset.univ fun c : Dev nD => bigSep Finset.univ fun pi => Sev (fun g => openTok ER g) c pi)
      ∗ ((bigSep Finset.univ fun c => bigSep Finset.univ fun pi => Spend c pi)
      ∗ bigSep Finset.univ fun c : Dev nD => iprop(dutyTok ER (cBr (leftD c)) 0 false ∗ dutyTok ER (cBr (rightD c)) 0 true)))
      ⊢ bigSep Finset.univ fun c : Dev nD => (linear c : sProp 𝕄) := by
    unfold linear
    simp only [bigSep_sep']
    exact BI.Entails.refl _
  iintro ⟨H, -⟩
  ihave H := hall $$ H
  icases H with ⟨HB, Hv, HG⟩
  ihave Hu := (Entails.of_eq (bigSep_G (F := F))) $$ HG
  imod (Rounds.fund_launch ER (ringRd (parts m)) disjoint_cells (fun g _ h => h) (ringToks ∪ barToks)) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply (zip (fun c : Dev nD => linear c) (fun c : Dev nD => bundle m c))
  isplitr [HB]
  · iapply hlin
    isplitl [Hat]; · iapply hat $$ Hat
    isplitl [Hopen]; · iapply hopen $$ Hopen
    iapply (deal (F := F)); iexact Htok
  · iexact HB

theorem unscoped_eq : ∀ sm : SemLoc sig, sm.isScoped .tc = false → sm = .reg bar := by decide

set_option backward.isDefEq.respectTransparency.types false in
/-- THE RUN: from any memory with zero counters, every weakly fair execution of the program on the four devices
    terminates, and every final state has the arguments unchanged, the result at every device the fold of the
    four partial products, and every semaphore counter of the machine at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = outV (parts m)) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := due) (hL := L_of_ne) (G := G) (u₀ := u₀)
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := by
      refine ⟨fun c => .rfl, fun c => reg_pre m c, fun c => (reg_post m c).trans ?_⟩
      show iprop(StableHlo.held (c : Thread nD τ) bufs (V₂ m c)
          ∗ (semVal (cBr c) 0 ∗ ∃ W, owes (c : Thread nD τ) (0 : CellTallies nD τ sig ℕ) W))
        ⊢ iprop(Tₙ m c ∗ ∃ W, owes (c : Thread nD τ) (0 : CellTallies nD τ sig ℕ) W)
      iintro ⟨Hh, Hb0, HO⟩
      isplitr [HO]
      · isplitl [Hh] <;> iassumption
      · iexact HO)
    (hinit := init m ρ)
    (QY := fun c s => (s.mem ((c : Thread nD τ).loc main_arg0) = V₂ m c main_arg0 ∧ s.mem ((c : Thread nD τ).loc main_arg1) = V₂ m c main_arg1
        ∧ s.mem ((c : Thread nD τ).loc main_v2) = V₂ m c main_v2)
      ∧ s.sem (cBr c) = 0)
    (hfin := fun c s' => by
      dsimp only [Tₙ]; rw [bufs_eq]
      iintro ⟨⟨⟨H0, H1, -, H2⟩, Hb0⟩, HSI⟩
      icombine HSI H0 gives %h0
      icombine HSI H1 gives %h1
      icombine HSI H2 gives %h2
      icombine HSI Hb0 gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        rw [V₂_arg0, V₁_arg0] at h0; rw [V₂_arg1, V₁_arg1] at h1; rw [V₂_v2] at h2
        exact ⟨h0, h1, h2⟩,
      sem_eq_zero hs fun c sm hsm => by
        obtain rfl := unscoped_eq sm hsm
        exact (h c).2⟩)

end Cert.Ring
-- ==== Proof.lean ====
/-
  The claims, put together: the kernel's frame and its idealization's are one run, the reference's is its host
  program's, and the two results are equal by Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_small_KernelIdeal
public import proofs.«01_k».proof.Proof.Gen.Pre_small_ReferenceIdeal
public import proofs.«01_k».proof.Proof.Value
public import proofs.«01_k».proof.Proof.Main
public import Idealize.ShloMosaic.Adequacy
public import Idealize.ShloMosaic.Init

@[expose] public section

noncomputable section

namespace Cert.Proof

open Idealize.ShloMosaic Idealize.SL.Sem Cert.Kernel

/-- The kernel as printed and its idealization are one program text, so one run, read at either float values. -/
theorem frame_kernel : Cert.quiescent_Kernel := fun m ρ _ =>
  (θ_run Cert.KernelIdeal.defs _ _).mono (fun _ h => ⟨fun c => ⟨(h.1 c).1, (h.1 c).2.1⟩, h.2⟩) (Cert.Ring.run_main (F := Bits) m ρ)

theorem frame_ideal : Cert.quiescent_KernelIdeal := fun m ρ _ =>
  (θ_run Cert.KernelIdeal.defs _ _).mono (fun _ h => ⟨fun c => ⟨(h.1 c).1, (h.1 c).2.1⟩, h.2⟩) (Cert.Ring.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's. -/
theorem algebraic : Cert.algebraic_KernelIdeal_ReferenceIdeal_pre_small_KernelIdeal := fun m g m' g' hsmall hargs =>
  have e := Cert.Ring.outV_eq m hsmall _ _ (fun c => (hargs c).1) fun c => (hargs c).2
  ⟨_, (θ_run Cert.KernelIdeal.defs _ _).mono (fun _ h c => ⟨(h.1 c).2.2.trans e, (h.1 c).1, (h.1 c).2.1⟩)
      (Cert.Ring.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  Cert.Pre_small_KernelIdeal.Gen.facts, Cert.Pre_small_ReferenceIdeal.Gen.facts,
  frame_kernel, frame_ideal, fun m ρ _ => frame_ideal m ρ trivial, frame_reference, fun m ρ _ => frame_reference m ρ trivial,
  trivial, algebraic⟩

end Cert.Proof

end
